-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v93_1)) (v2 : (c : Dev Cert.KernelIdeal.nD) → Buf (Elt Ideal) ((c.tc : Thread Cert.KernelIdeal.nD Cert.KernelIdeal.τ).loc Cert.KernelIdeal.main_v93_2)) (v3 : (c : Dev Cert.KernelIdeal.nD) → Buf (Elt Ideal) ((c.tc : Thread Cert.KernelIdeal.nD Cert.KernelIdeal.τ).loc Cert.KernelIdeal.main_v93_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v93_1) = v1 c
          ∧ r.2.mem ((c.tc : Thread Cert.KernelIdeal.nD Cert.KernelIdeal.τ).loc Cert.KernelIdeal.main_v93_2) = v2 c
          ∧ r.2.mem ((c.tc : Thread Cert.KernelIdeal.nD Cert.KernelIdeal.τ).loc Cert.KernelIdeal.main_v93_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_v233) = v1 c
          ∧ r.2.mem ((c.tc : Thread Cert.ReferenceIdeal.nD Cert.ReferenceIdeal.τ).loc Cert.ReferenceIdeal.main_v236) = v2 c
          ∧ r.2.mem ((c.tc : Thread Cert.ReferenceIdeal.nD Cert.ReferenceIdeal.τ).loc Cert.ReferenceIdeal.main_v240) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x3584 : Shape := ⟨2, ![4096, 3584]⟩
abbrev S4096x2048 : Shape := ⟨2, ![4096, 2048]⟩
abbrev S8 : Shape := ⟨1, ![8]⟩
abbrev S4096x1536 : Shape := ⟨2, ![4096, 1536]⟩
abbrev S_ : Shape := ⟨0, ![]⟩
abbrev S4096x1024 : Shape := ⟨2, ![4096, 1024]⟩

class Facts : Prop where
  slices_S4096x3584_S4096x1536_0_0 : S4096x3584.Slices ![0, 0] S4096x1536
  bitsLt_bf16_f32 : FTy.bits .bf16 < FTy.bits .f32
  bcast_S_S4096x1536 : S_.BroadcastsInDim S4096x1536 (![] : Fin 0 → Fin S4096x1536.rank)
  slices_S4096x2048_S4096x1024_0_0 : S4096x2048.Slices ![0, 0] S4096x1024
  bcast_S_S4096x1024 : S_.BroadcastsInDim S4096x1024 (![] : Fin 0 → Fin S4096x1024.rank)
  bcast_S_S8 : S_.BroadcastsInDim S8 (![] : Fin 0 → Fin S8.rank)

variable [Facts]

def fn {F : FTy → Type} [FloatOps F] (main_arg0 : FVec F S4096x3584 .bf16) (main_arg1 : FVec F S4096x2048 .bf16) (main_arg2 : FVec F S8 .f32) : IVec S4096x1536 1 × IVec S4096x1024 1 × IVec S8 1 :=
  let main_v0 : FVec F S4096x1536 .bf16 := (extractStridedSlice S4096x1536 ![0, 0] · slices_S4096x3584_S4096x1536_0_0) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_v5 : FVec F S4096x1024 .bf16 := (extractStridedSlice S4096x1024 ![0, 0] · slices_S4096x2048_S4096x1024_0_0) main_arg1
  let main_v6 : FVec F S4096x1024 .f32 := (extf .f32 · bitsLt_bf16_f32) main_v5
  let main_v7 : FVec F S4096x1024 .f32 := Host.absf main_v6
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_v10 : FVec F S8 .f32 := Host.absf main_arg2
  let main_cst_1 : FVec F S_ .f32 := constant S_ .f32 0x7F800000#32
  let main_v11 : FVec F S8 .f32 := broadcastInDim S8 ![] bcast_S_S8 main_cst_1
  let main_v12 : IVec S8 1 := cmpf .olt main_v10 main_v11
  (main_v4, main_v9, main_v12)
-- ==== Pre_finite3.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .f32) (main_arg2 : FVec F S4096x5632 .bf16) (main_arg3 : FVec F S4096x5632 .bf16) : IVec S4096x2048 1 × IVec S5632x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_v7 : FVec F S4096x5632 .f32 := (extf .f32 · bitsLt_bf16_f32) main_arg3
  let main_v8 : FVec F S4096x5632 .f32 := Host.absf main_v7
  let main_cst_1 : FVec F S_ .f32 := constant S_ .f32 0x7F800000#32
  let main_v9 : FVec F S4096x5632 .f32 := broadcastInDim S4096x5632 ![] bcast_S_S4096x5632 main_cst_1
  let main_v10 : IVec S4096x5632 1 := cmpf .olt main_v8 main_v9
  (main_v3, main_v6, main_v10)
-- ==== Kernel.lean ====
abbrev S4096x3584 : Shape := ⟨2, ![4096, 3584]⟩
abbrev S4096x2048 : Shape := ⟨2, ![4096, 2048]⟩
abbrev S8 : Shape := ⟨1, ![8]⟩
abbrev S4096x1024 : Shape := ⟨2, ![4096, 1024]⟩
abbrev S1x4096x8x128 : Shape := ⟨4, ![1, 4096, 8, 128]⟩
abbrev S4096x256 : Shape := ⟨2, ![4096, 256]⟩
abbrev S1x4096x2x128 : Shape := ⟨4, ![1, 4096, 2, 128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x8x16 : Shape := ⟨4, ![1, 4096, 8, 16]⟩
abbrev S1x4096x1x16 : Shape := ⟨4, ![1, 4096, 1, 16]⟩
abbrev S1x4096x8x32 : Shape := ⟨4, ![1, 4096, 8, 32]⟩
abbrev S1x4096x8x96 : Shape := ⟨4, ![1, 4096, 8, 96]⟩
abbrev S1x4096x2x16 : Shape := ⟨4, ![1, 4096, 2, 16]⟩
abbrev S1x4096x2x32 : Shape := ⟨4, ![1, 4096, 2, 32]⟩
abbrev S1x4096x2x96 : Shape := ⟨4, ![1, 4096, 2, 96]⟩
abbrev S4096x2304 : Shape := ⟨2, ![4096, 2304]⟩
abbrev S4096x96 : Shape := ⟨2, ![4096, 96]⟩
abbrev S4096x128 : Shape := ⟨2, ![4096, 128]⟩
abbrev S4096x112 : Shape := ⟨2, ![4096, 112]⟩
abbrev S2x5120x128 : Shape := ⟨3, ![2, 5120, 128]⟩
abbrev S2x8x128 : Shape := ⟨3, ![2, 8, 128]⟩
abbrev S128x512 : Shape := ⟨2, ![128, 512]⟩
abbrev S128x128 : Shape := ⟨2, ![128, 128]⟩
abbrev S1x5120x128 : Shape := ⟨3, ![1, 5120, 128]⟩
abbrev S1x8x128 : Shape := ⟨3, ![1, 8, 128]⟩
abbrev S5120x128 : Shape := ⟨2, ![5120, 128]⟩
abbrev S8x128 : Shape := ⟨2, ![8, 128]⟩
abbrev S384x128 : Shape := ⟨2, ![384, 128]⟩
abbrev S512x128 : Shape := ⟨2, ![512, 128]⟩
abbrev S512x384 : Shape := ⟨2, ![512, 384]⟩
abbrev S512x1 : Shape := ⟨2, ![512, 1]⟩
abbrev S1 : Shape := ⟨1, ![1]⟩
abbrev S512 : Shape := ⟨1, ![512]⟩
abbrev S1x1x128 : Shape := ⟨3, ![1, 1, 128]⟩
abbrev S1x128 : Shape := ⟨2, ![1, 128]⟩
abbrev S128x1 : Shape := ⟨2, ![128, 1]⟩
abbrev S1x1 : Shape := ⟨2, ![1, 1]⟩
abbrev S1x384x128 : Shape := ⟨3, ![1, 384, 128]⟩

abbrev nBuf : Space → Nat
  | .hbm => 112
  | .vmem => 30
  | .smem => 1
  | _ => 0

abbrev bufTy : (tb : Table) → Fin (tcTables nBuf tb) → BufTy
  | .hbm, ⟨0, _⟩ => ⟨S4096x3584, .bf16⟩
  | .hbm, ⟨1, _⟩ => ⟨S4096x2048, .bf16⟩
  | .hbm, ⟨2, _⟩ => ⟨S8, .f32⟩
  | .hbm, ⟨3, _⟩ => ⟨S4096x1024, .bf16⟩
  | .hbm, ⟨4, _⟩ => ⟨S4096x1024, .f32⟩
  | .hbm, ⟨5, _⟩ => ⟨S1x4096x8x128, .f32⟩
  | .hbm, ⟨6, _⟩ => ⟨S4096x256, .bf16⟩
  | .hbm, ⟨7, _⟩ => ⟨S4096x256, .f32⟩
  | .hbm, ⟨8, _⟩ => ⟨S1x4096x2x128, .f32⟩
  | .hbm, ⟨9, _⟩ => ⟨S4096x256, .bf16⟩
  | .hbm, ⟨10, _⟩ => ⟨S4096x256, .f32⟩
  | .hbm, ⟨11, _⟩ => ⟨S1x4096x2x128, .f32⟩
  | .hbm, ⟨12, _⟩ => ⟨S4096, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S4096x1, .f32⟩
  | .hbm, ⟨28, _⟩ => ⟨S1x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S1x4096x8x16, .f32⟩
  | .hbm, ⟨35, _⟩ => ⟨S1x4096x8x16, .f32⟩
  | .hbm, ⟨36, _⟩ => ⟨S1x4096x1x16, .f32⟩
  | .hbm, ⟨37, _⟩ => ⟨S1x4096x1x16, .f32⟩
  | .hbm, ⟨38, _⟩ => ⟨S1x4096x8x16, .f32⟩
  | .hbm, ⟨39, _⟩ => ⟨S1x4096x8x16, .f32⟩
  | .hbm, ⟨40, _⟩ => ⟨S1x4096x8x16, .f32⟩
  | .hbm, ⟨41, _⟩ => ⟨S1x4096x8x16, .f32⟩
  | .hbm, ⟨42, _⟩ => ⟨S1x4096x8x16, .f32⟩
  | .hbm, ⟨43, _⟩ => ⟨S1x4096x8x16, .f32⟩
  | .hbm, ⟨44, _⟩ => ⟨S1x4096x8x16, .f32⟩
  | .hbm, ⟨45, _⟩ => ⟨S1x4096x8x16, .f32⟩
  | .hbm, ⟨46, _⟩ => ⟨S1x4096x8x16, .f32⟩
  | .hbm, ⟨47, _⟩ => ⟨S1x4096x8x16, .f32⟩
  | .hbm, ⟨48, _⟩ => ⟨S1x4096x8x32, .f32⟩
  | .hbm, ⟨49, _⟩ => ⟨S1x4096x8x96, .f32⟩
  | .hbm, ⟨50, _⟩ => ⟨S1x4096x8x128, .f32⟩
  | .hbm, ⟨51, _⟩ => ⟨S4096x1024, .f32⟩
  | .hbm, ⟨52, _⟩ => ⟨S1x4096x2x16, .f32⟩
  | .hbm, ⟨53, _⟩ => ⟨S1x4096x2x16, .f32⟩
  | .hbm, ⟨54, _⟩ => ⟨S1x4096x1x16, .f32⟩
  | .hbm, ⟨55, _⟩ => ⟨S1x4096x1x16, .f32⟩
  | .hbm, ⟨56, _⟩ => ⟨S1x4096x2x16, .f32⟩
  | .hbm, ⟨57, _⟩ => ⟨S1x4096x2x16, .f32⟩
  | .hbm, ⟨58, _⟩ => ⟨S1x4096x2x16, .f32⟩
  | .hbm, ⟨59, _⟩ => ⟨S1x4096x2x16, .f32⟩
  | .hbm, ⟨60, _⟩ => ⟨S1x4096x2x16, .f32⟩
  | .hbm, ⟨61, _⟩ => ⟨S1x4096x2x16, .f32⟩
  | .hbm, ⟨62, _⟩ => ⟨S1x4096x2x16, .f32⟩
  | .hbm, ⟨63, _⟩ => ⟨S1x4096x2x16, .f32⟩
  | .hbm, ⟨64, _⟩ => ⟨S1x4096x2x16, .f32⟩
  | .hbm, ⟨65, _⟩ => ⟨S1x4096x2x16, .f32⟩
  | .hbm, ⟨66, _⟩ => ⟨S1x4096x2x32, .f32⟩
  | .hbm, ⟨67, _⟩ => ⟨S1x4096x2x96, .f32⟩
  | .hbm, ⟨68, _⟩ => ⟨S1x4096x2x128, .f32⟩
  | .hbm, ⟨69, _⟩ => ⟨S4096x256, .f32⟩
  | .hbm, ⟨70, _⟩ => ⟨S4096x1024, .bf16⟩
  | .hbm, ⟨71, _⟩ => ⟨S4096x256, .bf16⟩
  | .hbm, ⟨72, _⟩ => ⟨S4096x2304, .bf16⟩
  | .hbm, ⟨73, _⟩ => ⟨S4096x3584, .bf16⟩
  | .hbm, ⟨74, _⟩ => ⟨S4096, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S16, .f32⟩
  | .hbm, ⟨83, _⟩ => ⟨S_, .f32⟩
  | .hbm, ⟨84, _⟩ => ⟨S16, .f32⟩
  | .hbm, ⟨85, _⟩ => ⟨S16, .f32⟩
  | .hbm, ⟨86, _⟩ => ⟨S_, .f32⟩
  | .hbm, ⟨87, _⟩ => ⟨S16, .f32⟩
  | .hbm, ⟨88, _⟩ => ⟨S16, .f32⟩
  | .hbm, ⟨89, _⟩ => ⟨S4096x1, .f32⟩
  | .hbm, ⟨90, _⟩ => ⟨S1x16, .f32⟩
  | .hbm, ⟨91, _⟩ => ⟨S4096x16, .f32⟩
  | .hbm, ⟨92, _⟩ => ⟨S4096x16, .f32⟩
  | .hbm, ⟨93, _⟩ => ⟨S4096x16, .f32⟩
  | .hbm, ⟨94, _⟩ => ⟨S4096x16, .f32⟩
  | .hbm, ⟨95, _⟩ => ⟨S4096x16, .f32⟩
  | .hbm, ⟨96, _⟩ => ⟨S_, .f32⟩
  | .hbm, ⟨97, _⟩ => ⟨S4096x96, .f32⟩
  | .hbm, ⟨98, _⟩ => ⟨S4096x128, .f32⟩
  | .hbm, ⟨99, _⟩ => ⟨S4096x16, .f32⟩
  | .hbm, ⟨100, _⟩ => ⟨S_, .f32⟩
  | .hbm, ⟨101, _⟩ => ⟨S4096x112, .f32⟩
  | .hbm, ⟨102, _⟩ => ⟨S4096x128, .f32⟩
  | .hbm, ⟨103, _⟩ => ⟨S_, .f32⟩
  | .hbm, ⟨104, _⟩ => ⟨S4096x16, .f32⟩
  | .hbm, ⟨105, _⟩ => ⟨S_, .f32⟩
  | .hbm, ⟨106, _⟩ => ⟨S4096x96, .f32⟩
  | .hbm, ⟨107, _⟩ => ⟨S4096x128, .f32⟩
  | .hbm, ⟨108, _⟩ => ⟨S4096x1024, .bf16⟩
  | .hbm, ⟨109, _⟩ => ⟨S2x5120x128, .f32⟩
  | .hbm, ⟨110, _⟩ => ⟨S2x5120x128, .f32⟩
  | .hbm, ⟨111, _⟩ => ⟨S2x8x128, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x512, .bf16⟩
  | .local _ .vmem, ⟨15, _⟩ => ⟨S128x512, .bf16⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x512, .bf16⟩
  | .local _ .vmem, ⟨23, _⟩ => ⟨S128x512, .bf16⟩
  | .local _ .vmem, ⟨24, _⟩ => ⟨S1x5120x128, .f32⟩
  | .local _ .vmem, ⟨25, _⟩ => ⟨S1x5120x128, .f32⟩
  | .local _ .vmem, ⟨26, _⟩ => ⟨S1x5120x128, .f32⟩
  | .local _ .vmem, ⟨27, _⟩ => ⟨S1x5120x128, .f32⟩
  | .local _ .vmem, ⟨28, _⟩ => ⟨S1x8x128, .f32⟩
  | .local _ .vmem, ⟨29, _⟩ => ⟨S1x8x128, .f32⟩
  | .local _ .smem, ⟨0, _⟩ => ⟨S8, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_cst_3 : Ref sig .tc := ⟨.hbm, 76, rfl⟩
abbrev main_v69 : Ref sig .tc := ⟨.hbm, 77, rfl⟩
abbrev main_v70 : Ref sig .tc := ⟨.hbm, 78, rfl⟩
abbrev main_cst_4 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_v75 : Ref sig .tc := ⟨.hbm, 85, rfl⟩
abbrev main_cst_6 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_7 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_8 : Ref sig .tc := ⟨.hbm, 100, rfl⟩
abbrev main_v88 : Ref sig .tc := ⟨.hbm, 101, rfl⟩
abbrev main_v89 : Ref sig .tc := ⟨.hbm, 102, rfl⟩
abbrev main_cst_9 : Ref sig .tc := ⟨.hbm, 103, rfl⟩
abbrev main_v90 : Ref sig .tc := ⟨.hbm, 104, rfl⟩
abbrev main_cst_10 : Ref sig .tc := ⟨.hbm, 105, rfl⟩
abbrev main_v91 : Ref sig .tc := ⟨.hbm, 106, rfl⟩
abbrev main_v92 : Ref sig .tc := ⟨.hbm, 107, rfl⟩
abbrev main_v93_0 : Ref sig .tc := ⟨.hbm, 108, rfl⟩
abbrev main_v93_1 : Ref sig .tc := ⟨.hbm, 109, rfl⟩
abbrev main_v93_2 : Ref sig .tc := ⟨.hbm, 110, rfl⟩
abbrev main_v93_3 : Ref sig .tc := ⟨.hbm, 111, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![2, 32], ![false, false]⟩

def k0_off1 (i : grid0.Coords) : Fin 1 → Nat :=
  let arg0 : BitVec 32 := BitVec.ofNat 32 (i 0).val
  let c4_i32 : BitVec 32 := 4#32
  let v77 : BitVec 32 := Scalar.muli arg0 c4_i32
  let v78 : Index := Scalar.indexCast v77
  ![v78.toNat]
def k0_off2 (i : grid0.Coords) (c1_i32_37 : BitVec 32) : Fin 1 → Nat :=
  let arg0 : BitVec 32 := BitVec.ofNat 32 (i 0).val
  let c4_i32_36 : BitVec 32 := 4#32
  let v83 : BitVec 32 := Scalar.muli arg0 c4_i32_36
  let v84 : BitVec 32 := Scalar.addi v83 c1_i32_37
  let v85 : Index := Scalar.indexCast v84
  ![v85.toNat]
def k0_mult1 (i : grid0.Coords) : BitVec 32 :=
  let arg1 : BitVec 32 := BitVec.ofNat 32 (i 1).val
  let c128_i32_114 : BitVec 32 := 128#32
  let v246 : BitVec 32 := Scalar.muli arg1 c128_i32_114
  let c384_i32 : BitVec 32 := 384#32
  let v247 : BitVec 32 := Scalar.addi v246 c384_i32
  v247
def k0_off3 (i : grid0.Coords) : Fin 3 → Nat :=
  let c0_115 : Index := 0#32
  let arg1 : BitVec 32 := BitVec.ofNat 32 (i 1).val
  let c128_i32_114 : BitVec 32 := 128#32
  let v246 : BitVec 32 := Scalar.muli arg1 c128_i32_114
  let c384_i32 : BitVec 32 := 384#32
  let v247 : BitVec 32 := Scalar.addi v246 c384_i32
  let v248 : BitVec 32 := v247
  let v249 : Index := Scalar.indexCast v248
  let c0_116 : Index := 0#32
  ![0, v249.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c31_i32 : BitVec 32 := 31#32
  let v1 : BitVec 32 := Scalar.maxsi c0_i32 v0
  let v2 : BitVec 32 := Scalar.minsi c31_i32 v1
  let c8_i32 : BitVec 32 := 8#32
  let v3 : BitVec 32 := Scalar.addi c8_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c31_i32 : BitVec 32 := 31#32
  let v1 : BitVec 32 := Scalar.maxsi c0_i32_0 v0
  let v2 : BitVec 32 := Scalar.minsi c31_i32 v1
  let c8_i32 : BitVec 32 := 8#32
  let v3 : BitVec 32 := Scalar.addi c8_i32 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c31_i32 : BitVec 32 := 31#32
  let v1 : BitVec 32 := Scalar.maxsi c0_i32 v0
  let v2 : BitVec 32 := Scalar.minsi c31_i32 v1
  let c8_i32 : BitVec 32 := 8#32
  let v3 : BitVec 32 := Scalar.addi c8_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c31_i32 : BitVec 32 := 31#32
  let v1 : BitVec 32 := Scalar.maxsi c0_i32 v0
  let v2 : BitVec 32 := Scalar.minsi c31_i32 v1
  let c10_i32 : BitVec 32 := 10#32
  let v3 : BitVec 32 := Scalar.addi c10_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c31_i32 : BitVec 32 := 31#32
  let v1 : BitVec 32 := Scalar.maxsi c0_i32_0 v0
  let v2 : BitVec 32 := Scalar.minsi c31_i32 v1
  let c10_i32 : BitVec 32 := 10#32
  let v3 : BitVec 32 := Scalar.addi c10_i32 arg0
  let c0_i32_1 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c31_i32 : BitVec 32 := 31#32
  let v1 : BitVec 32 := Scalar.maxsi c0_i32 v0
  let v2 : BitVec 32 := Scalar.minsi c31_i32 v1
  let c10_i32 : BitVec 32 := 10#32
  let v3 : BitVec 32 := Scalar.addi c10_i32 arg0
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x5120x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x5120x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S4096x3584 : Shape := ⟨2, ![4096, 3584]⟩
abbrev S4096x2048 : Shape := ⟨2, ![4096, 2048]⟩
abbrev S8 : Shape := ⟨1, ![8]⟩
abbrev S4096x1024 : Shape := ⟨2, ![4096, 1024]⟩
abbrev S1x4096x8x128 : Shape := ⟨4, ![1, 4096, 8, 128]⟩
abbrev S4096x256 : Shape := ⟨2, ![4096, 256]⟩
abbrev S1x4096x2x128 : Shape := ⟨4, ![1, 4096, 2, 128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x2x16 : Shape := ⟨4, ![1, 4096, 2, 16]⟩
abbrev S1x4096x1x16 : Shape := ⟨4, ![1, 4096, 1, 16]⟩
abbrev S1x4096x2x32 : Shape := ⟨4, ![1, 4096, 2, 32]⟩
abbrev S1x4096x2x96 : Shape := ⟨4, ![1, 4096, 2, 96]⟩
abbrev S1x4096x8x16 : Shape := ⟨4, ![1, 4096, 8, 16]⟩
abbrev S1x4096x8x32 : Shape := ⟨4, ![1, 4096, 8, 32]⟩
abbrev S1x4096x8x96 : Shape := ⟨4, ![1, 4096, 8, 96]⟩
abbrev S1x128x2x128 : Shape := ⟨4, ![1, 128, 2, 128]⟩
abbrev S1x4352x2x128 : Shape := ⟨4, ![1, 4352, 2, 128]⟩
abbrev S1x34x128x2x128 : Shape := ⟨5, ![1, 34, 128, 2, 128]⟩
abbrev S1x32x128x2x128 : Shape := ⟨5, ![1, 32, 128, 2, 128]⟩
abbrev S1x32x384x2x128 : Shape := ⟨5, ![1, 32, 384, 2, 128]⟩
abbrev S1x32x128x2x4x128 : Shape := ⟨6, ![1, 32, 128, 2, 4, 128]⟩
abbrev S1x32x2x384x128x4 : Shape := ⟨6, ![1, 32, 2, 384, 128, 4]⟩
abbrev S1x32x2x4x128x384 : Shape := ⟨6, ![1, 32, 2, 4, 128, 384]⟩
abbrev S32x128 : Shape := ⟨2, ![32, 128]⟩
abbrev S32 : Shape := ⟨1, ![32]⟩
abbrev S32x1 : Shape := ⟨2, ![32, 1]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S1x1x2x4x1x1 : Shape := ⟨6, ![1, 1, 2, 4, 1, 1]⟩
abbrev S1x32x2x4x128x1 : Shape := ⟨6, ![1, 32, 2, 4, 128, 1]⟩
abbrev S1x32x2x4x128x385 : Shape := ⟨6, ![1, 32, 2, 4, 128, 385]⟩
abbrev S1x32x2x4x128 : Shape := ⟨5, ![1, 32, 2, 4, 128]⟩
abbrev S1x32x2x128x4x128 : Shape := ⟨6, ![1, 32, 2, 128, 4, 128]⟩
abbrev S1x4096x1024 : Shape := ⟨3, ![1, 4096, 1024]⟩
abbrev S1x32x2x128x384 : Shape := ⟨5, ![1, 32, 2, 128, 384]⟩
abbrev S32x2x4x128 : Shape := ⟨4, ![32, 2, 4, 128]⟩
abbrev S2x4 : Shape := ⟨2, ![2, 4]⟩
abbrev S1x32x2x384x128 : Shape := ⟨5, ![1, 32, 2, 384, 128]⟩
abbrev S2x512x128 : Shape := ⟨3, ![2, 512, 128]⟩
abbrev S4096x2x128 : Shape := ⟨3, ![4096, 2, 128]⟩
abbrev S2x4096x128 : Shape := ⟨3, ![2, 4096, 128]⟩
abbrev S2x5120x128 : Shape := ⟨3, ![2, 5120, 128]⟩
abbrev S2x4x1 : Shape := ⟨3, ![2, 4, 1]⟩
abbrev S2x4x128 : Shape := ⟨3, ![2, 4, 128]⟩
abbrev S2x8x128 : Shape := ⟨3, ![2, 8, 128]⟩

abbrev nBuf : Space → Nat
  | .hbm => 295
  | .vmem => 0
  | .smem => 0
  | _ => 0

abbrev hbmTy0_0 (i : Nat) : BufTy := match i % 128 with
  | 0 => ⟨S4096x3584, .bf16⟩
  | 1 => ⟨S4096x2048, .bf16⟩
  | 2 => ⟨S8, .f32⟩
  | 3 => ⟨S4096x1024, .bf16⟩
  | 4 => ⟨S4096x1024, .f32⟩
  | 5 => ⟨S1x4096x8x128, .f32⟩
  | 6 => ⟨S4096x256, .bf16⟩
  | 7 => ⟨S4096x256, .f32⟩
  | 8 => ⟨S1x4096x2x128, .f32⟩
  | 9 => ⟨S4096x256, .bf16⟩
  | 10 => ⟨S4096x256, .f32⟩
  | 11 => ⟨S1x4096x2x128, .f32⟩
  | 12 => ⟨S4096, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x16, .f32⟩
  | 33 => ⟨S4096x16, .f32⟩
  | 34 => ⟨S1x4096x2x16, .f32⟩
  | 35 => ⟨S1x4096x2x16, .f32⟩
  | 36 => ⟨S1x4096x1x16, .f32⟩
  | 37 => ⟨S1x4096x1x16, .f32⟩
  | 38 => ⟨S1x4096x2x16, .f32⟩
  | 39 => ⟨S1x4096x2x16, .f32⟩
  | 40 => ⟨S1x4096x2x16, .f32⟩
  | 41 => ⟨S1x4096x2x16, .f32⟩
  | 42 => ⟨S1x4096x2x16, .f32⟩
  | 43 => ⟨S1x4096x2x16, .f32⟩
  | 44 => ⟨S1x4096x2x16, .f32⟩
  | 45 => ⟨S1x4096x2x16, .f32⟩
  | 46 => ⟨S1x4096x2x16, .f32⟩
  | 47 => ⟨S1x4096x2x16, .f32⟩
  | 48 => ⟨S1x4096x2x32, .f32⟩
  | 49 => ⟨S1x4096x2x96, .f32⟩
  | 50 => ⟨S1x4096x2x128, .f32⟩
  | 51 => ⟨S1x4096x8x16, .f32⟩
  | 52 => ⟨S1x4096x8x16, .f32⟩
  | 53 => ⟨S1x4096x1x16, .f32⟩
  | 54 => ⟨S1x4096x1x16, .f32⟩
  | 55 => ⟨S1x4096x8x16, .f32⟩
  | 56 => ⟨S1x4096x8x16, .f32⟩
  | 57 => ⟨S1x4096x8x16, .f32⟩
  | 58 => ⟨S1x4096x8x16, .f32⟩
  | 59 => ⟨S1x4096x8x16, .f32⟩
  | 60 => ⟨S1x4096x8x16, .f32⟩
  | 61 => ⟨S1x4096x8x16, .f32⟩
  | 62 => ⟨S1x4096x8x16, .f32⟩
  | 63 => ⟨S1x4096x8x16, .f32⟩
  | 64 => ⟨S1x4096x8x16, .f32⟩
  | 65 => ⟨S1x4096x8x32, .f32⟩
  | 66 => ⟨S1x4096x8x96, .f32⟩
  | 67 => ⟨S1x4096x8x128, .f32⟩
  | 68 => ⟨S_, .f32⟩
  | 69 => ⟨S1x128x2x128, .f32⟩
  | 70 => ⟨S1x4352x2x128, .f32⟩
  | 71 => ⟨S_, .f32⟩
  | 72 => ⟨S1x128x2x128, .f32⟩
  | 73 => ⟨S_, .f32⟩
  | 74 => ⟨S1x128x2x128, .f32⟩
  | 75 => ⟨S1x34x128x2x128, .f32⟩
  | 76 => ⟨S1x4352x2x128, .f32⟩
  | 77 => ⟨S_, .f32⟩
  | 78 => ⟨S1x128x2x128, .f32⟩
  | 79 => ⟨S_, .f32⟩
  | 80 => ⟨S1x128x2x128, .f32⟩
  | 81 => ⟨S1x34x128x2x128, .f32⟩
  | 82 => ⟨S1x32x128x2x128, .f32⟩
  | 83 => ⟨S1x32x128x2x128, .f32⟩
  | 84 => ⟨S1x32x128x2x128, .f32⟩
  | 85 => ⟨S1x32x384x2x128, .f32⟩
  | 86 => ⟨S1x32x128x2x128, .f32⟩
  | 87 => ⟨S1x32x128x2x128, .f32⟩
  | 88 => ⟨S1x32x128x2x128, .f32⟩
  | 89 => ⟨S1x32x384x2x128, .f32⟩
  | 90 => ⟨S1x32x128x2x4x128, .f32⟩
  | 91 => ⟨S1x32x2x384x128x4, .f32⟩
  | 92 => ⟨S1x32x2x4x128x384, .f32⟩
  | 93 => ⟨S_, .f32⟩
  | 94 => ⟨S1x32x2x4x128x384, .f32⟩
  | 95 => ⟨S1x32x2x4x128x384, .f32⟩
  | 96 => ⟨S4096, .i32⟩
  | 97 => ⟨S32x128, .i32⟩
  | 98 => ⟨S32, .i32⟩
  | 99 => ⟨S32x1, .i32⟩
  | 100 => ⟨S_, .i32⟩
  | 101 => ⟨S32x1, .i32⟩
  | 102 => ⟨S32x1, .i32⟩
  | 103 => ⟨S_, .i32⟩
  | 104 => ⟨S32x1, .i32⟩
  | 105 => ⟨S32x1, .i32⟩
  | 106 => ⟨S384, .i32⟩
  | 107 => ⟨S1x384, .i32⟩
  | 108 => ⟨S32x384, .i32⟩
  | 109 => ⟨S32x384, .i32⟩
  | 110 => ⟨S32x384, .i32⟩
  | 111 => ⟨S32x1x384, .i32⟩
  | 112 => ⟨S_, .i32⟩
  | 113 => ⟨S32x1x384, .i32⟩
  | 114 => ⟨S32x1x384, .i1⟩
  | 115 => ⟨S32x1x384, .i32⟩
  | 116 => ⟨S_, .i32⟩
  | 117 => ⟨S32x1x384, .i32⟩
  | 118 => ⟨S32x1x384, .i1⟩
  | 119 => ⟨S32x1x384, .i1⟩
  | 120 => ⟨S32x128x1, .i32⟩
  | 121 => ⟨S32x1x384, .i32⟩
  | 122 => ⟨S32x128x384, .i32⟩
  | 123 => ⟨S32x128x384, .i32⟩
  | 124 => ⟨S32x128x384, .i32⟩
  | 125 => ⟨S32x128x384, .i32⟩
  | 126 => ⟨S_, .i32⟩
  | 127 => ⟨S32x128x384, .i32⟩
  | _ => ⟨S4096x3584, .bf16⟩

abbrev hbmTy0_1 (i : Nat) : BufTy := match i % 128 with
  | 0 => ⟨S32x128x384, .i1⟩
  | 1 => ⟨S32x128x384, .i1⟩
  | 2 => ⟨S32x128x384, .i1⟩
  | 3 => ⟨S1x32x1x1x128x384, .i1⟩
  | 4 => ⟨S_, .f32⟩
  | 5 => ⟨S_, .f32⟩
  | 6 => ⟨S1x32x2x4x128x384, .i1⟩
  | 7 => ⟨S1x32x2x4x128x384, .f32⟩
  | 8 => ⟨S1x32x2x4x128x384, .f32⟩
  | 9 => ⟨S_, .f32⟩
  | 10 => ⟨S1x32x2x4x128x384, .f32⟩
  | 11 => ⟨S1x1x2x4x1x1, .f32⟩
  | 12 => ⟨S1x32x2x4x128x1, .f32⟩
  | 13 => ⟨S1x32x2x4x128x385, .f32⟩
  | 14 => ⟨S_, .f32⟩
  | 15 => ⟨S1x32x2x4x128, .f32⟩
  | 16 => ⟨S1x32x2x4x128x1, .f32⟩
  | 17 => ⟨S1x32x2x4x128x385, .f32⟩
  | 18 => ⟨S1x32x2x4x128x385, .i1⟩
  | 19 => ⟨S1x32x2x4x128x385, .f32⟩
  | 20 => ⟨S_, .f32⟩
  | 21 => ⟨S1x32x2x4x128, .f32⟩
  | 22 => ⟨S_, .f32⟩
  | 23 => ⟨S1x32x2x4x128, .f32⟩
  | 24 => ⟨S1x32x2x4x128, .f32⟩
  | 25 => ⟨S_, .f32⟩
  | 26 => ⟨S1x32x2x4x128, .f32⟩
  | 27 => ⟨S1x32x2x4x128, .i1⟩
  | 28 => ⟨S_, .f32⟩
  | 29 => ⟨S1x32x2x4x128, .f32⟩
  | 30 => ⟨S1x32x2x4x128, .i1⟩
  | 31 => ⟨S_, .f32⟩
  | 32 => ⟨S1x32x2x4x128, .f32⟩
  | 33 => ⟨S_, .f32⟩
  | 34 => ⟨S1x32x2x4x128, .f32⟩
  | 35 => ⟨S_, .f32⟩
  | 36 => ⟨S1x32x2x4x128, .f32⟩
  | 37 => ⟨S1x32x2x4x128, .f32⟩
  | 38 => ⟨S1x32x2x4x128, .f32⟩
  | 39 => ⟨S1x32x2x4x128x1, .f32⟩
  | 40 => ⟨S1x32x2x4x128x385, .f32⟩
  | 41 => ⟨S1x32x2x4x128x385, .f32⟩
  | 42 => ⟨S1x32x2x4x128x385, .f32⟩
  | 43 => ⟨S_, .f32⟩
  | 44 => ⟨S1x32x2x4x128, .f32⟩
  | 45 => ⟨S1x32x2x4x128x1, .f32⟩
  | 46 => ⟨S1x32x2x4x128x385, .f32⟩
  | 47 => ⟨S1x32x2x4x128x385, .f32⟩
  | 48 => ⟨S1x32x2x4x128x1, .f32⟩
  | 49 => ⟨S_, .f32⟩
  | 50 => ⟨S1x32x2x4x128x1, .f32⟩
  | 51 => ⟨S1x32x2x4x128x1, .f32⟩
  | 52 => ⟨S1x32x2x4x128x384, .f32⟩
  | 53 => ⟨S1x32x2x128x4x128, .f32⟩
  | 54 => ⟨S1x32x128x2x4x128, .f32⟩
  | 55 => ⟨S1x4096x1024, .f32⟩
  | 56 => ⟨S4096x1024, .bf16⟩
  | 57 => ⟨S1x4096x1024, .bf16⟩
  | 58 => ⟨S1x4096x1024, .f32⟩
  | 59 => ⟨S1x32x128x2x4x128, .f32⟩
  | 60 => ⟨S1x32x2x128x4x128, .f32⟩
  | 61 => ⟨S1x32x2x4x128x384, .f32⟩
  | 62 => ⟨S1x32x2x128x384, .f32⟩
  | 63 => ⟨S1x32x384x2x128, .f32⟩
  | 64 => ⟨S_, .f32⟩
  | 65 => ⟨S1x32x2x4x128x385, .f32⟩
  | 66 => ⟨S1x32x2x4x128x385, .f32⟩
  | 67 => ⟨S1x32x2x4x128x385, .f32⟩
  | 68 => ⟨S1x32x2x4x128x385, .f32⟩
  | 69 => ⟨S_, .f32⟩
  | 70 => ⟨S1x32x2x4x128, .f32⟩
  | 71 => ⟨S1x32x2x4x128x1, .f32⟩
  | 72 => ⟨S1x32x2x4x128x1, .f32⟩
  | 73 => ⟨S1x32x2x4x128x385, .f32⟩
  | 74 => ⟨S1x32x2x4x128x385, .f32⟩
  | 75 => ⟨S_, .f32⟩
  | 76 => ⟨S32x2x4x128, .f32⟩
  | 77 => ⟨S1x32x2x4x128, .f32⟩
  | 78 => ⟨S1x32x2x4x128x385, .f32⟩
  | 79 => ⟨S1x32x2x4x128x385, .f32⟩
  | 80 => ⟨S1x32x2x4x128x385, .f32⟩
  | 81 => ⟨S1x32x2x4x128x384, .f32⟩
  | 82 => ⟨S1x32x2x4x128x1, .f32⟩
  | 83 => ⟨S_, .f32⟩
  | 84 => ⟨S2x4, .f32⟩
  | 85 => ⟨S1x1x2x4x1x1, .f32⟩
  | 86 => ⟨S8, .f32⟩
  | 87 => ⟨S_, .f32⟩
  | 88 => ⟨S1x32x2x4x128x384, .f32⟩
  | 89 => ⟨S1x32x2x4x128x384, .f32⟩
  | 90 => ⟨S_, .f32⟩
  | 91 => ⟨S1x32x2x4x128x384, .f32⟩
  | 92 => ⟨S1x32x2x4x128x384, .f32⟩
  | 93 => ⟨S1x32x2x384x128x4, .f32⟩
  | 94 => ⟨S1x32x2x128x4x128, .f32⟩
  | 95 => ⟨S1x32x128x2x4x128, .f32⟩
  | 96 => ⟨S1x32x2x384x128, .f32⟩
  | 97 => ⟨S1x32x384x2x128, .f32⟩
  | 98 => ⟨S1x4096x8x128, .f32⟩
  | 99 => ⟨S1x32x128x2x128, .f32⟩
  | 100 => ⟨S1x32x128x2x128, .f32⟩
  | 101 => ⟨S1x32x128x2x128, .f32⟩
  | 102 => ⟨S_, .f32⟩
  | 103 => ⟨S1x34x128x2x128, .f32⟩
  | 104 => ⟨S_, .f32⟩
  | 105 => ⟨S1x34x128x2x128, .f32⟩
  | 106 => ⟨S1x34x128x2x128, .f32⟩
  | 107 => ⟨S_, .f32⟩
  | 108 => ⟨S1x34x128x2x128, .f32⟩
  | 109 => ⟨S1x34x128x2x128, .f32⟩
  | 110 => ⟨S1x32x128x2x128, .f32⟩
  | 111 => ⟨S1x32x128x2x128, .f32⟩
  | 112 => ⟨S1x32x128x2x128, .f32⟩
  | 113 => ⟨S_, .f32⟩
  | 114 => ⟨S1x34x128x2x128, .f32⟩
  | 115 => ⟨S_, .f32⟩
  | 116 => ⟨S1x34x128x2x128, .f32⟩
  | 117 => ⟨S1x34x128x2x128, .f32⟩
  | 118 => ⟨S_, .f32⟩
  | 119 => ⟨S1x34x128x2x128, .f32⟩
  | 120 => ⟨S1x34x128x2x128, .f32⟩
  | 121 => ⟨S1x4352x2x128, .f32⟩
  | 122 => ⟨S1x128x2x128, .f32⟩
  | 123 => ⟨S1x4096x2x128, .f32⟩
  | 124 => ⟨S1x128x2x128, .f32⟩
  | 125 => ⟨S1x4352x2x128, .f32⟩
  | 126 => ⟨S1x128x2x128, .f32⟩
  | 127 => ⟨S1x4096x2x128, .f32⟩
  | _ => ⟨S4096x3584, .bf16⟩

abbrev hbmTy0_2 (i : Nat) : BufTy := match i % 128 with
  | 0 => ⟨S1x128x2x128, .f32⟩
  | 1 => ⟨S1x4096x8x32, .f32⟩
  | 2 => ⟨S1x4096x8x96, .f32⟩
  | 3 => ⟨S_, .f32⟩
  | 4 => ⟨S1x4096x8x128, .f32⟩
  | 5 => ⟨S1x4096x8x16, .f32⟩
  | 6 => ⟨S1x4096x8x16, .f32⟩
  | 7 => ⟨S1x4096x8x16, .f32⟩
  | 8 => ⟨S1x4096x8x16, .f32⟩
  | 9 => ⟨S1x4096x8x16, .f32⟩
  | 10 => ⟨S1x4096x8x16, .f32⟩
  | 11 => ⟨S1x4096x8x16, .f32⟩
  | 12 => ⟨S1x4096x8x16, .f32⟩
  | 13 => ⟨S1x4096x8x16, .f32⟩
  | 14 => ⟨S1x4096x8x16, .f32⟩
  | 15 => ⟨S1x4096x8x16, .f32⟩
  | 16 => ⟨S1x4096x8x16, .f32⟩
  | 17 => ⟨S1x4096x8x16, .f32⟩
  | 18 => ⟨S_, .f32⟩
  | 19 => ⟨S1x4096x8x128, .f32⟩
  | 20 => ⟨S1x4096x8x128, .f32⟩
  | 21 => ⟨S_, .f32⟩
  | 22 => ⟨S1x4096x8x128, .f32⟩
  | 23 => ⟨S1x4096x8x128, .f32⟩
  | 24 => ⟨S_, .f32⟩
  | 25 => ⟨S2x512x128, .f32⟩
  | 26 => ⟨S4096x2x128, .f32⟩
  | 27 => ⟨S2x4096x128, .f32⟩
  | 28 => ⟨S2x5120x128, .f32⟩
  | 29 => ⟨S4096x2x128, .f32⟩
  | 30 => ⟨S2x4096x128, .f32⟩
  | 31 => ⟨S2x5120x128, .f32⟩
  | 32 => ⟨S2x4x1, .f32⟩
  | 33 => ⟨S2x4x128, .f32⟩
  | 34 => ⟨S_, .f32⟩
  | 35 => ⟨S2x4x128, .f32⟩
  | 36 => ⟨S2x8x128, .f32⟩
  | 37 => ⟨S4096x1024, .f32⟩
  | 38 => ⟨S4096x1024, .bf16⟩
  | _ => ⟨S4096x3584, .bf16⟩

abbrev hbmTy (i : Nat) : BufTy := match i / 128 with
  | 0 => hbmTy0_0 i
  | 1 => hbmTy0_1 i
  | 2 => hbmTy0_2 i
  | _ => ⟨S4096x3584, .bf16⟩

abbrev bufTy : (tb : Table) → Fin (tcTables nBuf tb) → BufTy
  | .hbm, ⟨i, _⟩ => hbmTy i
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_3 : Ref sig .tc := ⟨.hbm, 68, rfl⟩
abbrev main_v61 : Ref sig .tc := ⟨.hbm, 69, rfl⟩
abbrev main_v62 : Ref sig .tc := ⟨.hbm, 70, rfl⟩
abbrev main_cst_4 : Ref sig .tc := ⟨.hbm, 71, rfl⟩
abbrev main_v63 : Ref sig .tc := ⟨.hbm, 72, rfl⟩
abbrev main_cst_5 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_6 : Ref sig .tc := ⟨.hbm, 77, rfl⟩
abbrev main_v67 : Ref sig .tc := ⟨.hbm, 78, rfl⟩
abbrev main_cst_7 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_8 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_c : Ref sig .tc := ⟨.hbm, 100, rfl⟩
abbrev main_v87 : Ref sig .tc := ⟨.hbm, 101, rfl⟩
abbrev main_v88 : Ref sig .tc := ⟨.hbm, 102, rfl⟩
abbrev main_c_9 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_c_10 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_c_11 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_c_12 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_cst_13 : Ref sig .tc := ⟨.hbm, 132, rfl⟩
abbrev main_call0_v0 : Ref sig .tc := ⟨.hbm, 133, rfl⟩
abbrev main_v114_1 : Ref sig .tc := ⟨.hbm, 134, rfl⟩
abbrev main_call0_v2 : Ref sig .tc := ⟨.hbm, 135, rfl⟩
abbrev main_v114_0 : Ref sig .tc := ⟨.hbm, 136, rfl⟩
abbrev main_call0_cst : Ref sig .tc := ⟨.hbm, 137, rfl⟩
abbrev main_v114_2 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_14 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_15 : Ref sig .tc := ⟨.hbm, 148, rfl⟩
abbrev main_v123 : Ref sig .tc := ⟨.hbm, 149, rfl⟩
abbrev main_cst_16 : Ref sig .tc := ⟨.hbm, 150, rfl⟩
abbrev main_v124 : Ref sig .tc := ⟨.hbm, 151, rfl⟩
abbrev main_v125 : Ref sig .tc := ⟨.hbm, 152, rfl⟩
abbrev main_cst_17 : Ref sig .tc := ⟨.hbm, 153, rfl⟩
abbrev main_v126 : Ref sig .tc := ⟨.hbm, 154, rfl⟩
abbrev main_v127 : Ref sig .tc := ⟨.hbm, 155, rfl⟩
abbrev main_cst_18 : Ref sig .tc := ⟨.hbm, 156, rfl⟩
abbrev main_v128 : Ref sig .tc := ⟨.hbm, 157, rfl⟩
abbrev main_v129 : Ref sig .tc := ⟨.hbm, 158, rfl⟩
abbrev main_cst_19 : Ref sig .tc := ⟨.hbm, 159, rfl⟩
abbrev main_v130 : Ref sig .tc := ⟨.hbm, 160, rfl⟩
abbrev main_cst_20 : Ref sig .tc := ⟨.hbm, 161, rfl⟩
abbrev main_v131 : Ref sig .tc := ⟨.hbm, 162, rfl⟩
abbrev main_cst_21 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_22 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_cst_23 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_24 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_25 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_cst_26 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_cst_27 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_call1_cst : Ref sig .tc := ⟨.hbm, 215, rfl⟩
abbrev main_call1_v0 : Ref sig .tc := ⟨.hbm, 216, rfl⟩
abbrev main_v177 : Ref sig .tc := ⟨.hbm, 217, rfl⟩
abbrev main_cst_28 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_cst_29 : Ref sig .tc := ⟨.hbm, 230, rfl⟩
abbrev main_v189 : Ref sig .tc := ⟨.hbm, 231, rfl⟩
abbrev main_cst_30 : Ref sig .tc := ⟨.hbm, 232, rfl⟩
abbrev main_v190 : Ref sig .tc := ⟨.hbm, 233, rfl⟩
abbrev main_v191 : Ref sig .tc := ⟨.hbm, 234, rfl⟩
abbrev main_cst_31 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_cst_32 : Ref sig .tc := ⟨.hbm, 241, rfl⟩
abbrev main_v197 : Ref sig .tc := ⟨.hbm, 242, rfl⟩
abbrev main_cst_33 : Ref sig .tc := ⟨.hbm, 243, rfl⟩
abbrev main_v198 : Ref sig .tc := ⟨.hbm, 244, rfl⟩
abbrev main_v199 : Ref sig .tc := ⟨.hbm, 245, rfl⟩
abbrev main_cst_34 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_cst_35 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_cst_36 : Ref sig .tc := ⟨.hbm, 274, rfl⟩
abbrev main_v226 : Ref sig .tc := ⟨.hbm, 275, rfl⟩
abbrev main_v227 : Ref sig .tc := ⟨.hbm, 276, rfl⟩
abbrev main_cst_37 : Ref sig .tc := ⟨.hbm, 277, rfl⟩
abbrev main_v228 : Ref sig .tc := ⟨.hbm, 278, rfl⟩
abbrev main_v229 : Ref sig .tc := ⟨.hbm, 279, rfl⟩
abbrev main_cst_38 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_cst_39 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩

abbrev nD : Nat := 1
abbrev τ : Topo := Topo.v7x

variable {F : FTy → Type} [FloatOps F]
-- ==== Kernel2.lean ====
abbrev S2x5120x128 : Shape := ⟨3, ![2, 5120, 128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S4096x256 : Shape := ⟨2, ![4096, 256]⟩
abbrev S1x512x128 : Shape := ⟨3, ![1, 512, 128]⟩
abbrev S512x128 : Shape := ⟨2, ![512, 128]⟩

abbrev nBuf : Space → Nat
  | .hbm => 38
  | .vmem => 14
  | .smem => 0
  | _ => 0

abbrev bufTy : (tb : Table) → Fin (tcTables nBuf tb) → BufTy
  | .hbm, ⟨0, _⟩ => ⟨S2x5120x128, .f32⟩
  | .hbm, ⟨1, _⟩ => ⟨S2x5120x128, .f32⟩
  | .hbm, ⟨2, _⟩ => ⟨S4096, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4096x1, .f32⟩
  | .hbm, ⟨18, _⟩ => ⟨S1x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S_, .f32⟩
  | .hbm, ⟨25, _⟩ => ⟨S4096x96, .f32⟩
  | .hbm, ⟨26, _⟩ => ⟨S4096x128, .f32⟩
  | .hbm, ⟨27, _⟩ => ⟨S4096x16, .f32⟩
  | .hbm, ⟨28, _⟩ => ⟨S_, .f32⟩
  | .hbm, ⟨29, _⟩ => ⟨S4096x112, .f32⟩
  | .hbm, ⟨30, _⟩ => ⟨S4096x128, .f32⟩
  | .hbm, ⟨31, _⟩ => ⟨S_, .f32⟩
  | .hbm, ⟨32, _⟩ => ⟨S4096x16, .f32⟩
  | .hbm, ⟨33, _⟩ => ⟨S_, .f32⟩
  | .hbm, ⟨34, _⟩ => ⟨S4096x96, .f32⟩
  | .hbm, ⟨35, _⟩ => ⟨S4096x128, .f32⟩
  | .hbm, ⟨36, _⟩ => ⟨S4096x256, .bf16⟩
  | .hbm, ⟨37, _⟩ => ⟨S4096x256, .bf16⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | _, _ => ⟨S2x5120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x5120x128 : Shape := ⟨3, ![2, 5120, 128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x2x128 : Shape := ⟨4, ![1, 4096, 2, 128]⟩
abbrev S1x4096x2x16 : Shape := ⟨4, ![1, 4096, 2, 16]⟩
abbrev S1x4096x1x16 : Shape := ⟨4, ![1, 4096, 1, 16]⟩
abbrev S1x4096x2x32 : Shape := ⟨4, ![1, 4096, 2, 32]⟩
abbrev S1x4096x2x96 : Shape := ⟨4, ![1, 4096, 2, 96]⟩
abbrev S2x4096x128 : Shape := ⟨3, ![2, 4096, 128]⟩
abbrev S4096x2x128 : Shape := ⟨3, ![4096, 2, 128]⟩
abbrev S4096x256 : Shape := ⟨2, ![4096, 256]⟩

abbrev nBuf : Space → Nat
  | .hbm => 76
  | .vmem => 0
  | .smem => 0
  | _ => 0

abbrev bufTy : (tb : Table) → Fin (tcTables nBuf tb) → BufTy
  | .hbm, ⟨0, _⟩ => ⟨S2x5120x128, .f32⟩
  | .hbm, ⟨1, _⟩ => ⟨S2x5120x128, .f32⟩
  | .hbm, ⟨2, _⟩ => ⟨S4096, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4096x1, .f32⟩
  | .hbm, ⟨18, _⟩ => ⟨S1x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S_, .f32⟩
  | .hbm, ⟨25, _⟩ => ⟨S1x4096x2x128, .f32⟩
  | .hbm, ⟨26, _⟩ => ⟨S1x4096x2x16, .f32⟩
  | .hbm, ⟨27, _⟩ => ⟨S1x4096x2x16, .f32⟩
  | .hbm, ⟨28, _⟩ => ⟨S1x4096x1x16, .f32⟩
  | .hbm, ⟨29, _⟩ => ⟨S1x4096x1x16, .f32⟩
  | .hbm, ⟨30, _⟩ => ⟨S1x4096x2x16, .f32⟩
  | .hbm, ⟨31, _⟩ => ⟨S1x4096x2x16, .f32⟩
  | .hbm, ⟨32, _⟩ => ⟨S1x4096x2x16, .f32⟩
  | .hbm, ⟨33, _⟩ => ⟨S1x4096x2x16, .f32⟩
  | .hbm, ⟨34, _⟩ => ⟨S1x4096x2x16, .f32⟩
  | .hbm, ⟨35, _⟩ => ⟨S1x4096x2x16, .f32⟩
  | .hbm, ⟨36, _⟩ => ⟨S1x4096x2x16, .f32⟩
  | .hbm, ⟨37, _⟩ => ⟨S1x4096x2x16, .f32⟩
  | .hbm, ⟨38, _⟩ => ⟨S1x4096x2x16, .f32⟩
  | .hbm, ⟨39, _⟩ => ⟨S1x4096x2x16, .f32⟩
  | .hbm, ⟨40, _⟩ => ⟨S1x4096x2x32, .f32⟩
  | .hbm, ⟨41, _⟩ => ⟨S1x4096x2x96, .f32⟩
  | .hbm, ⟨42, _⟩ => ⟨S1x4096x2x128, .f32⟩
  | .hbm, ⟨43, _⟩ => ⟨S2x4096x128, .f32⟩
  | .hbm, ⟨44, _⟩ => ⟨S4096x2x128, .f32⟩
  | .hbm, ⟨45, _⟩ => ⟨S1x4096x2x128, .f32⟩
  | .hbm, ⟨46, _⟩ => ⟨S1x4096x2x32, .f32⟩
  | .hbm, ⟨47, _⟩ => ⟨S1x4096x2x96, .f32⟩
  | .hbm, ⟨48, _⟩ => ⟨S_, .f32⟩
  | .hbm, ⟨49, _⟩ => ⟨S1x4096x2x128, .f32⟩
  | .hbm, ⟨50, _⟩ => ⟨S1x4096x2x16, .f32⟩
  | .hbm, ⟨51, _⟩ => ⟨S1x4096x2x16, .f32⟩
  | .hbm, ⟨52, _⟩ => ⟨S1x4096x2x16, .f32⟩
  | .hbm, ⟨53, _⟩ => ⟨S1x4096x2x16, .f32⟩
  | .hbm, ⟨54, _⟩ => ⟨S1x4096x2x16, .f32⟩
  | .hbm, ⟨55, _⟩ => ⟨S1x4096x2x16, .f32⟩
  | .hbm, ⟨56, _⟩ => ⟨S1x4096x2x16, .f32⟩
  | .hbm, ⟨57, _⟩ => ⟨S1x4096x2x16, .f32⟩
  | .hbm, ⟨58, _⟩ => ⟨S1x4096x2x16, .f32⟩
  | .hbm, ⟨59, _⟩ => ⟨S1x4096x2x16, .f32⟩
  | .hbm, ⟨60, _⟩ => ⟨S1x4096x2x16, .f32⟩
  | .hbm, ⟨61, _⟩ => ⟨S1x4096x2x16, .f32⟩
  | .hbm, ⟨62, _⟩ => ⟨S1x4096x2x16, .f32⟩
  | .hbm, ⟨63, _⟩ => ⟨S_, .f32⟩
  | .hbm, ⟨64, _⟩ => ⟨S1x4096x2x128, .f32⟩
  | .hbm, ⟨65, _⟩ => ⟨S1x4096x2x128, .f32⟩
  | .hbm, ⟨66, _⟩ => ⟨S_, .f32⟩
  | .hbm, ⟨67, _⟩ => ⟨S1x4096x2x128, .f32⟩
  | .hbm, ⟨68, _⟩ => ⟨S1x4096x2x128, .f32⟩
  | .hbm, ⟨69, _⟩ => ⟨S4096x256, .f32⟩
  | .hbm, ⟨70, _⟩ => ⟨S4096x256, .bf16⟩
  | .hbm, ⟨71, _⟩ => ⟨S2x4096x128, .f32⟩
  | .hbm, ⟨72, _⟩ => ⟨S4096x2x128, .f32⟩
  | .hbm, ⟨73, _⟩ => ⟨S1x4096x2x128, .f32⟩
  | .hbm, ⟨74, _⟩ => ⟨S4096x256, .f32⟩
  | .hbm, ⟨75, _⟩ => ⟨S4096x256, .bf16⟩
  | _, _ => ⟨S2x5120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_4 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_5 : Ref sig .tc := ⟨.hbm, 63, rfl⟩
abbrev main_v55 : Ref sig .tc := ⟨.hbm, 64, rfl⟩
abbrev main_v56 : Ref sig .tc := ⟨.hbm, 65, rfl⟩
abbrev main_cst_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩

abbrev nD : Nat := 1
abbrev τ : Topo := Topo.v7x

variable {F : FTy → Type} [FloatOps F]
-- ==== Kernel3.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S5632x2048, .bf16⟩
  | .hbm, ⟨5, _⟩ => ⟨S4096x5632, .bf16⟩
  | .hbm, ⟨6, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x5632 : Shape := ⟨2, ![4096, 5632]⟩
abbrev S2048x5632 : Shape := ⟨2, ![2048, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .f32⟩
  | .hbm, ⟨2, _⟩ => ⟨S5632x2048, .f32⟩
  | .hbm, ⟨3, _⟩ => ⟨S5632x2048, .bf16⟩
  | .hbm, ⟨4, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .f32⟩
  | .hbm, ⟨2, _⟩ => ⟨S_, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x5632 : Shape := ⟨2, ![4096, 5632]⟩
abbrev S2048x5632 : Shape := ⟨2, ![2048, 5632]⟩
abbrev S4096x2048 : Shape := ⟨2, ![4096, 2048]⟩
abbrev S5632x2048 : Shape := ⟨2, ![5632, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .f32⟩
  | .hbm, ⟨2, _⟩ => ⟨S4096x2048, .f32⟩
  | .hbm, ⟨3, _⟩ => ⟨S5632x2048, .f32⟩
  | .hbm, ⟨4, _⟩ => ⟨S5632x2048, .bf16⟩
  | .hbm, ⟨5, _⟩ => ⟨S4096x2048, .bf16⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x5632 : Shape := ⟨2, ![4096, 5632]⟩
abbrev S2048x5632 : Shape := ⟨2, ![2048, 5632]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S5632x2048, .bf16⟩
  | .hbm, ⟨5, _⟩ => ⟨S5632x2048, .f32⟩
  | .hbm, ⟨6, _⟩ => ⟨S5632x2048, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S4096x5632, .f32⟩
  | .hbm, ⟨5, _⟩ => ⟨S4096x2048, .f32⟩
  | .hbm, ⟨6, _⟩ => ⟨S4096x5632, .f32⟩
  | .hbm, ⟨7, _⟩ => ⟨S4096x5632, .bf16⟩
  | .hbm, ⟨8, _⟩ => ⟨S4096x5632, .bf16⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel9.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S5632x2048, .bf16⟩
  | .hbm, ⟨4, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S4096x5632, .f32⟩
  | .hbm, ⟨4, _⟩ => ⟨S4096x2048, .f32⟩
  | .hbm, ⟨5, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x3584 : Shape := ⟨2, ![4096, 3584]⟩
abbrev S2048x3584 : Shape := ⟨2, ![2048, 3584]⟩
abbrev S3584x2048 : Shape := ⟨2, ![3584, 2048]⟩
abbrev S4096x2048 : Shape := ⟨2, ![4096, 2048]⟩
abbrev S1024x3584 : Shape := ⟨2, ![1024, 3584]⟩
abbrev S3584x512 : Shape := ⟨2, ![3584, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x3584, .bf16⟩
  | .hbm, ⟨1, _⟩ => ⟨S2048x3584, .f32⟩
  | .hbm, ⟨2, _⟩ => ⟨S3584x2048, .f32⟩
  | .hbm, ⟨3, _⟩ => ⟨S3584x2048, .bf16⟩
  | .hbm, ⟨4, _⟩ => ⟨S4096x2048, .bf16⟩
  | .local _ .vmem, ⟨0, _⟩ => ⟨S1024x3584, .bf16⟩
  | .local _ .vmem, ⟨1, _⟩ => ⟨S1024x3584, .bf16⟩
  | .local _ .vmem, ⟨2, _⟩ => ⟨S3584x512, .bf16⟩
  | .local _ .vmem, ⟨3, _⟩ => ⟨S3584x512, .bf16⟩
  | .local _ .vmem, ⟨4, _⟩ => ⟨S1024x512, .bf16⟩
  | .local _ .vmem, ⟨5, _⟩ => ⟨S1024x512, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3584x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x3584 : Shape := ⟨2, ![4096, 3584]⟩
abbrev S2048x3584 : Shape := ⟨2, ![2048, 3584]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S2048x3584, .f32⟩
  | .hbm, ⟨2, _⟩ => ⟨S_, .f32⟩
  | .hbm, ⟨3, _⟩ => ⟨S4096x2048, .f32⟩
  | .hbm, ⟨4, _⟩ => ⟨S4096x3584, .f32⟩
  | .hbm, ⟨5, _⟩ => ⟨S4096x3584, .f32⟩
  | .hbm, ⟨6, _⟩ => ⟨S4096x2048, .f32⟩
  | .hbm, ⟨7, _⟩ => ⟨S4096x2048, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x3584 : Shape := ⟨2, ![4096, 3584]⟩
abbrev S4096x2048 : Shape := ⟨2, ![4096, 2048]⟩
abbrev S3584x2048 : Shape := ⟨2, ![3584, 2048]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3584, .bf16⟩
  | .hbm, ⟨1, _⟩ => ⟨S4096x2048, .bf16⟩
  | .hbm, ⟨2, _⟩ => ⟨S3584x2048, .bf16⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x3584 : Shape := ⟨2, ![4096, 3584]⟩
abbrev S4096x2048 : Shape := ⟨2, ![4096, 2048]⟩
abbrev S_ : Shape := ⟨0, ![]⟩
abbrev S2048x3584 : Shape := ⟨2, ![2048, 3584]⟩
abbrev S3584x2048 : Shape := ⟨2, ![3584, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x2048, .bf16⟩
  | .hbm, ⟨2, _⟩ => ⟨S_, .f32⟩
  | .hbm, ⟨3, _⟩ => ⟨S2048x3584, .f32⟩
  | .hbm, ⟨4, _⟩ => ⟨S4096x2048, .f32⟩
  | .hbm, ⟨5, _⟩ => ⟨S4096x3584, .f32⟩
  | .hbm, ⟨6, _⟩ => ⟨S4096x3584, .f32⟩
  | .hbm, ⟨7, _⟩ => ⟨S3584x2048, .f32⟩
  | .hbm, ⟨8, _⟩ => ⟨S2048x3584, .f32⟩
  | .hbm, ⟨9, _⟩ => ⟨S3584x2048, .f32⟩
  | .hbm, ⟨10, _⟩ => ⟨S3584x2048, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.FinishValue.lean ====
module

public import proofs.«01_k».proof.Proof.Gen.Kernel2Ideal.Value
public import Idealize.ShloMosaic.Lib.Pipeline.ValueKit
public import Idealize.ShloMosaic.Lib.Pointwise
public import Idealize.ShloMosaic.Lib.Claim

/-! The call that finishes the gradients of the attention's keys and values: what the two result arrays hold. -/

@[expose] public section

set_option maxRecDepth 65536

noncomputable section

open Idealize.ShloMosaic Idealize.ShloMosaic.TcCoe Idealize.SL.Sem
open Idealize.ShloMosaic.Pipeline (Dat)
open scoped BigOperators

namespace Cert.Kernel2Ideal.FinishValue

open Cert.Kernel2Ideal Cert.Kernel2Ideal.Gen

variable (m : (ℓ : Loc nD τ sig) → Buf (Elt Ideal) ℓ)

/-- Every window's block index in terms of the point's number. -/
theorem idx_val : ∀ t : Fin cfg0.N, win0_0.index t = ![t.val / 8, (t.val % 8) + 1, 0]
    ∧ win0_1.index t = ![t.val / 8, (t.val % 8) + 1, 0]
    ∧ win0_2.index t = ![t.val % 8, 0]
    ∧ win0_3.index t = ![t.val % 8, 0]
    ∧ win0_4.index t = ![t.val % 8, 0]
    ∧ win0_5.index t = ![t.val % 8, t.val / 8]
    ∧ win0_6.index t = ![t.val % 8, t.val / 8] :=
  (by decide +kernel : ∀ t : Fin grid0.N, _)

/-- The angle of position `p` at frequency `f`, as the host computes the table of angles. -/
def ang : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

/-- The table of cosines, one on the lanes that do not turn. -/
theorem tab_c (c : Dev nD) : V m c main_v19 = concatenate S4096x128 1 [⟨S4096x16, (Host.cos ang : FVec Ideal S4096x16 .f32)⟩, ⟨S4096x16, (Host.cos ang : FVec Ideal S4096x16 .f32)⟩, ⟨S4096x96, (broadcastInDim S4096x96 ![] bcast_S_S4096x96 (constant S_ .f32 0x3F800000#32) : FVec Ideal S4096x96 .f32)⟩] concatenates_S4096x16_S4096x16_S4096x96_S4096x128_d1 := rfl

/-- The table of negated sines, on the first sixteen lanes. -/
theorem tab_sa (c : Dev nD) : V m c main_v22 = concatenate S4096x128 1 [⟨S4096x16, (Host.negf (Host.sin ang) : FVec Ideal S4096x16 .f32)⟩, ⟨S4096x112, (broadcastInDim S4096x112 ![] bcast_S_S4096x112 (constant S_ .f32 0x00000000#32) : FVec Ideal S4096x112 .f32)⟩] concatenates_S4096x16_S4096x112_S4096x128_d1 := rfl

/-- The table of sines, on the next sixteen lanes. -/
theorem tab_sb (c : Dev nD) : V m c main_v25 = concatenate S4096x128 1 [⟨S4096x16, (broadcastInDim S4096x16 ![] bcast_S_S4096x16 (constant S_ .f32 0x00000000#32) : FVec Ideal S4096x16 .f32)⟩, ⟨S4096x16, (Host.sin ang : FVec Ideal S4096x16 .f32)⟩, ⟨S4096x96, (broadcastInDim S4096x96 ![] bcast_S_S4096x96 (constant S_ .f32 0x00000000#32) : FVec Ideal S4096x96 .f32)⟩] concatenates_S4096x16_S4096x16_S4096x96_S4096x128_d1 := rfl

theorem tab_c_apply (c : Dev nD) (p : Fin 4096) (d : Fin 128) : V m c main_v19 (ix2 p d) =
    (if h : d.val < 16 then Ideal.cos (ang (ix2 p ⟨d.val, h⟩)) else if h' : d.val < 32 then Ideal.cos (ang (ix2 p ⟨d.val - 16, by omega⟩)) else (1 : EReal)) := by
  rw [tab_c]
  pointwise
  split
  · rfl
  · by_cases h : d.val < 32
    · rw [dif_pos (by omega), dif_pos h]
    · rw [dif_neg (by omega), dif_neg h]

theorem tab_sa_apply (c : Dev nD) (p : Fin 4096) (d : Fin 128) : V m c main_v22 (ix2 p d) =
    (if h : d.val < 16 then -Ideal.sin (ang (ix2 p ⟨d.val, h⟩)) else (0 : EReal)) := by
  rw [tab_sa]
  pointwise

theorem tab_sb_apply (c : Dev nD) (p : Fin 4096) (d : Fin 128) : V m c main_v25 (ix2 p d) =
    (if h : 16 ≤ d.val ∧ d.val < 32 then Ideal.sin (ang (ix2 p ⟨d.val - 16, by omega⟩)) else (0 : EReal)) := by
  rw [tab_sb]
  pointwise
  by_cases h : 16 ≤ d.val ∧ d.val < 32
  · rw [dif_neg (by omega), dif_pos (by omega), dif_pos h]
  · rw [dif_neg h]
    split
    · rfl
    · rw [dif_neg (by omega)]

/-- Entry `(p, j)` of the finished key gradient: lane `j % 128` of head `j / 128` at position `p`, turned back by the angle. -/
def turned (x : FVec Ideal S2x5120x128 .f32) (p : Fin 4096) (j : Fin 256) : EReal :=
  if h : j.val % 128 < 16 then
    x (ix3 ⟨j.val / 128, by omega⟩ ⟨512 + p.val, by omega⟩ ⟨j.val % 128, by omega⟩) * Ideal.cos (ang (ix2 p ⟨j.val % 128, h⟩))
      + x (ix3 ⟨j.val / 128, by omega⟩ ⟨512 + p.val, by omega⟩ ⟨j.val % 128 + 16, by omega⟩) * Ideal.sin (ang (ix2 p ⟨j.val % 128, h⟩))
  else if h' : j.val % 128 < 32 then
    x (ix3 ⟨j.val / 128, by omega⟩ ⟨512 + p.val, by omega⟩ ⟨j.val % 128, by omega⟩) * Ideal.cos (ang (ix2 p ⟨j.val % 128 - 16, by omega⟩))
      + -(x (ix3 ⟨j.val / 128, by omega⟩ ⟨512 + p.val, by omega⟩ ⟨j.val % 128 - 16, by omega⟩) * Ideal.sin (ang (ix2 p ⟨j.val % 128 - 16, by omega⟩)))
  else x (ix3 ⟨j.val / 128, by omega⟩ ⟨512 + p.val, by omega⟩ ⟨j.val % 128, by omega⟩)

/-- The finished key gradient, entry by entry. -/
def G5 (x : FVec Ideal S2x5120x128 .f32) : FVec Ideal S4096x256 .bf16 := fun i => turned x (i 0) (i 1)

/-- The finished value gradient: the rows past the padding, head by head. -/
def G6 (x : FVec Ideal S2x5120x128 .f32) : FVec Ideal S4096x256 .bf16 := fun i =>
  x (ix3 ⟨(i 1).val / 128, by have := (i 1).isLt; simp at this; omega⟩ ⟨512 + (i 0).val, by have := (i 0).isLt; simp at this; omega⟩ ⟨(i 1).val % 128, by omega⟩)

theorem t_lt (t : Fin cfg0.N) : t.val < 16 := by have := t.isLt; have h : cfg0.N = 16 := rfl; omega

theorem read_x (c : Dev nD) (t : Fin cfg0.N) (a : Fin 512) (b : Fin 128) :
    iblk m c 0 t (ix3 0 a b) = m ((c.tc : Thread nD τ).loc main_arg0)
      (ix3 ⟨t.val / 8, by have := t_lt t; omega⟩ ⟨512 + (t.val % 8 * 512 + a.val), by omega⟩ b) := by
  have := t_lt t
  blk_ext [iblk, V, idx_val t]

theorem read_v (c : Dev nD) (t : Fin cfg0.N) (a : Fin 512) (b : Fin 128) :
    iblk m c 1 t (ix3 0 a b) = m ((c.tc : Thread nD τ).loc main_arg1)
      (ix3 ⟨t.val / 8, by have := t_lt t; omega⟩ ⟨512 + (t.val % 8 * 512 + a.val), by omega⟩ b) := by
  have := t_lt t
  blk_ext [iblk, V, idx_val t]

theorem read_c (c : Dev nD) (t : Fin cfg0.N) (a : Fin 512) (b : Fin 128) :
    iblk m c 2 t (ix2 a b) = V m c main_v19 (ix2 ⟨t.val % 8 * 512 + a.val, by omega⟩ b) := by
  have := t_lt t
  blk_ext [iblk, idx_val t]

theorem read_sa (c : Dev nD) (t : Fin cfg0.N) (a : Fin 512) (b : Fin 128) :
    iblk m c 3 t (ix2 a b) = V m c main_v22 (ix2 ⟨t.val % 8 * 512 + a.val, by omega⟩ b) := by
  have := t_lt t
  blk_ext [iblk, idx_val t]

theorem read_sb (c : Dev nD) (t : Fin cfg0.N) (a : Fin 512) (b : Fin 128) :
    iblk m c 4 t (ix2 a b) = V m c main_v25 (ix2 ⟨t.val % 8 * 512 + a.val, by omega⟩ b) := by
  have := t_lt t
  blk_ext [iblk, idx_val t]

theorem turned_eq (x : FVec Ideal S2x5120x128 .f32) (p : Fin 4096) (h : Fin 2) (d : Fin 128) (j : Fin 256) (hj : j.val = h.val * 128 + d.val) :
    turned x p j = if hd : d.val < 16 then
        x (ix3 h ⟨512 + p.val, by omega⟩ d) * Ideal.cos (ang (ix2 p ⟨d.val, hd⟩))
          + x (ix3 h ⟨512 + p.val, by omega⟩ ⟨d.val + 16, by omega⟩) * Ideal.sin (ang (ix2 p ⟨d.val, hd⟩))
      else if hd' : d.val < 32 then
        x (ix3 h ⟨512 + p.val, by omega⟩ d) * Ideal.cos (ang (ix2 p ⟨d.val - 16, by omega⟩))
          + -(x (ix3 h ⟨512 + p.val, by omega⟩ ⟨d.val - 16, by omega⟩) * Ideal.sin (ang (ix2 p ⟨d.val - 16, by omega⟩)))
      else x (ix3 h ⟨512 + p.val, by omega⟩ d) := by
  obtain ⟨j, hj'⟩ := j
  simp only at hj
  subst hj
  have e1 : (h.val * 128 + d.val) / 128 = h.val := by omega
  have e2 : (h.val * 128 + d.val) % 128 = d.val := by omega
  simp only [turned, e1, e2]

/-- One entry of the block of the key gradient the call stores, of the blocks it reads. -/
theorem pay1_at (P0 : Vec Ideal S1x512x128 .f32) (P2 P3 P4 : Vec Ideal S512x128 .f32) (a : Fin 512) (b : Fin 128) :
    k0_pay1 (F := Ideal) P0 P2 P3 P4 (ix2 a b) = (P0 (ix3 0 a b) * P2 (ix2 a b)
      + P0 (ix3 0 a ⟨(b.val + 128 - 16) % 128, by omega⟩) * P3 (ix2 a ⟨(b.val + 128 - 16) % 128, by omega⟩)
      + P0 (ix3 0 a ⟨(b.val + 128 - 112) % 128, by omega⟩) * P4 (ix2 a ⟨(b.val + 128 - 112) % 128, by omega⟩) : EReal) := by
  pointwise [k0_pay1]

theorem point_5 (c : Dev nD) (t : Fin cfg0.N) (a : Fin 512) (b : Fin 128) (p : Fin 4096) (j : Fin 256)
    (hp : p.val = t.val % 8 * 512 + a.val) (hj : j.val = t.val / 8 * 128 + b.val) :
    k0_pay1 (iblk m c 0 t) (iblk m c 2 t) (iblk m c 3 t) (iblk m c 4 t) (ix2 a b)
      = turned (m ((c.tc : Thread nD τ).loc main_arg0)) p j := by
  have := t_lt t
  obtain ⟨p, hp'⟩ := p
  simp only at hp
  subst hp
  refine (pay1_at _ _ _ _ a b).trans ?_
  rw [turned_eq _ _ ⟨t.val / 8, by omega⟩ b _ hj, read_x, read_x, read_x, read_c, read_sa, read_sb, tab_c_apply, tab_sa_apply, tab_sb_apply]
  by_cases h : b.val < 16
  · have e : (⟨(b.val + 128 - 112) % 128, by omega⟩ : Fin 128) = ⟨b.val + 16, by omega⟩ := Fin.ext (by simp only; omega)
    have e' : ∀ h : (b.val + 128 - 112) % 128 - 16 < 16, (⟨(b.val + 128 - 112) % 128 - 16, h⟩ : Fin 16) = ⟨b.val, by omega⟩ := fun _ => Fin.ext (by simp only; omega)
    rw [dif_pos h, dif_pos h, dif_neg (by simp only; omega), dif_pos (by simp only; omega), mul_zero, add_zero]
    simp only [e, e']
  · by_cases h' : b.val < 32
    · have e : (⟨(b.val + 128 - 16) % 128, by omega⟩ : Fin 128) = ⟨b.val - 16, by omega⟩ := Fin.ext (by simp only; omega)
      have e' : ∀ h : (b.val + 128 - 16) % 128 < 16, (⟨(b.val + 128 - 16) % 128, h⟩ : Fin 16) = ⟨b.val - 16, by omega⟩ := fun _ => Fin.ext (by simp only; omega)
      rw [dif_neg h, dif_pos h', dif_neg h, dif_pos h', dif_pos (by simp only; omega), dif_neg (by simp only; omega), mul_zero, add_zero]
      simp only [e, e', mul_neg]
    · rw [dif_neg h, dif_neg h', dif_neg h, dif_neg h', dif_neg (by simp only; omega), dif_neg (by simp only; omega),
        mul_zero, mul_zero, add_zero, add_zero, mul_one]

theorem final_5 (c : Dev nD) : (dats m 0 c).arrAt 5 cfg0.N = G5 (m ((c.tc : Thread nD τ).loc main_arg0)) := by
  refine (dats m 0 c).arrAt_eq_of_covers 5 _ (by decide +kernel) fun t hf y => ?_
  blk_simp
  rw [after0_5]
  frame_out
  idx_vars y
  have := t_lt t
  have e : ((View.whole main_v26_0).slice (win0_5.rect t)).emb (ix2 y0 y1) = ix2 ⟨t.val % 8 * 512 + y0.val, by omega⟩ ⟨t.val / 8 * 128 + y1.val, by omega⟩ := by
    blk_ext [idx_val t]
  rw [e]
  exact point_5 m c t y0 y1 _ _ rfl rfl

theorem final_6 (c : Dev nD) : (dats m 0 c).arrAt 6 cfg0.N = G6 (m ((c.tc : Thread nD τ).loc main_arg1)) := by
  refine (dats m 0 c).arrAt_eq_of_covers 6 _ (by decide +kernel) fun t hf y => ?_
  blk_simp
  rw [after0_6]
  frame_out
  idx_vars y
  have := t_lt t
  have e : ((View.whole main_v26_1).slice (win0_6.rect t)).emb (ix2 y0 y1) = ix2 ⟨t.val % 8 * 512 + y0.val, by omega⟩ ⟨t.val / 8 * 128 + y1.val, by omega⟩ := by
    blk_ext [idx_val t]
  rw [e]
  have e2 : k0_pay2 (F := Ideal) (iblk m c 1 t) (ix2 y0 y1) = iblk m c 1 t (ix3 0 y0 y1) := by pointwise [k0_pay2]
  refine e2.trans ((read_v m c t y0 y1).trans ?_)
  refine congrArg (m ((c.tc : Thread nD τ).loc main_arg1)) ?_
  blk_ext

end Cert.Kernel2Ideal.FinishValue

end
-- ==== Proof.FinishRef.lean ====
module

public import proofs.«01_k».proof.Proof.FinishValue
public import proofs.«01_k».proof.Proof.Gen.Reference2Ideal.Run

/-! The reference of the call that finishes the key and value gradients: its two results, entry by entry. -/

@[expose] public section

set_option maxRecDepth 65536

noncomputable section

open Idealize.ShloMosaic Idealize.ShloMosaic.TcCoe Idealize.SL.Sem
open Idealize.ShloMosaic.Pipeline (Dat)
open scoped BigOperators

namespace Cert.Reference2Ideal.FinishRef

open Cert.Reference2Ideal Cert.Reference2Ideal.Gen
open Cert.Kernel2Ideal.FinishValue (ang turned turned_eq G5 G6)

/-- The rows past the padding, split into heads. -/
def heads (x : FVec Ideal S2x5120x128 .f32) : FVec Ideal S1x4096x2x128 .f32 :=
  shapeCast _ (transpose S4096x2x128 [1, 0, 2] (extractStridedSlice S2x4096x128 ![0, 512, 0] x slices_S2x5120x128_S2x4096x128_0_512_0) transposes_S2x4096x128_S4096x2x128_1_0_2) shapeCasts_S4096x2x128_S1x4096x2x128

theorem heads_at (x : FVec Ideal S2x5120x128 .f32) (p : Fin 4096) (h : Fin 2) (d : Fin 128) :
    heads x (ix4 0 p h d) = x (ix3 h ⟨512 + p.val, by omega⟩ d) := by
  pointwise [heads]

/-- The turned key gradient before it is laid out position by position. -/
def core (x : FVec Ideal S2x5120x128 .f32) : FVec Ideal S1x4096x2x128 .f32 :=
  (addf (addf (pad S1x4096x2x128 ![0, 0, 0, 32] ![0, 0, 0, 0] ![0, 0, 0, 0] (extractStridedSlice S1x4096x2x96 ![0, 0, 0, 32] (heads x) slices_S1x4096x2x128_S1x4096x2x96_0_0_0_32) (constant S_ .f32 0x00000000#32) pads_S1x4096x2x96_S1x4096x2x128_000_000_000_3200 h_S_) (pad S1x4096x2x128 ![0, 0, 0, 16] ![0, 0, 0, 96] ![0, 0, 0, 0] (addf (mulf (extractStridedSlice S1x4096x2x16 ![0, 0, 0, 16] (extractStridedSlice S1x4096x2x32 ![0, 0, 0, 0] (heads x) slices_S1x4096x2x128_S1x4096x2x32_0_0_0_0) slices_S1x4096x2x32_S1x4096x2x16_0_0_0_16) (broadcastInDim S1x4096x2x16 ![0, 1, 2, 3] bcast_S1x4096x1x16_S1x4096x2x16_0_1_2_3 (broadcastInDim S1x4096x1x16 ![1, 3] bcast_S4096x16_S1x4096x1x16_1_3 (Host.cos Cert.Kernel2Ideal.FinishValue.ang)))) (mulf (Host.negf (extractStridedSlice S1x4096x2x16 ![0, 0, 0, 0] (extractStridedSlice S1x4096x2x32 ![0, 0, 0, 0] (heads x) slices_S1x4096x2x128_S1x4096x2x32_0_0_0_0) slices_S1x4096x2x32_S1x4096x2x16_0_0_0_0)) (broadcastInDim S1x4096x2x16 ![0, 1, 2, 3] bcast_S1x4096x1x16_S1x4096x2x16_0_1_2_3 (broadcastInDim S1x4096x1x16 ![1, 3] bcast_S4096x16_S1x4096x1x16_1_3 (Host.sin Cert.Kernel2Ideal.FinishValue.ang))))) (constant S_ .f32 0x00000000#32) pads_S1x4096x2x16_S1x4096x2x128_000_000_000_16960 h_S_)) (pad S1x4096x2x128 ![0, 0, 0, 0] ![0, 0, 0, 112] ![0, 0, 0, 0] (addf (mulf (extractStridedSlice S1x4096x2x16 ![0, 0, 0, 16] (extractStridedSlice S1x4096x2x32 ![0, 0, 0, 0] (heads x) slices_S1x4096x2x128_S1x4096x2x32_0_0_0_0) slices_S1x4096x2x32_S1x4096x2x16_0_0_0_16) (broadcastInDim S1x4096x2x16 ![0, 1, 2, 3] bcast_S1x4096x1x16_S1x4096x2x16_0_1_2_3 (broadcastInDim S1x4096x1x16 ![1, 3] bcast_S4096x16_S1x4096x1x16_1_3 (Host.sin Cert.Kernel2Ideal.FinishValue.ang)))) (mulf (extractStridedSlice S1x4096x2x16 ![0, 0, 0, 0] (extractStridedSlice S1x4096x2x32 ![0, 0, 0, 0] (heads x) slices_S1x4096x2x128_S1x4096x2x32_0_0_0_0) slices_S1x4096x2x32_S1x4096x2x16_0_0_0_0) (broadcastInDim S1x4096x2x16 ![0, 1, 2, 3] bcast_S1x4096x1x16_S1x4096x2x16_0_1_2_3 (broadcastInDim S1x4096x1x16 ![1, 3] bcast_S4096x16_S1x4096x1x16_1_3 (Host.cos Cert.Kernel2Ideal.FinishValue.ang))))) (constant S_ .f32 0x00000000#32) pads_S1x4096x2x16_S1x4096x2x128_000_000_000_01120 h_S_))

set_option maxHeartbeats 2000000 in
theorem core_at (x : FVec Ideal S2x5120x128 .f32) (p : Fin 4096) (h : Fin 2) (d : Fin 128) (j : Fin 256) (hj : j.val = h.val * 128 + d.val) :
    core x (ix4 0 p h d) = turned x p j := by
  rw [turned_eq x p h d j hj]
  pointwise [core]
  simp only [heads_at]
  by_cases h1 : d.val < 16
  · have e : ∀ h : 16 + d.val < 128, (⟨16 + d.val, h⟩ : Fin 128) = ⟨d.val + 16, by omega⟩ := fun _ => Fin.ext (Nat.add_comm _ _)
    rw [dif_neg (by omega), dif_neg (by omega), dif_pos h1, dif_pos h1, zero_add, zero_add, e]
    exact add_comm _ _
  · by_cases h2 : d.val < 32
    · have e : ∀ h : 16 + (d.val - 16) < 128, (⟨16 + (d.val - 16), h⟩ : Fin 128) = d := fun _ => Fin.ext (by simp only; omega)
      rw [dif_neg (by omega), dif_pos (by omega), dif_neg h1, dif_neg h1, dif_pos h2, zero_add, add_zero]
      simp only [e]
      exact congrArg₂ (fun a b : EReal => a + b) rfl (EReal.neg_mul _ _)
    · have e : ∀ h : 32 + (d.val - 32) < 128, (⟨32 + (d.val - 32), h⟩ : Fin 128) = d := fun _ => Fin.ext (by simp only; omega)
      have a : 32 ≤ d.val ∧ d.val - 32 < 96 := ⟨by omega, by have := d.isLt; omega⟩
      have b : ¬ (16 ≤ d.val ∧ d.val - 16 < 16) := by omega
      rw [dif_neg h1, dif_neg h1, dif_neg h2, dif_pos a, dif_neg b]
      refine (add_zero _).trans ((add_zero _).trans ?_)
      exact congrArg (fun k => x (ix3 h ⟨512 + p.val, by omega⟩ k)) (e _)

theorem res_0 (m : (ℓ : Loc nD τ sig) → Buf (Elt Ideal) ℓ) (c : Dev nD) :
    Cert.Reference2Ideal.Value.res_main_v60 m c = G5 (m ((c.tc : Thread nD τ).loc main_arg0)) := by
  show (truncf .bf16 (shapeCast _ (core (m ((c.tc : Thread nD τ).loc main_arg0))) shapeCasts_S1x4096x2x128_S4096x256) bitsLt_bf16_f32 : FVec Ideal S4096x256 .bf16) = _
  funext y
  idx_vars y
  pointwise
  exact core_at _ _ _ _ _ (by show y1.val = y1.val / 128 * 128 + y1.val % 128; omega)

theorem res_1 (x : FVec Ideal S2x5120x128 .f32) :
    (truncf .bf16 (shapeCast _ (heads x) shapeCasts_S1x4096x2x128_S4096x256) bitsLt_bf16_f32 : FVec Ideal S4096x256 .bf16) = G6 x := by
  funext y
  idx_vars y
  pointwise
  exact heads_at _ _ _ _

end Cert.Reference2Ideal.FinishRef

end
-- ==== Proof.AttnFrame.lean ====
module

public import proofs.«01_k».proof.Proof.Gen.KernelIdeal.Frame.RunB
public import Idealize.ShloMosaic.Lib.Claim

/-! The attention backward call: what its outputs hold point by point, the proof data of its pipeline, its run and its frame. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 12 tile its block (4 stores of `S128x128`, checked by the kernel's evaluation: Lib/Ring.lean `Piece.tiledL`, linear in the pieces, through a loop's `@[irreducible]` trip theorem too), so they cover it. -/
theorem cover0_A_12 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) (y : S128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).1 S128x128.size (by sl_kernel_rfl) y

/-- What case A leaves in output 12's staging buffer: its pieces read back over junk. -/
def out0_A_12 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) : Vec F S128x512 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).1)

/-- Case A's pieces for output 13 include stores at SYMBOLIC offsets (a loaded word, the grid coordinates), which no evaluation decides; one explicit piece is a literal store of the WHOLE block (found by walking the list as the run left it, that piece checked by the kernel's evaluation of it alone: Lib/Ring.lean `sl_whole_mem`), so they cover it whatever the others are. -/
theorem cover0_A_13 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) (y : S1x5120x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.1 (by sl_whole_mem) y

/-- What case A leaves in output 13's staging buffer: its pieces read back over junk. -/
def out0_A_13 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) : Vec F S1x5120x128 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.1)

/-- Case A's pieces for output 14 include stores at SYMBOLIC offsets (a loaded word, the grid coordinates), which no evaluation decides; one explicit piece is a literal store of the WHOLE block (found by walking the list as the run left it, that piece checked by the kernel's evaluation of it alone: Lib/Ring.lean `sl_whole_mem`), so they cover it whatever the others are. -/
theorem cover0_A_14 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) (y : S1x5120x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.1 (by sl_whole_mem) y

/-- What case A leaves in output 14's staging buffer: its pieces read back over junk. -/
def out0_A_14 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) : Vec F S1x5120x128 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.1)

/-- Case A's pieces for output 15 are of SEVERAL sizes (5 stores of `S1x1x128`, `S1x8x128`): cut into blocks of `![1, 1, 128]` they tile its block (checked by the kernel's evaluation: Lib/Ring.lean `Piece.tiledBy`), so they cover it. -/
theorem cover0_A_15 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) (y : S1x8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.2.1 ![1, 1, 128] (by sl_kernel_rfl) y

/-- What case A leaves in output 15's staging buffer: its pieces read back over junk. -/
def out0_A_15 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) : Vec F S1x8x128 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.2.1)

/-- Case B's pieces for output 12 tile its block (4 stores of `S128x128`, checked by the kernel's evaluation: Lib/Ring.lean `Piece.tiledL`, linear in the pieces, through a loop's `@[irreducible]` trip theorem too), so they cover it. -/
theorem cover0_B_12 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : ¬cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) (xo13 : Vec F S1x5120x128 .f32) (xo14 : Vec F S1x5120x128 .f32) (xo15 : Vec F S1x8x128 .f32) (y : S128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xo14 xo15).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xo14 xo15).1 S128x128.size (by sl_kernel_rfl) y

/-- What case B leaves in output 12's staging buffer: its pieces read back over junk. -/
def out0_B_12 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : ¬cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) (xo13 : Vec F S1x5120x128 .f32) (xo14 : Vec F S1x5120x128 .f32) (xo15 : Vec F S1x8x128 .f32) : Vec F S128x512 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xo14 xo15).1)

/-- What case B leaves in output 13's staging buffer: its stores read back over what the point before left there (they do not cover the block). -/
def out0_B_13 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : ¬cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) (xo13 : Vec F S1x5120x128 .f32) (xo14 : Vec F S1x5120x128 .f32) (xo15 : Vec F S1x8x128 .f32) : Vec F S1x5120x128 .f32 :=
  arg15.view.read (Elt F) (arg15.view.writes (Elt F) (harg15.unread xo13) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xo14 xo15).2.1)

/-- What case B leaves in output 14's staging buffer: its stores read back over what the point before left there (they do not cover the block). -/
def out0_B_14 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : ¬cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) (xo13 : Vec F S1x5120x128 .f32) (xo14 : Vec F S1x5120x128 .f32) (xo15 : Vec F S1x8x128 .f32) : Vec F S1x5120x128 .f32 :=
  arg16.view.read (Elt F) (arg16.view.writes (Elt F) (harg16.unread xo14) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xo14 xo15).2.2.1)

/-- What case B leaves in output 15's staging buffer: its stores read back over what the point before left there (they do not cover the block). -/
def out0_B_15 (c : Dev nD) (i : grid0.Coords) (arg2 : Memref sig .tc .smem S8 .f32) (harg2 : arg2.IsWhole) (arg3 : Memref sig .tc .vmem S128x512 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .bf16) (harg14 : arg14.IsWhole) (arg15 : Memref sig .tc .vmem S1x5120x128 .f32) (harg15 : arg15.IsWhole) (arg16 : Memref sig .tc .vmem S1x5120x128 .f32) (harg16 : arg16.IsWhole) (arg17 : Memref sig .tc .vmem S1x8x128 .f32) (harg17 : arg17.IsWhole) (hc0 : ¬cond0_0 i)
    (x0 : Vec F S8 .f32) (x1 : Vec F S128x512 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S128x512 .bf16) (x9 : Vec F S128x128 .f32) (x10 : Vec F S128x128 .f32) (x11 : Vec F S128x128 .f32) (xo13 : Vec F S1x5120x128 .f32) (xo14 : Vec F S1x5120x128 .f32) (xo15 : Vec F S1x8x128 .f32) : Vec F S1x8x128 .f32 :=
  arg17.view.read (Elt F) (arg17.view.writes (Elt F) (harg17.unread xo15) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xo13 xo14 xo15).2.2.2.1)

/-! ## What the outputs hold after each point -/

/-- What the four outputs hold after a point that starts a pass over the blocks of queries. -/
def stepA (c : Dev nD) (t : Fin cfg0.N) (h0 : t.val % 32 = 0) : Vec F S128x512 .bf16 × Vec F S1x5120x128 .f32 × Vec F S1x5120x128 .f32 × Vec F S1x8x128 .f32 :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- What the four outputs hold after any other point, over what the point before left (`p`). -/
def stepB (c : Dev nD) (t : Fin cfg0.N) (h0 : ¬t.val % 32 = 0) (p : Vec F S128x512 .bf16 × Vec F S1x5120x128 .f32 × Vec F S1x5120x128 .f32 × Vec F S1x8x128 .f32) : Vec F S128x512 .bf16 × Vec F S1x5120x128 .f32 × Vec F S1x5120x128 .f32 × Vec F S1x8x128 .f32 :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2)

/-- What the outputs' staging buffers hold after the body at position `n`, in window order. -/
def outsAt0 (c : Dev nD) : (n : ℕ) → n < cfg0.N → Vec F S128x512 .bf16 × Vec F S1x5120x128 .f32 × Vec F S1x5120x128 .f32 × Vec F S1x8x128 .f32
  | 0, hn => stepA m c ⟨0, hn⟩ (Nat.zero_mod _)
  | n + 1, hn =>
    if h0 : (n + 1) % 32 = 0 then stepA m c ⟨n + 1, hn⟩ h0
    else stepB m c ⟨n + 1, hn⟩ h0 (outsAt0 c n (Nat.lt_of_succ_lt hn))

/-- `outsAt0` at a point that starts a pass. -/
theorem outsAt0_stepA (c : Dev nD) (t : Fin cfg0.N) (h0 : t.val % 32 = 0) :
    outsAt0 m c t.val t.isLt = stepA m c t h0 := by
  obtain ⟨n, hn⟩ := t
  cases n with
  | zero => rfl
  | succ n => exact dif_pos h0

/-- `outsAt0` at any other point. -/
theorem outsAt0_stepB (c : Dev nD) (t : Fin cfg0.N) (h0 : ¬t.val % 32 = 0) :
    outsAt0 m c t.val t.isLt = stepB m c t h0 (outsAt0 m c (t.val - 1) (Nat.lt_of_le_of_lt (Nat.sub_le _ _) t.isLt)) := by
  obtain ⟨n, hn⟩ := t
  cases n with
  | zero => exact absurd (Nat.zero_mod _) h0
  | succ n => exact dif_neg h0

/-- `outsAt0` at a point that starts a pass, output by output. -/
theorem outsAt0_A (c : Dev nD) (t : Fin cfg0.N) (h0 : t.val % 32 = 0) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) :=
  (outsAt0_stepA m c t h0).trans (by unfold stepA; rfl)

/-- `outsAt0` at any other point, output by output. -/
theorem outsAt0_B (c : Dev nD) (t : Fin cfg0.N) (h0 : ¬t.val % 32 = 0) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) :=
  (outsAt0_stepB m c t h0).trans (by unfold stepB; rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2
    | ⟨_ + 16, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val % 32 = 0) (d) :
    (dats m 0 c).before 13 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point of case B output 14's current staging buffer holds what the body left at the point before: the point is
    not the first, the buffer was not written back between (`flush0_14`), the window is live and uncut (Lib/Pipeline/Frame.lean
    `Dat.before_out_kept`). -/
theorem before0_14_B (c : Dev nD) (t : Fin cfg0.N) (h0 : ¬t.val % 32 = 0) (d) :
    (dats m 0 c).before 14 t d = (outsAt0 m c (t.val - 1) (Nat.lt_of_le_of_lt (Nat.sub_le _ _) t.isLt)).2.2.1 := by
  have hN : t.val < 64 := lt_of_lt_of_eq t.isLt (show cfg0.N = 64 from N_0)
  rw [Dat.before_out_kept _ 14 rfl t (by omega) (Bool.eq_false_iff.mpr fun h => by have := (flush0_14 _).mp h; dsimp only at this; omega)
    (fun _ => rfl) (fun _ _ => rfl)]
  dsimp only [dats]
/-- At a point of case B output 15's current staging buffer holds what the body left at the point before: the point is
    not the first, the buffer was not written back between (`flush0_15`), the window is live and uncut (Lib/Pipeline/Frame.lean
    `Dat.before_out_kept`). -/
theorem before0_15_B (c : Dev nD) (t : Fin cfg0.N) (h0 : ¬t.val % 32 = 0) (d) :
    (dats m 0 c).before 15 t d = (outsAt0 m c (t.val - 1) (Nat.lt_of_le_of_lt (Nat.sub_le _ _) t.isLt)).2.2.2 := by
  have hN : t.val < 64 := lt_of_lt_of_eq t.isLt (show cfg0.N = 64 from N_0)
  rw [Dat.before_out_kept _ 15 rfl t (by omega) (Bool.eq_false_iff.mpr fun h => by have := (flush0_15 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  have hN : t.val < 64 := lt_of_lt_of_eq t.isLt (show cfg0.N = 64 from N_0)
  by_cases h0 : t.val % 32 = 0
  · rw [outsAt0_A m c t h0]
    unfold out0_A_12 out0_A_13 out0_A_14 out0_A_15; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    iintro ⟨H0, H1, H2, H3, H4, H5, H6, H7, H8, H9, H10, H11, ⟨%e12, H12⟩, ⟨%e13, H13⟩, ⟨%e14, H14⟩, ⟨%e15, H15⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _)
    unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _)
  · rw [outsAt0_B m c t h0]
    simp only [before0_13_B m c t h0, before0_14_B m c t h0, before0_15_B m c t h0]
    unfold out0_B_12 out0_B_13 out0_B_14 out0_B_15; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [H14]; · iexact H14
    isplitl [H15]; · iexact H15
    iintro ⟨H0, H1, H2, H3, H4, H5, H6, H7, H8, H9, H10, H11, ⟨%e12, H12⟩, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; rfl
    isplitl [H14]
    · unfold owns; iexists _; isplitr
      swap; · iexact H14
      ipureintro; rfl
    unfold owns; iexists _; isplitr
    swap; · iexact H15
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.AttnRun.lean ====
module

public import proofs.«01_k».proof.Proof.AttnFrame
public import Idealize.ShloMosaic.Lib.Pipeline.Value

/-! The attention backward call: what each result array holds, block by block, and the run that names the four arrays. -/

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the run's contents for that window after the body (`Gen.outsAt0`: its component 0), read through the window's block. -/
theorem flushed12 (c : Dev nD) (t : Fin cfg0.N) :
    (dats m 0 c).flushed 12 t = (cfg0.win 12).cut (grid0.coords t) ((outsAt0 m c t.val t.isLt).1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 32 = 0) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed12, outsAt0_A m c t h0]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 32 = 0) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed12, outsAt0_B m c t h0]

/-- The index map sends distinct grid points to distinct block indices (decided over the 64 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S4096x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 1), read through the window's block. -/
theorem flushed13 (c : Dev nD) (t : Fin cfg0.N) :
    (dats m 0 c).flushed 13 t = (cfg0.win 13).cut (grid0.coords t) ((outsAt0 m c t.val t.isLt).2.1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 32 = 0) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed13, outsAt0_A m c t h0]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 32 = 0) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed13, outsAt0_B m c t h0]

-- no `blocks13`: window 13's index map revisits a block index, or its points could not be enumerated here;
-- the final array is still the frame's `arrAt`, to read with Lib/Pipeline/Value.lean's lemmas by hand

/-- An index that no flushing point's block covers keeps output window 13's array contents at region entry. -/
theorem entry13 (c : Dev nD) (i : S2x5120x128.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 2), read through the window's block. -/
theorem flushed14 (c : Dev nD) (t : Fin cfg0.N) :
    (dats m 0 c).flushed 14 t = (cfg0.win 14).cut (grid0.coords t) ((outsAt0 m c t.val t.isLt).2.2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — by the frame's rewriting lemma for the case. -/
theorem flushed14_A (c : Dev nD) (t : Fin cfg0.N) (h0 : t.val % 32 = 0) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed14, outsAt0_A m c t h0]

/-- … so at a point where case B runs, what its write-back would write is that case's NAMED TERM for the window (`Gen.out0_B_14`: the pieces
    its run found, read back) at the point's memrefs and input blocks, and for an output the case reads back what the point before left (`Gen.outsAt0` at `t - 1`) — by the frame's rewriting lemma for the case. -/
theorem flushed14_B (c : Dev nD) (t : Fin cfg0.N) (h0 : ¬t.val % 32 = 0) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed14, outsAt0_B m c t h0]

-- no `blocks14`: window 14's index map revisits a block index, or its points could not be enumerated here;
-- the final array is still the frame's `arrAt`, to read with Lib/Pipeline/Value.lean's lemmas by hand

/-- An index that no flushing point's block covers keeps output window 14's array contents at region entry. -/
theorem entry14 (c : Dev nD) (i : S2x5120x128.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the run's contents for that window after the body (`Gen.outsAt0`: its component 3), read through the window's block. -/
theorem flushed15 (c : Dev nD) (t : Fin cfg0.N) :
    (dats m 0 c).flushed 15 t = (cfg0.win 15).cut (grid0.coords t) ((outsAt0 m c t.val t.isLt).2.2.2) := by
  show (cfg0.win 15).cut (grid0.coords t) ((dats m 0 c).after 15 t) = _
  rw [after0_15]

/-- … so at a point where case A runs, what its write-back would write is that case's NAMED TERM for the window (`Gen.out0_A_15`: the pieces
    its run found, read back) at the point's memrefs and input blocks, and for an output the case reads back what the point before left (`Gen.outsAt0` at `t - 1`) — by the frame's rewriting lemma for the case. -/
theorem flushed15_A (c : Dev nD) (t : Fin cfg0.N) (h0 : t.val % 32 = 0) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed15, outsAt0_A m c t h0]

/-- … so at a point where case B runs, what its write-back would write is that case's NAMED TERM for the window (`Gen.out0_B_15`: the pieces
    its run found, read back) at the point's memrefs and input blocks, and for an output the case reads back what the point before left (`Gen.outsAt0` at `t - 1`) — by the frame's rewriting lemma for the case. -/
theorem flushed15_B (c : Dev nD) (t : Fin cfg0.N) (h0 : ¬t.val % 32 = 0) :
    (dats m 0 c).flushed 15 t = (cfg0.win 15).cut (grid0.coords t) (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed15, outsAt0_B m c t h0]

-- no `blocks15`: window 15's index map revisits a block index, or its points could not be enumerated here;
-- the final array is still the frame's `arrAt`, to read with Lib/Pipeline/Value.lean's lemmas by hand

/-- An index that no flushing point's block covers keeps output window 15's array contents at region entry. -/
theorem entry15 (c : Dev nD) (i : S2x8x128.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v93_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v93_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v93_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v93_3) = (dats m 0 c).arrAt 15 cfg0.N :=
  (h c).1 15

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 8 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 8).trans (((dats m 0 c).arrAt_in 8 rfl _).trans ((A_eq m c 8).trans (V_main_arg1 m c)))

/-- After the frame run, argument `main_arg2` is as launched: input window 0 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 0).trans (((dats m 0 c).arrAt_in 0 rfl _).trans ((A_eq m c 0).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v93_0) = (dats m 0 c).arrAt 12 cfg0.N
      ∧ r.2.mem ((c : Thread nD τ).loc main_v93_1) = (dats m 0 c).arrAt 13 cfg0.N
      ∧ r.2.mem ((c : Thread nD τ).loc main_v93_2) = (dats m 0 c).arrAt 14 cfg0.N
      ∧ r.2.mem ((c : Thread nD τ).loc main_v93_3) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post12 m r h c,
      post13 m r h c,
      post14 m r h c,
      post15 m r h c,
      kept_main_arg0 m r h c,
      kept_main_arg1 m r h c,
      kept_main_arg2 m r h c⟩)
    (run_main m ρ)

end Cert.KernelIdeal.Value

end
-- ==== Proof.RowMath.lean ====
module

public import Idealize.ShloMosaic.Lib.Pipeline.ValueKit
public import Idealize.ShloMosaic.Lib.Pointwise
public import Idealize.ShloMosaic.Lib.Claim

/-! One row of an attention with a sink, over the reals: the probabilities and the gradient of the scores, and the two
ways in which the programs write them over the extended reals. -/

@[expose] public section

noncomputable section

namespace Cert.Row

open Idealize.ShloMosaic
open scoped BigOperators

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of extended reals that are all real is real. -/
theorem sum_real {ι : Type} (s : Finset ι) (f : ι → EReal) (g : ι → ℝ) (h : ∀ i ∈ s, f i = (g i : EReal)) :
    ∑ i ∈ s, f i = ((∑ i ∈ s, g i : ℝ) : EReal) := by
  rw [coe_sum]; exact Finset.sum_congr rfl h

variable {J : ℕ} (b : Fin J → Prop) [DecidablePred b] (σ δ : Fin J → ℝ) (κ : ℝ)

/-- The masked scores. -/
def msk (j : Fin J) : EReal := if b j then (σ j : EReal) else ⊥

/-- The largest of the masked scores and the sink. -/
def top : EReal := max (Finset.univ.fold max ⊥ (msk b σ)) (κ : EReal)

theorem fold_lt : Finset.univ.fold max ⊥ (msk b σ) < (⊤ : EReal) := by
  rw [Finset.fold_max_lt]
  refine ⟨bot_lt_top, fun j _ => ?_⟩
  unfold msk
  split
  · exact EReal.coe_lt_top _
  · exact bot_lt_top

def μ : ℝ := (top b σ κ).toReal

theorem top_eq : top b σ κ = (μ b σ κ : EReal) := by
  refine (EReal.coe_toReal ?_ ?_).symm
  · exact (max_lt (fold_lt b σ) (EReal.coe_lt_top κ)).ne
  · exact ((EReal.bot_lt_coe κ).trans_le (le_max_right _ _)).ne'

def E (j : Fin J) : ℝ := if b j then Real.exp (σ j - μ b σ κ) else 0

def ES : ℝ := Real.exp (κ - μ b σ κ)

def S : ℝ := ∑ j, E b σ κ j + ES b σ κ

theorem S_pos : 0 < S b σ κ := by
  refine add_pos_of_nonneg_of_pos (Finset.sum_nonneg fun j _ => ?_) (Real.exp_pos _)
  unfold E; split
  · exact (Real.exp_pos _).le
  · exact le_rfl

/-- The probability of key `j`. -/
def P (j : Fin J) : ℝ := E b σ κ j * (1 / S b σ κ)

/-- The probability of the sink. -/
def PS : ℝ := ES b σ κ * (1 / S b σ κ)

/-- The row's correction: the probabilities against their gradient. -/
def Dl : ℝ := ∑ j, P b σ κ j * δ j

/-- The gradient of score `j`. -/
def DS (j : Fin J) : ℝ := P b σ κ j * (δ j - Dl b σ δ κ)

theorem P_masked (j : Fin J) (h : ¬ b j) : P b σ κ j = 0 := by
  unfold P E; rw [if_neg h, zero_mul]

theorem DS_masked (j : Fin J) (h : ¬ b j) : DS b σ δ κ j = 0 := by
  unfold DS; rw [P_masked b σ κ j h, zero_mul]

theorem msk_congr {σ' : Fin J → ℝ} (h : ∀ j, b j → σ j = σ' j) : msk b σ = msk b σ' := by
  funext j; unfold msk; split
  · rename_i hb; rw [h j hb]
  · rfl

theorem μ_congr {σ' : Fin J → ℝ} (h : ∀ j, b j → σ j = σ' j) : μ b σ κ = μ b σ' κ := by
  unfold μ top; rw [msk_congr b σ h]

theorem E_congr {σ' : Fin J → ℝ} (h : ∀ j, b j → σ j = σ' j) : E b σ κ = E b σ' κ := by
  funext j; unfold E; rw [μ_congr b σ κ h]; split
  · rename_i hb; rw [h j hb]
  · rfl

theorem P_congr {σ' : Fin J → ℝ} (h : ∀ j, b j → σ j = σ' j) : P b σ κ = P b σ' κ := by
  funext j; unfold P S ES; rw [E_congr b σ κ h, μ_congr b σ κ h]

theorem PS_congr {σ' : Fin J → ℝ} (h : ∀ j, b j → σ j = σ' j) : PS b σ κ = PS b σ' κ := by
  unfold PS S ES; rw [E_congr b σ κ h, μ_congr b σ κ h]

theorem Dl_congr {σ' δ' : Fin J → ℝ} (h : ∀ j, b j → σ j = σ' j) (h' : ∀ j, b j → δ j = δ' j) :
    Dl b σ δ κ = Dl b σ' δ' κ := by
  unfold Dl
  refine Finset.sum_congr rfl fun j _ => ?_
  by_cases hb : b j
  · rw [P_congr b σ κ h, h' j hb]
  · rw [P_masked b σ κ j hb, P_masked b σ' κ j hb, zero_mul, zero_mul]

theorem DS_congr {σ' δ' : Fin J → ℝ} (h : ∀ j, b j → σ j = σ' j) (h' : ∀ j, b j → δ j = δ' j) :
    DS b σ δ κ = DS b σ' δ' κ := by
  funext j
  by_cases hb : b j
  · unfold DS; rw [P_congr b σ κ h, h' j hb, Dl_congr b σ δ κ h h']
  · rw [DS_masked b σ δ κ j hb, DS_masked b σ' δ' κ j hb]

/-! ## The first program's form -/

theorem exp_at (j : Fin J) : Ideal.exp (msk b σ j - top b σ κ) = (E b σ κ j : EReal) := by
  rw [top_eq]; unfold msk E; split
  · rw [← EReal.coe_sub, Ideal.exp_coe]
  · rw [EReal.bot_sub, Ideal.exp_bot, EReal.coe_zero]

theorem exp_sink : Ideal.exp ((κ : EReal) - top b σ κ) = (ES b σ κ : EReal) := by
  rw [top_eq, ← EReal.coe_sub, Ideal.exp_coe]; rfl

theorem inv_at : Ideal.div 1 (∑ j, (E b σ κ j : EReal) + (ES b σ κ : EReal)) = ((1 / S b σ κ : ℝ) : EReal) := by
  rw [← coe_sum, ← EReal.coe_add]
  exact (Ideal.div_coe (S_pos b σ κ).ne' 1).trans (one_mul _)

theorem p_at (j : Fin J) : (E b σ κ j : EReal) * Ideal.div 1 (∑ j, (E b σ κ j : EReal) + (ES b σ κ : EReal)) = (P b σ κ j : EReal) := by
  rw [inv_at, ← EReal.coe_mul]; rfl

theorem delta_at : ∑ j, (P b σ κ j : EReal) * (δ j : EReal) = (Dl b σ δ κ : EReal) := by
  unfold Dl; rw [coe_sum]; exact Finset.sum_congr rfl fun j _ => (EReal.coe_mul _ _).symm

theorem ds_at (j : Fin J) : (P b σ κ j : EReal) * ((δ j : EReal) - (Dl b σ δ κ : EReal)) = (DS b σ δ κ j : EReal) := by
  rw [← EReal.coe_sub, ← EReal.coe_mul]; rfl

theorem sink_at : (ES b σ κ : EReal) * Ideal.div 1 (∑ j, (E b σ κ j : EReal) + (ES b σ κ : EReal)) * (Dl b σ δ κ : EReal) = ((PS b σ κ * Dl b σ δ κ : ℝ) : EReal) := by
  rw [inv_at, ← EReal.coe_mul, ← EReal.coe_mul]; rfl

/-! ## The second program's form: the sink is one more column -/

variable (x : Fin (J + 1) → EReal) (hx : ∀ j : Fin J, x j.castSucc = msk b σ j) (hl : x (Fin.last J) = (κ : EReal))

include hx hl in
theorem top_ref : max (⊥ : EReal) (Finset.univ.fold max ⊥ x) = top b σ κ := by
  rw [max_eq_right bot_le]
  refine le_antisymm ?_ ?_
  · rw [Finset.fold_max_le]
    refine ⟨bot_le, fun k _ => ?_⟩
    refine Fin.lastCases ?_ (fun j => ?_) k
    · rw [hl]; exact le_max_right _ _
    · rw [hx]; refine le_trans ?_ (le_max_left _ _)
      exact (Finset.le_fold_max _).2 (Or.inr ⟨j, Finset.mem_univ _, le_rfl⟩)
  · refine max_le ?_ ?_
    · rw [Finset.fold_max_le]
      refine ⟨bot_le, fun j _ => ?_⟩
      rw [← hx]; exact (Finset.le_fold_max _).2 (Or.inr ⟨_, Finset.mem_univ _, le_rfl⟩)
    · rw [← hl]; exact (Finset.le_fold_max _).2 (Or.inr ⟨_, Finset.mem_univ _, le_rfl⟩)

variable (e ct : Fin (J + 1) → EReal) (he : ∀ j : Fin J, e j.castSucc = (E b σ κ j : EReal)) (hel : e (Fin.last J) = (ES b σ κ : EReal))
  (hc : ∀ j : Fin J, ct j.castSucc = (δ j : EReal)) (hcl : ct (Fin.last J) = 0)

include he hel in
theorem sum_ref : ∑ k, e k = (S b σ κ : EReal) := by
  rw [Fin.sum_univ_castSucc, hel]
  unfold S; rw [EReal.coe_add, coe_sum]
  exact congrArg (· + _) (Finset.sum_congr rfl fun j _ => he j)

theorem p_ref (j : Fin J) : Ideal.div (E b σ κ j : EReal) (S b σ κ : EReal) = (P b σ κ j : EReal) := by
  rw [Ideal.div_coe (S_pos b σ κ).ne', ← EReal.coe_mul]; rfl

include he hel hc hcl in
theorem corr_ref : ∑ k, ct k * Ideal.div 1 ((S b σ κ : EReal) * (S b σ κ : EReal)) * e k = ((1 / S b σ κ * Dl b σ δ κ : ℝ) : EReal) := by
  have hS := (S_pos b σ κ).ne'
  have h1 : Ideal.div 1 ((S b σ κ : EReal) * (S b σ κ : EReal)) = ((1 / S b σ κ * (1 / S b σ κ) : ℝ) : EReal) := by
    rw [← EReal.coe_mul]
    refine (Ideal.div_coe (mul_ne_zero hS hS) 1).trans ((one_mul _).trans ?_)
    exact congrArg _ (by field_simp)
  rw [h1, Fin.sum_univ_castSucc, hcl]
  refine (congrArg₂ (fun a b : EReal => a + b) rfl (by rw [zero_mul, zero_mul])).trans ((add_zero _).trans ?_)
  unfold Dl
  rw [Finset.mul_sum, coe_sum]
  refine Finset.sum_congr rfl fun j _ => ?_
  rw [hc, he, ← EReal.coe_mul, ← EReal.coe_mul]
  refine congrArg _ ?_
  unfold P; ring

theorem ds_ref (j : Fin J) : (Ideal.div (δ j : EReal) (S b σ κ : EReal) + -((1 / S b σ κ * Dl b σ δ κ : ℝ) : EReal)) * (E b σ κ j : EReal) = (DS b σ δ κ j : EReal) := by
  rw [Ideal.div_coe (S_pos b σ κ).ne', ← EReal.coe_mul, ← EReal.coe_neg, ← EReal.coe_add, ← EReal.coe_mul]
  refine congrArg _ ?_
  unfold DS P; ring

theorem sink_ref : (Ideal.div 0 (S b σ κ : EReal) + -((1 / S b σ κ * Dl b σ δ κ : ℝ) : EReal)) * (ES b σ κ : EReal) = ((-(PS b σ κ * Dl b σ δ κ) : ℝ) : EReal) := by
  rw [Ideal.div_coe (S_pos b σ κ).ne', zero_mul, zero_add, ← EReal.coe_neg, ← EReal.coe_mul]
  refine congrArg _ ?_
  unfold PS; ring

end Cert.Row

end
-- ==== Proof.AttnData.lean ====
module

public import proofs.«01_k».proof.Proof.RowMath
public import proofs.«01_k».proof.Proof.FinishValue

/-! The attention's inputs as plain functions of position, head and lane, the mask, and the quantities both programs
compute from them: the probabilities and the gradients of the scores. -/

@[expose] public section

set_option maxRecDepth 65536

noncomputable section

open Idealize.ShloMosaic Idealize.ShloMosaic.TcCoe Idealize.SL.Sem
open scoped BigOperators

namespace Cert.Attn

open Cert.Kernel2Ideal (S4096x16)
open Cert.Kernel2Ideal.FinishValue (ang)

/-- A value that is a real number. -/
def IsR (x : EReal) : Prop := ∃ r : ℝ, x = (r : EReal)

theorem IsR.eq {x : EReal} (h : IsR x) : x = (x.toReal : EReal) := by obtain ⟨r, rfl⟩ := h; rw [EReal.toReal_coe]
theorem IsR.add {x y : EReal} (h : IsR x) (h' : IsR y) : IsR (x + y) := by
  obtain ⟨r, rfl⟩ := h; obtain ⟨s, rfl⟩ := h'; exact ⟨r + s, (EReal.coe_add _ _).symm⟩
theorem IsR.sub {x y : EReal} (h : IsR x) (h' : IsR y) : IsR (x - y) := by
  obtain ⟨r, rfl⟩ := h; obtain ⟨s, rfl⟩ := h'; exact ⟨r - s, (EReal.coe_sub _ _).symm⟩
theorem IsR.mul {x y : EReal} (h : IsR x) (h' : IsR y) : IsR (x * y) := by
  obtain ⟨r, rfl⟩ := h; obtain ⟨s, rfl⟩ := h'; exact ⟨r * s, (EReal.coe_mul _ _).symm⟩
theorem IsR.neg {x : EReal} (h : IsR x) : IsR (-x) := by
  obtain ⟨r, rfl⟩ := h; exact ⟨-r, (EReal.coe_neg _).symm⟩
theorem IsR.cos {x : EReal} (h : IsR x) : IsR (Ideal.cos x) := by obtain ⟨r, rfl⟩ := h; exact ⟨_, rfl⟩
theorem IsR.sin {x : EReal} (h : IsR x) : IsR (Ideal.sin x) := by obtain ⟨r, rfl⟩ := h; exact ⟨_, rfl⟩

/-- The factor the scores carry. -/
def sc : ℝ := (Ideal.ofBits .f32 1035273459#32).toReal

theorem sc_eq : Ideal.ofBits .f32 1035273459#32 = (sc : EReal) :=
  IsR.eq (by
    simp only [Ideal.ofBits, Ideal.ieee]
    norm_num
    exact ⟨_, rfl⟩)

theorem ninf : Ideal.ofBits .f32 4286578688#32 = (⊥ : EReal) := by simp [Ideal.ofBits, Ideal.ieee]

theorem ang_real (p : Fin 4096) (f : Fin 16) : IsR (ang (ix2 p f)) := by
  pointwise [ang]
  have h0 : ∀ w : BitVec 32, IsR (FloatOps.sitofp (F := Ideal) FTy.f32 w) := fun w => ⟨_, rfl⟩
  have h1 : IsR (Ideal.ofBits FTy.f32 1223959552#32) := by
    simp only [Ideal.ofBits, Ideal.ieee]
    norm_num
    exact ⟨_, rfl⟩
  have h2 : IsR (Ideal.ofBits FTy.f32 1073741824#32) := by
    simp only [Ideal.ofBits, Ideal.ieee]
    norm_num
    exact ⟨_, rfl⟩
  have h3 : Ideal.ofBits FTy.f32 1107296256#32 = ((32 : ℝ) : EReal) := by
    simp [Ideal.ofBits, Ideal.ieee]
    rw [← EReal.coe_mul]
    norm_num
  refine (h0 _).mul ?_
  obtain ⟨a, ha⟩ := h1
  obtain ⟨b, hb⟩ := (h2.mul (h0 (BitVec.ofNat 32 f.val))).neg
  refine Eq.mp (congrArg (fun x => IsR (Ideal.pow x _)) ha.symm) ?_
  refine Eq.mp (congrArg (fun x => IsR (Ideal.pow _ (Ideal.div x _))) hb.symm) ?_
  rw [h3, Ideal.div_coe (by norm_num), ← EReal.coe_mul]
  exact ⟨_, rfl⟩

/-- A head's row at position `p`, turned by the position's angle on its first thirty-two lanes. -/
def rot (x : Fin 128 → EReal) (p : Fin 4096) (d : Fin 128) : EReal :=
  if h : d.val < 32 then
    if h' : d.val < 16 then
      x d * Ideal.cos (ang (ix2 p ⟨d.val, h'⟩)) - x ⟨d.val + 16, by omega⟩ * Ideal.sin (ang (ix2 p ⟨d.val, h'⟩))
    else
      x d * Ideal.cos (ang (ix2 p ⟨d.val - 16, by omega⟩)) + x ⟨d.val - 16, by omega⟩ * Ideal.sin (ang (ix2 p ⟨d.val - 16, by omega⟩))
  else x d

theorem rot_real (x : Fin 128 → EReal) (hx : ∀ d, IsR (x d)) (p : Fin 4096) (d : Fin 128) : IsR (rot x p d) := by
  unfold rot
  split
  · split
    · exact ((hx _).mul (ang_real _ _).cos).sub ((hx _).mul (ang_real _ _).sin)
    · exact ((hx _).mul (ang_real _ _).cos).add ((hx _).mul (ang_real _ _).sin)
  · exact hx _

/-- The rotation's transpose. -/
def unrot (x : Fin 128 → EReal) (p : Fin 4096) (d : Fin 128) : EReal :=
  if h : d.val < 16 then
    x d * Ideal.cos (ang (ix2 p ⟨d.val, h⟩)) + x ⟨d.val + 16, by omega⟩ * Ideal.sin (ang (ix2 p ⟨d.val, h⟩))
  else if h' : d.val < 32 then
    x d * Ideal.cos (ang (ix2 p ⟨d.val - 16, by omega⟩)) + -(x ⟨d.val - 16, by omega⟩ * Ideal.sin (ang (ix2 p ⟨d.val - 16, by omega⟩)))
  else x d

/-! ## The mask -/

/-- The word that says whether query `i` of block `n` sees key `j` of its window. -/
def mask (n : Fin 32) (i : Fin 128) (j : Fin 384) : BitVec 1 :=
  IntOp.andi
      (IntOp.andi
        (IntOp.cmpi CmpIPredicate.sge
          (IntOp.addi (IntOp.subi (IntOp.muli (BitVec.ofNat 32 n.val) 128#32) 128#32) (BitVec.ofNat 32 j.val)) 0#32)
        (IntOp.cmpi CmpIPredicate.slt
          (IntOp.addi (IntOp.subi (IntOp.muli (BitVec.ofNat 32 n.val) 128#32) 128#32) (BitVec.ofNat 32 j.val)) 4096#32))
      (IntOp.cmpi CmpIPredicate.sle
        (IntOp.absi
          (IntOp.subi (BitVec.ofNat 32 (n.val * 128 + i.val))
            (IntOp.addi (IntOp.subi (IntOp.muli (BitVec.ofNat 32 n.val) 128#32) 128#32) (BitVec.ofNat 32 j.val))))
        128#32)

/-- Key `j` of block `n`'s window is a position of the sequence. -/
abbrev Inside (n : Fin 32) (j : Fin 384) : Prop := 128 ≤ n.val * 128 + j.val ∧ n.val * 128 + j.val < 4224

theorem and1 (x y : BitVec 1) : IntOp.andi x y = 1#1 → x = 1#1 ∧ y = 1#1 := by
  revert x y; decide

theorem inside_of_mask (n : Fin 32) (i : Fin 128) (j : Fin 384) (h : mask n i j = 1#1) : Inside n j := by
  have h1 := (and1 _ _ ((and1 _ _ h).1)).1
  have h2 := (and1 _ _ ((and1 _ _ h).1)).2
  have hn := n.isLt
  have hj := j.isLt
  have e : (IntOp.addi (IntOp.subi (IntOp.muli (BitVec.ofNat 32 n.val) 128#32) 128#32) (BitVec.ofNat 32 j.val)).toNat = (n.val * 128 + j.val + 4294967296 - 128) % 4294967296 := by
    simp only [IntOp.addi, IntOp.subi, IntOp.muli, BitVec.toNat_add, BitVec.toNat_sub, BitVec.toNat_mul, BitVec.toNat_ofNat]
    omega
  simp only [IntOp.cmpi] at h1 h2
  have b1 : ∀ b : Bool, BitVec.ofBool b = 1#1 → b = true := by decide
  replace h1 := b1 _ h1
  replace h2 := b1 _ h2
  rw [BitVec.sle_iff_toInt_le] at h1
  rw [BitVec.slt_iff_toInt_lt] at h2
  rw [show (0#32).toInt = 0 by decide, BitVec.toInt_eq_toNat_cond, e] at h1
  rw [show (4096#32).toInt = 4096 by decide, BitVec.toInt_eq_toNat_cond, e] at h2
  constructor <;> split_ifs at h1 h2 <;> omega

/-! ## The inputs, entry by entry -/

variable (z : (⟨2, ![4096, 3584]⟩ : Shape).Idx → EReal) (dm : (⟨2, ![4096, 2048]⟩ : Shape).Idx → EReal) (sk : (⟨1, ![8]⟩ : Shape).Idx → EReal)

/-- The query of head `h` at position `p`, turned. -/
def xq (p : Fin 4096) (h : Fin 8) (d : Fin 128) : EReal := rot (fun d => z (ix2 p ⟨h.val * 128 + d.val, by omega⟩)) p d
/-- The key of group `g` at position `p`, turned. -/
def xk (p : Fin 4096) (g : Fin 2) (d : Fin 128) : EReal := rot (fun d => z (ix2 p ⟨1024 + (g.val * 128 + d.val), by omega⟩)) p d
/-- The value of group `g` at position `p`. -/
def xv (p : Fin 4096) (g : Fin 2) (d : Fin 128) : EReal := z (ix2 p ⟨1280 + (g.val * 128 + d.val), by omega⟩)
/-- The gradient that arrives at head `h`, position `p`. -/
def xo (p : Fin 4096) (h : Fin 8) (d : Fin 128) : EReal := dm (ix2 p ⟨h.val * 128 + d.val, by omega⟩)

def rq (p : Fin 4096) (h : Fin 8) (d : Fin 128) : ℝ := (xq z p h d).toReal
def rk (p : Fin 4096) (g : Fin 2) (d : Fin 128) : ℝ := (xk z p g d).toReal
def rv (p : Fin 4096) (g : Fin 2) (d : Fin 128) : ℝ := (xv z p g d).toReal
def ro (p : Fin 4096) (h : Fin 8) (d : Fin 128) : ℝ := (xo dm p h d).toReal
def rs (h : Fin 8) : ℝ := (sk (ix1 h)).toReal

/-- Every entry that is read of the three inputs is a real number. -/
structure Real3 : Prop where
  hz : ∀ (p : Fin 4096) (j : Fin 3584), j.val < 1536 → IsR (z (ix2 p j))
  hd : ∀ (p : Fin 4096) (j : Fin 2048), j.val < 1024 → IsR (dm (ix2 p j))
  hs : ∀ h : Fin 8, IsR (sk (ix1 h))

variable {z dm sk} in
theorem Real3.q (H : Real3 z dm sk) (p : Fin 4096) (h : Fin 8) (d : Fin 128) : xq z p h d = (rq z p h d : EReal) := (rot_real _ (fun _ => H.hz _ _ (by dsimp only; omega)) _ _).eq
variable {z dm sk} in
theorem Real3.k (H : Real3 z dm sk) (p : Fin 4096) (g : Fin 2) (d : Fin 128) : xk z p g d = (rk z p g d : EReal) := (rot_real _ (fun _ => H.hz _ _ (by dsimp only; omega)) _ _).eq
variable {z dm sk} in
theorem Real3.v (H : Real3 z dm sk) (p : Fin 4096) (g : Fin 2) (d : Fin 128) : xv z p g d = (rv z p g d : EReal) := (H.hz _ _ (by dsimp only; omega)).eq
variable {z dm sk} in
theorem Real3.o (H : Real3 z dm sk) (p : Fin 4096) (h : Fin 8) (d : Fin 128) : xo dm p h d = (ro dm p h d : EReal) := (H.hd _ _ (by dsimp only; omega)).eq
variable {z dm sk} in
theorem Real3.s (H : Real3 z dm sk) (h : Fin 8) : sk (ix1 h) = (rs sk h : EReal) := (H.hs _).eq

/-! ## One row -/

/-- Position `i` of block `n`. -/
abbrev pos (n : Fin 32) (i : Fin 128) : Fin 4096 := ⟨n.val * 128 + i.val, by omega⟩
/-- Query head `r` of group `g`. -/
abbrev hd (g : Fin 2) (r : Fin 4) : Fin 8 := ⟨g.val * 4 + r.val, by omega⟩

/-- Key or value `j` of block `n`'s window, zero past the ends of the sequence. -/
def win (f : Fin 4096 → Fin 2 → Fin 128 → ℝ) (n : Fin 32) (j : Fin 384) (g : Fin 2) (d : Fin 128) : ℝ :=
  if h : Inside n j then f ⟨n.val * 128 + j.val - 128, by have := h.1; have := h.2; omega⟩ g d else 0

def bb (n : Fin 32) (i : Fin 128) (j : Fin 384) : Prop := mask n i j = 1#1
instance (n : Fin 32) (i : Fin 128) : DecidablePred (bb n i) := fun j => inferInstanceAs (Decidable (mask n i j = 1#1))

/-- The scaled score. -/
def sg (n : Fin 32) (g : Fin 2) (r : Fin 4) (i : Fin 128) (j : Fin 384) : ℝ :=
  (∑ d, rq z (pos n i) (hd g r) d * win (rk z) n j g d) * sc
/-- The gradient that arrives at the probability. -/
def dl (n : Fin 32) (g : Fin 2) (r : Fin 4) (i : Fin 128) (j : Fin 384) : ℝ :=
  ∑ d, ro dm (pos n i) (hd g r) d * win (rv z) n j g d
/-- The probability. -/
def PP (n : Fin 32) (g : Fin 2) (r : Fin 4) (i : Fin 128) (j : Fin 384) : ℝ :=
  Row.P (bb n i) (sg z n g r i) (rs sk (hd g r)) j
/-- The gradient of the unscaled score. -/
def DD (n : Fin 32) (g : Fin 2) (r : Fin 4) (i : Fin 128) (j : Fin 384) : ℝ :=
  Row.DS (bb n i) (sg z n g r i) (dl z dm n g r i) (rs sk (hd g r)) j * sc
/-- The row's share of the gradient of the head's sink. -/
def KK (n : Fin 32) (g : Fin 2) (r : Fin 4) (i : Fin 128) : ℝ :=
  Row.PS (bb n i) (sg z n g r i) (rs sk (hd g r)) * Row.Dl (bb n i) (sg z n g r i) (dl z dm n g r i) (rs sk (hd g r))

/-! ## The results -/

/-- The gradient of the turned query. -/
def gq (p : Fin 4096) (h : Fin 8) (d : Fin 128) : EReal :=
  ((∑ j, DD z dm sk ⟨p.val / 128, by omega⟩ ⟨h.val / 4, by omega⟩ ⟨h.val % 4, by omega⟩ ⟨p.val % 128, by omega⟩ j * win (rk z) ⟨p.val / 128, by omega⟩ j ⟨h.val / 4, by omega⟩ d : ℝ) : EReal)
/-- Block `n`'s share of the gradient of the turned key at place `j` of its window. -/
def gk (n : Fin 32) (j : Fin 384) (g : Fin 2) (d : Fin 128) : ℝ := ∑ r, ∑ i, DD z dm sk n g r i j * rq z (pos n i) (hd g r) d
/-- Block `n`'s share of the gradient of the value at place `j` of its window. -/
def gv (n : Fin 32) (j : Fin 384) (g : Fin 2) (d : Fin 128) : ℝ := ∑ r, ∑ i, PP z sk n g r i j * ro dm (pos n i) (hd g r) d
/-- Block `n`'s share of the gradient of a sink. -/
def gs (n : Fin 32) (g : Fin 2) (r : Fin 4) : ℝ := ∑ i, KK z dm sk n g r i

/-- The blocks' shares added up over the blocks whose windows reach row `x` of the padded sequence. -/
def acc (f : Fin 32 → Fin 384 → Fin 2 → Fin 128 → ℝ) (g : Fin 2) (x : ℕ) (d : Fin 128) : ℝ :=
  ∑ n : Fin 32, if h : n.val * 128 + 384 ≤ x ∧ x - (n.val * 128 + 384) < 384 then f n ⟨x - (n.val * 128 + 384), h.2⟩ g d else 0

/-- The four results. -/
def RQ : (⟨2, ![4096, 1024]⟩ : Shape).Idx → EReal := fun y =>
  unrot (fun d => gq z dm sk (y 0) ⟨(y 1).val / 128, by have h : (y 1).val < 1024 := (y 1).isLt; omega⟩ d) (y 0) ⟨(y 1).val % 128, by omega⟩
def RK : (⟨3, ![2, 5120, 128]⟩ : Shape).Idx → EReal := fun y => (acc (gk z dm sk) (y 0) (y 1).val (y 2) : EReal)
def RV : (⟨3, ![2, 5120, 128]⟩ : Shape).Idx → EReal := fun y => (acc (gv z dm sk) (y 0) (y 1).val (y 2) : EReal)
def RS : (⟨3, ![2, 8, 128]⟩ : Shape).Idx → EReal := fun y =>
  if h : (y 1).val < 4 then ((-(∑ n, gs z dm sk n (y 0) ⟨(y 1).val, h⟩) : ℝ) : EReal) else 0

end Cert.Attn

end
-- ==== Proof.AttnRope.lean ====
module

public import proofs.«01_k».proof.Proof.Gen.KernelIdeal.Launch
public import proofs.«01_k».proof.Proof.AttnData
public import Idealize.ShloMosaic.Lib.Pipeline.ValueKit
public import Idealize.ShloMosaic.Lib.Pointwise
public import Idealize.ShloMosaic.Lib.Claim

/-! The rotation of the queries and keys as the host computes it, entry by entry. -/

@[expose] public section

set_option maxRecDepth 65536

noncomputable section

open Idealize.ShloMosaic Idealize.ShloMosaic.TcCoe Idealize.SL.Sem
open scoped BigOperators

open Idealize.ShloMosaic.Pipeline (Dat)

namespace Cert.KernelIdeal.AttnRope

open Cert.KernelIdeal Cert.KernelIdeal.Gen
open Cert.Kernel2Ideal.FinishValue (ang)
open Cert.Attn

/-- The rotation of the query heads, as the host computes it. -/
def rope8 (x : FVec Ideal S1x4096x8x128 .f32) : FVec Ideal S1x4096x8x128 .f32 :=
  concatenate S1x4096x8x128 3 [⟨S1x4096x8x32, (concatenate S1x4096x8x32 3 [⟨S1x4096x8x16, (subf (mulf (extractStridedSlice S1x4096x8x16 ![0, 0, 0, 0] x slices_S1x4096x8x128_S1x4096x8x16_0_0_0_0) (broadcastInDim S1x4096x8x16 ![0, 1, 2, 3] bcast_S1x4096x1x16_S1x4096x8x16_0_1_2_3 (broadcastInDim S1x4096x1x16 ![1, 3] bcast_S4096x16_S1x4096x1x16_1_3 (Host.cos ang)))) (mulf (extractStridedSlice S1x4096x8x16 ![0, 0, 0, 16] x slices_S1x4096x8x128_S1x4096x8x16_0_0_0_16) (broadcastInDim S1x4096x8x16 ![0, 1, 2, 3] bcast_S1x4096x1x16_S1x4096x8x16_0_1_2_3 (broadcastInDim S1x4096x1x16 ![1, 3] bcast_S4096x16_S1x4096x1x16_1_3 (Host.sin ang)))) : FVec Ideal S1x4096x8x16 .f32)⟩, ⟨S1x4096x8x16, (addf (mulf (extractStridedSlice S1x4096x8x16 ![0, 0, 0, 16] x slices_S1x4096x8x128_S1x4096x8x16_0_0_0_16) (broadcastInDim S1x4096x8x16 ![0, 1, 2, 3] bcast_S1x4096x1x16_S1x4096x8x16_0_1_2_3 (broadcastInDim S1x4096x1x16 ![1, 3] bcast_S4096x16_S1x4096x1x16_1_3 (Host.cos ang)))) (mulf (extractStridedSlice S1x4096x8x16 ![0, 0, 0, 0] x slices_S1x4096x8x128_S1x4096x8x16_0_0_0_0) (broadcastInDim S1x4096x8x16 ![0, 1, 2, 3] bcast_S1x4096x1x16_S1x4096x8x16_0_1_2_3 (broadcastInDim S1x4096x1x16 ![1, 3] bcast_S4096x16_S1x4096x1x16_1_3 (Host.sin ang)))) : FVec Ideal S1x4096x8x16 .f32)⟩] concatenates_S1x4096x8x16_S1x4096x8x16_S1x4096x8x32_d3 : FVec Ideal S1x4096x8x32 .f32)⟩, ⟨S1x4096x8x96, (extractStridedSlice S1x4096x8x96 ![0, 0, 0, 32] x slices_S1x4096x8x128_S1x4096x8x96_0_0_0_32 : FVec Ideal S1x4096x8x96 .f32)⟩] concatenates_S1x4096x8x32_S1x4096x8x96_S1x4096x8x128_d3

theorem rope8_at (x : FVec Ideal S1x4096x8x128 .f32) (p : Fin 4096) (h : Fin 8) (d : Fin 128) :
    rope8 x (ix4 0 p h d) = rot (fun d => x (ix4 0 p h d)) p d := by
  pointwise [rope8]
  unfold rot
  by_cases h1 : d.val < 32
  · rw [dif_pos h1, dif_pos h1]
    by_cases h2 : d.val < 16
    · rw [dif_pos h2, dif_pos h2]
      have e : ∀ h : 16 + d.val < 128, (⟨16 + d.val, h⟩ : Fin 128) = ⟨d.val + 16, by omega⟩ := fun _ => Fin.ext (Nat.add_comm _ _)
      simp only [e]
    · rw [dif_neg h2, dif_neg h2]
      have e : ∀ h : 16 + (d.val - 16) < 128, (⟨16 + (d.val - 16), h⟩ : Fin 128) = d := fun _ => Fin.ext (by simp only; omega)
      simp only [e]
  · rw [dif_neg h1, dif_neg h1]
    have e : ∀ h : 32 + (d.val - 32) < 128, (⟨32 + (d.val - 32), h⟩ : Fin 128) = d := fun _ => Fin.ext (by simp only; omega)
    simp only [e]

/-- The rotation of the key heads, as the host computes it. -/
def rope2 (x : FVec Ideal S1x4096x2x128 .f32) : FVec Ideal S1x4096x2x128 .f32 :=
  concatenate S1x4096x2x128 3 [⟨S1x4096x2x32, (concatenate S1x4096x2x32 3 [⟨S1x4096x2x16, (subf (mulf (extractStridedSlice S1x4096x2x16 ![0, 0, 0, 0] x slices_S1x4096x2x128_S1x4096x2x16_0_0_0_0) (broadcastInDim S1x4096x2x16 ![0, 1, 2, 3] bcast_S1x4096x1x16_S1x4096x2x16_0_1_2_3 (broadcastInDim S1x4096x1x16 ![1, 3] bcast_S4096x16_S1x4096x1x16_1_3 (Host.cos ang)))) (mulf (extractStridedSlice S1x4096x2x16 ![0, 0, 0, 16] x slices_S1x4096x2x128_S1x4096x2x16_0_0_0_16) (broadcastInDim S1x4096x2x16 ![0, 1, 2, 3] bcast_S1x4096x1x16_S1x4096x2x16_0_1_2_3 (broadcastInDim S1x4096x1x16 ![1, 3] bcast_S4096x16_S1x4096x1x16_1_3 (Host.sin ang)))) : FVec Ideal S1x4096x2x16 .f32)⟩, ⟨S1x4096x2x16, (addf (mulf (extractStridedSlice S1x4096x2x16 ![0, 0, 0, 16] x slices_S1x4096x2x128_S1x4096x2x16_0_0_0_16) (broadcastInDim S1x4096x2x16 ![0, 1, 2, 3] bcast_S1x4096x1x16_S1x4096x2x16_0_1_2_3 (broadcastInDim S1x4096x1x16 ![1, 3] bcast_S4096x16_S1x4096x1x16_1_3 (Host.cos ang)))) (mulf (extractStridedSlice S1x4096x2x16 ![0, 0, 0, 0] x slices_S1x4096x2x128_S1x4096x2x16_0_0_0_0) (broadcastInDim S1x4096x2x16 ![0, 1, 2, 3] bcast_S1x4096x1x16_S1x4096x2x16_0_1_2_3 (broadcastInDim S1x4096x1x16 ![1, 3] bcast_S4096x16_S1x4096x1x16_1_3 (Host.sin ang)))) : FVec Ideal S1x4096x2x16 .f32)⟩] concatenates_S1x4096x2x16_S1x4096x2x16_S1x4096x2x32_d3 : FVec Ideal S1x4096x2x32 .f32)⟩, ⟨S1x4096x2x96, (extractStridedSlice S1x4096x2x96 ![0, 0, 0, 32] x slices_S1x4096x2x128_S1x4096x2x96_0_0_0_32 : FVec Ideal S1x4096x2x96 .f32)⟩] concatenates_S1x4096x2x32_S1x4096x2x96_S1x4096x2x128_d3

theorem rope2_at (x : FVec Ideal S1x4096x2x128 .f32) (p : Fin 4096) (h : Fin 2) (d : Fin 128) :
    rope2 x (ix4 0 p h d) = rot (fun d => x (ix4 0 p h d)) p d := by
  pointwise [rope2]
  unfold rot
  by_cases h1 : d.val < 32
  · rw [dif_pos h1, dif_pos h1]
    by_cases h2 : d.val < 16
    · rw [dif_pos h2, dif_pos h2]
      have e : ∀ h : 16 + d.val < 128, (⟨16 + d.val, h⟩ : Fin 128) = ⟨d.val + 16, by omega⟩ := fun _ => Fin.ext (Nat.add_comm _ _)
      simp only [e]
    · rw [dif_neg h2, dif_neg h2]
      have e : ∀ h : 16 + (d.val - 16) < 128, (⟨16 + (d.val - 16), h⟩ : Fin 128) = d := fun _ => Fin.ext (by simp only; omega)
      simp only [e]
  · rw [dif_neg h1, dif_neg h1]
    have e : ∀ h : 32 + (d.val - 32) < 128, (⟨32 + (d.val - 32), h⟩ : Fin 128) = d := fun _ => Fin.ext (by simp only; omega)
    simp only [e]

def q8 (z : FVec Ideal S4096x3584 .bf16) : FVec Ideal S1x4096x8x128 .f32 :=
  shapeCast _ (extf .f32 (extractStridedSlice S4096x1024 ![0, 0] z slices_S4096x3584_S4096x1024_0_0) bitsLt_bf16_f32 : FVec Ideal S4096x1024 .f32) shapeCasts_S4096x1024_S1x4096x8x128
def k2 (z : FVec Ideal S4096x3584 .bf16) : FVec Ideal S1x4096x2x128 .f32 :=
  shapeCast _ (extf .f32 (extractStridedSlice S4096x256 ![0, 1024] z slices_S4096x3584_S4096x256_0_1024) bitsLt_bf16_f32 : FVec Ideal S4096x256 .f32) shapeCasts_S4096x256_S1x4096x2x128

theorem q8_at (z : FVec Ideal S4096x3584 .bf16) (p : Fin 4096) (h : Fin 8) (d : Fin 128) :
    q8 z (ix4 0 p h d) = z (ix2 p ⟨h.val * 128 + d.val, by omega⟩) := by
  pointwise [q8]

theorem k2_at (z : FVec Ideal S4096x3584 .bf16) (p : Fin 4096) (h : Fin 2) (d : Fin 128) :
    k2 z (ix4 0 p h d) = z (ix2 p ⟨1024 + (h.val * 128 + d.val), by omega⟩) := by
  pointwise [k2]

/-- The queries, keys and values side by side, as the call reads them. -/
def zr (z : FVec Ideal S4096x3584 .bf16) : FVec Ideal S4096x3584 .bf16 :=
  concatenate S4096x3584 1 [⟨S4096x1024, (truncf .bf16 (shapeCast _ (rope8 (q8 z)) shapeCasts_S1x4096x8x128_S4096x1024 : FVec Ideal S4096x1024 .f32) bitsLt_bf16_f32 : FVec Ideal S4096x1024 .bf16)⟩, ⟨S4096x256, (truncf .bf16 (shapeCast _ (rope2 (k2 z)) shapeCasts_S1x4096x2x128_S4096x256 : FVec Ideal S4096x256 .f32) bitsLt_bf16_f32 : FVec Ideal S4096x256 .bf16)⟩, ⟨S4096x2304, (extractStridedSlice S4096x2304 ![0, 1280] z slices_S4096x3584_S4096x2304_0_1280 : FVec Ideal S4096x2304 .bf16)⟩] concatenates_S4096x1024_S4096x256_S4096x2304_S4096x3584_d1

theorem zr_q (z : FVec Ideal S4096x3584 .bf16) (p : Fin 4096) (h : Fin 8) (d : Fin 128) (x : Fin 3584) (hx : x.val = h.val * 128 + d.val) :
    zr z (ix2 p x) = xq z p h d := by
  pointwise [zr]
  rw [dif_pos (by omega)]
  refine (rope8_at _ _ _ _).trans ?_
  have e1 : ∀ h', (⟨x.val / 128, h'⟩ : Fin 8) = h := fun _ => Fin.ext (by simp only; omega)
  have e2 : ∀ h', (⟨x.val % 128, h'⟩ : Fin 128) = d := fun _ => Fin.ext (by simp only; omega)
  simp only [e1, e2, q8_at]
  rfl

theorem zr_k (z : FVec Ideal S4096x3584 .bf16) (p : Fin 4096) (h : Fin 2) (d : Fin 128) (x : Fin 3584) (hx : x.val = 1024 + (h.val * 128 + d.val)) :
    zr z (ix2 p x) = xk z p h d := by
  pointwise [zr]
  rw [dif_neg (by omega), dif_pos (by omega)]
  refine (rope2_at _ _ _ _).trans ?_
  have e1 : ∀ h', (⟨(x.val - 1024) / 128, h'⟩ : Fin 2) = h := fun _ => Fin.ext (by simp only; omega)
  have e2 : ∀ h', (⟨(x.val - 1024) % 128, h'⟩ : Fin 128) = d := fun _ => Fin.ext (by simp only; omega)
  simp only [e1, e2, k2_at]
  rfl

theorem zr_v (z : FVec Ideal S4096x3584 .bf16) (p : Fin 4096) (h : Fin 2) (d : Fin 128) (x : Fin 3584) (hx : x.val = 1280 + (h.val * 128 + d.val)) :
    zr z (ix2 p x) = xv z p h d := by
  pointwise [zr]
  rw [dif_neg (by omega), dif_neg (by omega)]
  refine congrArg (fun k => z (ix2 p k)) (Fin.ext ?_)
  show 1280 + _ = 1280 + _
  omega

end Cert.KernelIdeal.AttnRope

end
-- ==== Proof.AttnHost.lean ====
module

public import proofs.«01_k».proof.Proof.AttnRun
public import proofs.«01_k».proof.Proof.AttnRope
public import Idealize.ShloMosaic.Lib.Pipeline.ValueKit
public import Idealize.ShloMosaic.Lib.Pointwise
public import Idealize.ShloMosaic.Lib.StableHlo.RunRead
public import Idealize.ShloMosaic.Lib.Claim

/-! The attention backward call: what the host computes before it, entry by entry. -/

@[expose] public section

set_option maxRecDepth 65536

noncomputable section

open Idealize.ShloMosaic Idealize.ShloMosaic.TcCoe Idealize.SL.Sem
open scoped BigOperators

open Idealize.ShloMosaic.Pipeline (Dat)

namespace Cert.KernelIdeal.AttnHost

open Cert.KernelIdeal Cert.KernelIdeal.Gen
open Cert.Kernel2Ideal.FinishValue (ang)
open Cert.Attn Cert.KernelIdeal.AttnRope

variable (m : (ℓ : Loc nD τ sig) → Buf (Elt Ideal) ℓ)

/-- The three arguments' contents. -/
def Z (c : Dev nD) : FVec Ideal S4096x3584 .bf16 := m ((c.tc : Thread nD τ).loc main_arg0)
def DM (c : Dev nD) : FVec Ideal S4096x2048 .bf16 := m ((c.tc : Thread nD τ).loc main_arg1)
def SK (c : Dev nD) : FVec Ideal S8 .f32 := m ((c.tc : Thread nD τ).loc main_arg2)

set_option maxHeartbeats 4000000 in
theorem zr_eq (c : Dev nD) : V m c main_v66 = zr (Z m c) := by
  show StableHlo.after hostOps0 (fun b => m (c, b)) (Proc.devRef .tc main_v66) = _
  after_reads_simp
  rfl

/-- The table of cosines, one on the lanes that do not turn. -/
theorem tab_c (c : Dev nD) : V m c main_v86 = concatenate S4096x128 1 [⟨S4096x16, (Host.cos ang : FVec Ideal S4096x16 .f32)⟩, ⟨S4096x16, (Host.cos ang : FVec Ideal S4096x16 .f32)⟩, ⟨S4096x96, (broadcastInDim S4096x96 ![] bcast_S_S4096x96 (constant S_ .f32 0x3F800000#32) : FVec Ideal S4096x96 .f32)⟩] concatenates_S4096x16_S4096x16_S4096x96_S4096x128_d1 := rfl

/-- The table of negated sines, on the first sixteen lanes. -/
theorem tab_sa (c : Dev nD) : V m c main_v89 = concatenate S4096x128 1 [⟨S4096x16, (Host.negf (Host.sin ang) : FVec Ideal S4096x16 .f32)⟩, ⟨S4096x112, (broadcastInDim S4096x112 ![] bcast_S_S4096x112 (constant S_ .f32 0x00000000#32) : FVec Ideal S4096x112 .f32)⟩] concatenates_S4096x16_S4096x112_S4096x128_d1 := rfl

/-- The table of sines, on the next sixteen lanes. -/
theorem tab_sb (c : Dev nD) : V m c main_v92 = concatenate S4096x128 1 [⟨S4096x16, (broadcastInDim S4096x16 ![] bcast_S_S4096x16 (constant S_ .f32 0x00000000#32) : FVec Ideal S4096x16 .f32)⟩, ⟨S4096x16, (Host.sin ang : FVec Ideal S4096x16 .f32)⟩, ⟨S4096x96, (broadcastInDim S4096x96 ![] bcast_S_S4096x96 (constant S_ .f32 0x00000000#32) : FVec Ideal S4096x96 .f32)⟩] concatenates_S4096x16_S4096x16_S4096x96_S4096x128_d1 := rfl

theorem tab_c_apply (c : Dev nD) (p : Fin 4096) (d : Fin 128) : V m c main_v86 (ix2 p d) =
    (if h : d.val < 16 then Ideal.cos (ang (ix2 p ⟨d.val, h⟩)) else if h' : d.val < 32 then Ideal.cos (ang (ix2 p ⟨d.val - 16, by omega⟩)) else (1 : EReal)) := by
  rw [tab_c]
  pointwise
  split
  · rfl
  · by_cases h : d.val < 32
    · rw [dif_pos (by omega), dif_pos h]
    · rw [dif_neg (by omega), dif_neg h]

theorem tab_sa_apply (c : Dev nD) (p : Fin 4096) (d : Fin 128) : V m c main_v89 (ix2 p d) =
    (if h : d.val < 16 then -Ideal.sin (ang (ix2 p ⟨d.val, h⟩)) else (0 : EReal)) := by
  rw [tab_sa]
  pointwise

theorem tab_sb_apply (c : Dev nD) (p : Fin 4096) (d : Fin 128) : V m c main_v92 (ix2 p d) =
    (if h : 16 ≤ d.val ∧ d.val < 32 then Ideal.sin (ang (ix2 p ⟨d.val - 16, by omega⟩)) else (0 : EReal)) := by
  rw [tab_sb]
  pointwise
  by_cases h : 16 ≤ d.val ∧ d.val < 32
  · rw [dif_neg (by omega), dif_pos (by omega), dif_pos h]
  · rw [dif_neg h]
    split
    · rfl
    · rw [dif_neg (by omega)]

end Cert.KernelIdeal.AttnHost

end
-- ==== Proof.AttnBlocks.lean ====
module

public import proofs.«01_k».proof.Proof.AttnHost

/-! The attention backward call: the blocks a grid point reads, and what its body computes of one row, as real numbers. -/

@[expose] public section

set_option maxRecDepth 65536

noncomputable section

open Idealize.ShloMosaic Idealize.ShloMosaic.TcCoe Idealize.SL.Sem
open scoped BigOperators

open Idealize.ShloMosaic.Pipeline (Dat)

namespace Cert.KernelIdeal.AttnBlocks

open Cert.KernelIdeal Cert.KernelIdeal.Gen Cert.KernelIdeal.AttnHost Cert.KernelIdeal.AttnRope
open Cert.Attn

variable (m : (ℓ : Loc nD τ sig) → Buf (Elt Ideal) ℓ)

/-- Every window's block index in terms of the point's number. -/
theorem idx_val : ∀ t : Fin cfg0.N, win0_0.index t = ![0]
    ∧ win0_1.index t = ![t.val % 32, t.val / 32]
    ∧ win0_2.index t = ![t.val % 32 - 1, 8 + t.val / 32]
    ∧ win0_3.index t = ![t.val % 32, 8 + t.val / 32]
    ∧ win0_4.index t = ![min (t.val % 32 + 1) 31, 8 + t.val / 32]
    ∧ win0_5.index t = ![t.val % 32 - 1, 10 + t.val / 32]
    ∧ win0_6.index t = ![t.val % 32, 10 + t.val / 32]
    ∧ win0_7.index t = ![min (t.val % 32 + 1) 31, 10 + t.val / 32]
    ∧ win0_8.index t = ![t.val % 32, t.val / 32]
    ∧ win0_9.index t = ![t.val % 32, 0]
    ∧ win0_10.index t = ![t.val % 32, 0]
    ∧ win0_11.index t = ![t.val % 32, 0]
    ∧ win0_12.index t = ![t.val % 32, t.val / 32]
    ∧ win0_13.index t = ![t.val / 32, 0, 0]
    ∧ win0_14.index t = ![t.val / 32, 0, 0]
    ∧ win0_15.index t = ![t.val / 32, 0, 0] :=
  (by decide +kernel : ∀ t : Fin grid0.N, _)

theorem t_lt (t : Fin cfg0.N) : t.val < 64 := by have := t.isLt; have h : cfg0.N = 64 := rfl; omega

/-- The query block and the group of a grid point. -/
abbrev tn (t : Fin cfg0.N) : Fin 32 := ⟨t.val % 32, by omega⟩
abbrev tg (t : Fin cfg0.N) : Fin 2 := ⟨t.val / 32, by have := t_lt t; omega⟩
/-- The query head and the position of a stacked row. -/
abbrev rr (R : Fin 512) : Fin 4 := ⟨R.val / 128, by omega⟩
abbrev ri (R : Fin 512) : Fin 128 := ⟨R.val % 128, by omega⟩

theorem coord0 : ∀ t : Fin cfg0.N, (grid0.coords t 0).val = t.val / 32 := (by decide +kernel : ∀ t : Fin grid0.N, _)
theorem coord1 : ∀ t : Fin cfg0.N, (grid0.coords t 1).val = t.val % 32 := (by decide +kernel : ∀ t : Fin grid0.N, _)

/-! ## The blocks -/

theorem read_q (c : Dev nD) (t : Fin cfg0.N) (a : Fin 128) (b : Fin 512) :
    iblk m c 1 t (ix2 a b) = V m c main_v66 (ix2 ⟨t.val % 32 * 128 + a.val, by omega⟩ ⟨t.val / 32 * 512 + b.val, by have := t_lt t; omega⟩) := by
  have := t_lt t
  blk_ext [iblk, idx_val t]

theorem read_o (c : Dev nD) (t : Fin cfg0.N) (a : Fin 128) (b : Fin 512) :
    iblk m c 8 t (ix2 a b) = DM m c (ix2 ⟨t.val % 32 * 128 + a.val, by omega⟩ ⟨t.val / 32 * 512 + b.val, by have := t_lt t; omega⟩) := by
  have := t_lt t
  blk_ext [iblk, V, DM, idx_val t]

theorem read_2 (c : Dev nD) (t : Fin cfg0.N) (a : Fin 128) (b : Fin 128) :
    iblk m c 2 t (ix2 a b) = V m c main_v66 (ix2 ⟨(t.val % 32 - 1) * 128 + a.val, by omega⟩ ⟨(8 + t.val / 32) * 128 + b.val, by have := t_lt t; omega⟩) := by
  have := t_lt t
  blk_ext [iblk, idx_val t]

theorem read_3 (c : Dev nD) (t : Fin cfg0.N) (a : Fin 128) (b : Fin 128) :
    iblk m c 3 t (ix2 a b) = V m c main_v66 (ix2 ⟨(t.val % 32) * 128 + a.val, by omega⟩ ⟨(8 + t.val / 32) * 128 + b.val, by have := t_lt t; omega⟩) := by
  have := t_lt t
  blk_ext [iblk, idx_val t]

theorem read_4 (c : Dev nD) (t : Fin cfg0.N) (a : Fin 128) (b : Fin 128) :
    iblk m c 4 t (ix2 a b) = V m c main_v66 (ix2 ⟨(min (t.val % 32 + 1) 31) * 128 + a.val, by omega⟩ ⟨(8 + t.val / 32) * 128 + b.val, by have := t_lt t; omega⟩) := by
  have := t_lt t
  blk_ext [iblk, idx_val t]

theorem read_5 (c : Dev nD) (t : Fin cfg0.N) (a : Fin 128) (b : Fin 128) :
    iblk m c 5 t (ix2 a b) = V m c main_v66 (ix2 ⟨(t.val % 32 - 1) * 128 + a.val, by omega⟩ ⟨(10 + t.val / 32) * 128 + b.val, by have := t_lt t; omega⟩) := by
  have := t_lt t
  blk_ext [iblk, idx_val t]

theorem read_6 (c : Dev nD) (t : Fin cfg0.N) (a : Fin 128) (b : Fin 128) :
    iblk m c 6 t (ix2 a b) = V m c main_v66 (ix2 ⟨(t.val % 32) * 128 + a.val, by omega⟩ ⟨(10 + t.val / 32) * 128 + b.val, by have := t_lt t; omega⟩) := by
  have := t_lt t
  blk_ext [iblk, idx_val t]

theorem read_7 (c : Dev nD) (t : Fin cfg0.N) (a : Fin 128) (b : Fin 128) :
    iblk m c 7 t (ix2 a b) = V m c main_v66 (ix2 ⟨(min (t.val % 32 + 1) 31) * 128 + a.val, by omega⟩ ⟨(10 + t.val / 32) * 128 + b.val, by have := t_lt t; omega⟩) := by
  have := t_lt t
  blk_ext [iblk, idx_val t]

theorem read_9 (c : Dev nD) (t : Fin cfg0.N) (a : Fin 128) (b : Fin 128) :
    iblk m c 9 t (ix2 a b) = V m c main_v86 (ix2 ⟨t.val % 32 * 128 + a.val, by omega⟩ b) := by
  have := t_lt t
  blk_ext [iblk, idx_val t]

theorem read_10 (c : Dev nD) (t : Fin cfg0.N) (a : Fin 128) (b : Fin 128) :
    iblk m c 10 t (ix2 a b) = V m c main_v89 (ix2 ⟨t.val % 32 * 128 + a.val, by omega⟩ b) := by
  have := t_lt t
  blk_ext [iblk, idx_val t]

theorem read_11 (c : Dev nD) (t : Fin cfg0.N) (a : Fin 128) (b : Fin 128) :
    iblk m c 11 t (ix2 a b) = V m c main_v92 (ix2 ⟨t.val % 32 * 128 + a.val, by omega⟩ b) := by
  have := t_lt t
  blk_ext [iblk, idx_val t]

/-- The keys, the values, the stacked queries, the stacked gradients and the mask of a grid point. -/
def KB (c : Dev nD) (t : Fin cfg0.N) : FVec Ideal S384x128 .bf16 := k0_pay5 (iblk m c 2 t) (iblk m c 3 t) (iblk m c 4 t)
def VB (c : Dev nD) (t : Fin cfg0.N) : FVec Ideal S384x128 .bf16 := k0_pay6 (iblk m c 5 t) (iblk m c 6 t) (iblk m c 7 t)
def stack (x : Vec Ideal S128x512 .bf16) : FVec Ideal S512x128 .bf16 :=
  k0_pay7 (View.ld x (Rect.unit ![0, 0] ![128, 128] inb_S128x512_S128x128_0_0))
    (View.ld x (Rect.unit ![0, 128] ![128, 128] inb_S128x512_S128x128_0_128))
    (View.ld x (Rect.unit ![0, 256] ![128, 128] inb_S128x512_S128x128_0_256))
    (View.ld x (Rect.unit ![0, 384] ![128, 128] inb_S128x512_S128x128_0_384))
def stackO (x : Vec Ideal S128x512 .bf16) : FVec Ideal S512x128 .bf16 :=
  k0_pay8 (View.ld x (Rect.unit ![0, 0] ![128, 128] inb_S128x512_S128x128_0_0))
    (View.ld x (Rect.unit ![0, 128] ![128, 128] inb_S128x512_S128x128_0_128))
    (View.ld x (Rect.unit ![0, 256] ![128, 128] inb_S128x512_S128x128_0_256))
    (View.ld x (Rect.unit ![0, 384] ![128, 128] inb_S128x512_S128x128_0_384))
def QB (c : Dev nD) (t : Fin cfg0.N) : FVec Ideal S512x128 .bf16 := stack (iblk m c 1 t)
def DB (c : Dev nD) (t : Fin cfg0.N) : FVec Ideal S512x128 .bf16 := stackO (iblk m c 8 t)
def MB (t : Fin cfg0.N) : IVec S512x384 1 := k0_pay9 (BitVec.ofNat 32 (grid0.coords t 1).val)

theorem stack_at (x : Vec Ideal S128x512 .bf16) (R : Fin 512) (d : Fin 128) :
    stack x (ix2 R d) = x (ix2 ⟨R.val % 128, by omega⟩ ⟨R.val / 128 * 128 + d.val, by omega⟩) := by
  pointwise [stack, k0_pay7]
  blk_point []

theorem stackO_at (x : Vec Ideal S128x512 .bf16) (R : Fin 512) (d : Fin 128) :
    stackO x (ix2 R d) = x (ix2 ⟨R.val % 128, by omega⟩ ⟨R.val / 128 * 128 + d.val, by omega⟩) := by
  pointwise [stackO, k0_pay8]
  blk_point []

theorem QB_at (c : Dev nD) (t : Fin cfg0.N) (R : Fin 512) (d : Fin 128) :
    QB m c t (ix2 R d) = xq (Z m c) (pos (tn t) (ri R)) (hd (tg t) (rr R)) d := by
  have := t_lt t
  unfold QB
  rw [stack_at, read_q, zr_eq]
  exact zr_q _ _ _ _ _ (by simp only; omega)

theorem DB_at (c : Dev nD) (t : Fin cfg0.N) (R : Fin 512) (d : Fin 128) :
    DB m c t (ix2 R d) = xo (DM m c) (pos (tn t) (ri R)) (hd (tg t) (rr R)) d := by
  have := t_lt t
  unfold DB xo
  rw [stackO_at, read_o]
  refine congrArg (fun k => DM m c (ix2 _ k)) (Fin.ext ?_)
  simp only; omega

theorem KB_at (c : Dev nD) (t : Fin cfg0.N) (j : Fin 384) (d : Fin 128) :
    ∃ p : Fin 4096, KB m c t (ix2 j d) = xk (Z m c) p (tg t) d ∧ (Inside (tn t) j → p.val = t.val % 32 * 128 + j.val - 128) := by
  have := t_lt t
  unfold KB
  have e : ∀ x y z : Vec Ideal S128x128 .bf16, k0_pay5 x y z (ix2 j d) = if h : j.val < 128 then x (ix2 ⟨j.val, h⟩ d) else if h' : j.val - 128 < 128 then y (ix2 ⟨j.val - 128, h'⟩ d) else z (ix2 ⟨j.val - 128 - 128, by omega⟩ d) := by
    intro x y z
    pointwise [k0_pay5]
  rw [e]
  split
  · rename_i h
    rw [read_2, zr_eq]
    exact ⟨_, zr_k _ _ (tg t) d _ (by simp only; omega), fun hi => by have := hi.1; have := hi.2; simp only at *; omega⟩
  · split
    · rename_i h h'
      rw [read_3, zr_eq]
      exact ⟨_, zr_k _ _ (tg t) d _ (by simp only; omega), fun hi => by have := hi.1; have := hi.2; simp only at *; omega⟩
    · rename_i h h'
      rw [read_4, zr_eq]
      exact ⟨_, zr_k _ _ (tg t) d _ (by simp only; omega), fun hi => by have := hi.1; have := hi.2; simp only at *; omega⟩

theorem VB_at (c : Dev nD) (t : Fin cfg0.N) (j : Fin 384) (d : Fin 128) :
    ∃ p : Fin 4096, VB m c t (ix2 j d) = xv (Z m c) p (tg t) d ∧ (Inside (tn t) j → p.val = t.val % 32 * 128 + j.val - 128) := by
  have := t_lt t
  unfold VB
  have e : ∀ x y z : Vec Ideal S128x128 .bf16, k0_pay6 x y z (ix2 j d) = if h : j.val < 128 then x (ix2 ⟨j.val, h⟩ d) else if h' : j.val - 128 < 128 then y (ix2 ⟨j.val - 128, h'⟩ d) else z (ix2 ⟨j.val - 128 - 128, by omega⟩ d) := by
    intro x y z
    pointwise [k0_pay6]
  rw [e]
  split
  · rename_i h
    rw [read_5, zr_eq]
    exact ⟨_, zr_v _ _ (tg t) d _ (by simp only; omega), fun hi => by have := hi.1; have := hi.2; simp only at *; omega⟩
  · split
    · rename_i h h'
      rw [read_6, zr_eq]
      exact ⟨_, zr_v _ _ (tg t) d _ (by simp only; omega), fun hi => by have := hi.1; have := hi.2; simp only at *; omega⟩
    · rename_i h h'
      rw [read_7, zr_eq]
      exact ⟨_, zr_v _ _ (tg t) d _ (by simp only; omega), fun hi => by have := hi.1; have := hi.2; simp only at *; omega⟩

end Cert.KernelIdeal.AttnBlocks

end
-- ==== Proof.AttnSinks.lean ====
module

public import proofs.«01_k».proof.Proof.AttnBlocks

/-! The attention backward call: the mask and the sinks a grid point reads. -/

@[expose] public section

set_option maxRecDepth 65536

noncomputable section

open Idealize.ShloMosaic Idealize.ShloMosaic.TcCoe Idealize.SL.Sem
open scoped BigOperators

open Idealize.ShloMosaic.Pipeline (Dat)

namespace Cert.KernelIdeal.AttnBlocks

open Cert.KernelIdeal Cert.KernelIdeal.Gen Cert.KernelIdeal.AttnHost Cert.KernelIdeal.AttnRope
open Cert.Attn

variable (m : (ℓ : Loc nD τ sig) → Buf (Elt Ideal) ℓ)

/-! ## The mask and the sinks -/

theorem low_bits : ∀ R : Fin 512, IntOp.andi (BitVec.ofNat 32 R.val) 127#32 = BitVec.ofNat 32 (R.val % 128) := by decide +kernel

theorem MB_at (t : Fin cfg0.N) (R : Fin 512) (j : Fin 384) : MB t (ix2 R j) = mask (tn t) (ri R) j := by
  unfold MB
  rw [coord1]
  pointwise [k0_pay9]
  rw [low_bits]
  have e1 : IntOp.addi (Scalar.muli (Scalar.subi (BitVec.ofNat 32 (t.val % 32)) 1#32) 128#32) (BitVec.ofNat 32 j.val)
      = IntOp.addi (IntOp.subi (IntOp.muli (BitVec.ofNat 32 (t.val % 32)) 128#32) 128#32) (BitVec.ofNat 32 j.val) := by
    refine congrArg (fun x => x + _) ?_
    show (BitVec.ofNat 32 (t.val % 32) - 1#32) * 128#32 = BitVec.ofNat 32 (t.val % 32) * 128#32 - 128#32
    exact (by decide +kernel : ∀ n : Fin 32, (BitVec.ofNat 32 n.val - 1#32) * 128#32 = BitVec.ofNat 32 n.val * 128#32 - 128#32) (tn t)
  have e2 : IntOp.addi (Scalar.muli (BitVec.ofNat 32 (t.val % 32)) 128#32) (BitVec.ofNat 32 (R.val % 128)) = BitVec.ofNat 32 (t.val % 32 * 128 + R.val % 128) := by
    show BitVec.ofNat 32 (t.val % 32) * 128#32 + BitVec.ofNat 32 (R.val % 128) = _
    rw [BitVec.ofNat_add, BitVec.ofNat_mul]
  rw [e1, e2]
  rfl

/-- The head's number, as the body divides the row by the block's length. -/
def head (R : Fin 512) : BitVec 32 :=
  Scalar.select
          (IntOp.andi
            (IntOp.cmpi CmpIPredicate.ne
              (IntOp.subi (BitVec.setWidth 32 (IntOp.cmpi CmpIPredicate.sgt (BitVec.ofNat 32 R.val) 0#32))
                (BitVec.setWidth 32 (IntOp.cmpi CmpIPredicate.slt (BitVec.ofNat 32 R.val) 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector (BitVec.ofNat 32 R.val) 128#32) 0#32))
          (IntOp.subi (IntOp.divsi ArithUnit.vector (BitVec.ofNat 32 R.val) 128#32) 1#32)
          (IntOp.divsi ArithUnit.vector (BitVec.ofNat 32 R.val) 128#32)

theorem head_eq : ∀ R : Fin 512, head R = BitVec.ofNat 32 (R.val / 128) := by decide +kernel

theorem sel_at (s : Fin 4 → EReal) (R : Fin 512) :
    k0_pay12 (F := Ideal) k0_pay10 k0_pay11 (s 0) (s 1) (s 2) (s 3) (ix2 R 0) = s (rr R) := by
  pointwise [k0_pay12, k0_pay10, k0_pay11]
  rw [← head.eq_1, head_eq]
  have hw : R.val / 128 = 0 ∨ R.val / 128 = 1 ∨ R.val / 128 = 2 ∨ R.val / 128 = 3 := by omega
  have hs : s (rr R) = s ⟨R.val / 128, by omega⟩ := rfl
  rw [hs]
  rcases hw with h | h | h | h <;> simp only [h] <;> rfl

/-- The sinks the body reads. -/
def sinks (c : Dev nD) (t : Fin cfg0.N) (r : Fin 4) : EReal := SK m c (ix1 (hd (tg t) r))

theorem read_s (c : Dev nD) (t : Fin cfg0.N) (a : Fin 8) : iblk m c 0 t (ix1 a) = SK m c (ix1 a) := by
  have := t_lt t
  blk_ext [iblk, V, SK, idx_val t]

theorem ld_s (x : Vec Ideal S8 .f32) (o : ℕ) (ho : o < 8) (h) (y) : View.ld x (Rect.unit (s := S8) ![o] ![1] h) y = x (ix1 ⟨o, ho⟩) := by
  have hx : y = ix1 (0 : Fin 1) := by
    funext a
    match a with
    | ⟨0, _⟩ => exact Subsingleton.elim (α := Fin 1) _ _
  rw [hx]
  exact View.ld_unit_apply_of x _ _ h _ _ (fun a => match a with | ⟨0, _⟩ => rfl)

theorem sink_gen (c : Dev nD) (t : Fin cfg0.N) (r : Fin 4) (o : Fin 1 → ℕ) (ho : o = ![4 * (t.val / 32) + r.val]) (h) (x) :
    View.ld (iblk m c 0 t) (Rect.unit (s := S8) o ![1] h) x = sinks m c t r := by
  have := t_lt t
  subst ho
  refine (ld_s _ _ (by omega) h x).trans ((read_s m c t _).trans ?_)
  refine congrArg (fun k => SK m c (ix1 k)) (Fin.ext ?_)
  simp only; omega

theorem sink_0 (c : Dev nD) (t : Fin cfg0.N) (h) (x) : View.ld (iblk m c 0 t) (Rect.unit (k0_off1 (grid0.coords t)) ![1] h) x = sinks m c t 0 := by
  refine sink_gen m c t 0 _ ?_ h x
  rw [k0_off1_eq, coord0]
  rfl

theorem sink_1 (c : Dev nD) (t : Fin cfg0.N) (h) (x) : View.ld (iblk m c 0 t) (Rect.unit (k0_off2 (grid0.coords t) 1#32) ![1] h) x = sinks m c t 1 := by
  refine sink_gen m c t 1 _ ?_ h x
  refine (k0_off2_eq (grid0.coords t) 0).trans ?_
  rw [coord0]
  rfl

theorem sink_2 (c : Dev nD) (t : Fin cfg0.N) (h) (x) : View.ld (iblk m c 0 t) (Rect.unit (k0_off2 (grid0.coords t) 2#32) ![1] h) x = sinks m c t 2 := by
  refine sink_gen m c t 2 _ ?_ h x
  refine (k0_off2_eq (grid0.coords t) 1).trans ?_
  rw [coord0]
  rfl

theorem sink_3 (c : Dev nD) (t : Fin cfg0.N) (h) (x) : View.ld (iblk m c 0 t) (Rect.unit (k0_off2 (grid0.coords t) 3#32) ![1] h) x = sinks m c t 3 := by
  refine sink_gen m c t 3 _ ?_ h x
  refine (k0_off2_eq (grid0.coords t) 2).trans ?_
  rw [coord0]
  rfl

end Cert.KernelIdeal.AttnBlocks

end
-- ==== Proof.AttnRow.lean ====
module

public import proofs.«01_k».proof.Proof.AttnSinks

/-! The attention backward call: what the body computes of one row of a block, as real numbers. -/

@[expose] public section

set_option maxRecDepth 65536

noncomputable section

open Idealize.ShloMosaic Idealize.ShloMosaic.TcCoe Idealize.SL.Sem
open scoped BigOperators

namespace Cert.KernelIdeal.AttnBlocks

open Cert.KernelIdeal Cert.KernelIdeal.Gen Cert.KernelIdeal.AttnHost Cert.KernelIdeal.AttnRope
open Cert.Attn

/-! ## The body's steps, entry by entry -/

theorem p13 (v9 : FVec Ideal S384x128 .bf16) (v25 : FVec Ideal S512x128 .bf16) (v51 : IVec S512x384 1) (R : Fin 512) (j : Fin 384) :
    (k0_pay13 v9 v25 v51 (ix2 R j) : EReal) = Scalar.select (v51 (ix2 R j)) ((∑ x, (v25 (ix2 R x) : EReal) * (v9 (ix2 j x) : EReal)) * Ideal.ofBits .f32 1035273459#32) (Ideal.ofBits .f32 4286578688#32) := by
  pointwise [k0_pay13]

theorem p14 (v9 : FVec Ideal S384x128 .bf16) (v25 : FVec Ideal S512x128 .bf16) (v51 : IVec S512x384 1) (a : IVec S512x1 32) (b : IVec S512x1 1) (s0 s1 s2 s3 : EReal) (R : Fin 512) :
    (k0_pay14 v9 v25 v51 a b s0 s1 s2 s3 (ix2 R 0) : EReal) = max (Finset.univ.fold max (Ideal.ofBits .f32 4286578688#32) (fun x : Fin 384 => (k0_pay13 v9 v25 v51 (ix2 R x) : EReal))) (k0_pay12 (F := Ideal) a b s0 s1 s2 s3 (ix2 R 0)) := by
  pointwise [k0_pay14]

theorem p15 (v9 : FVec Ideal S384x128 .bf16) (v25 : FVec Ideal S512x128 .bf16) (v51 : IVec S512x384 1) (a : IVec S512x1 32) (b : IVec S512x1 1) (s0 s1 s2 s3 : EReal) (R : Fin 512) (j : Fin 384) :
    (k0_pay15 v9 v25 v51 a b s0 s1 s2 s3 (ix2 R j) : EReal) = Ideal.exp ((k0_pay13 v9 v25 v51 (ix2 R j) : EReal) - (k0_pay14 v9 v25 v51 a b s0 s1 s2 s3 (ix2 R 0) : EReal)) := by
  pointwise [k0_pay15]

theorem p16 (v9 : FVec Ideal S384x128 .bf16) (v25 : FVec Ideal S512x128 .bf16) (v51 : IVec S512x384 1) (a : IVec S512x1 32) (b : IVec S512x1 1) (s0 s1 s2 s3 : EReal) (R : Fin 512) :
    (k0_pay16 v9 v25 v51 a b s0 s1 s2 s3 (ix2 R 0) : EReal) = Ideal.exp ((k0_pay12 (F := Ideal) a b s0 s1 s2 s3 (ix2 R 0) : EReal) - (k0_pay14 v9 v25 v51 a b s0 s1 s2 s3 (ix2 R 0) : EReal)) := by
  pointwise [k0_pay16]

theorem p17 (E : FVec Ideal S512x384 .f32) (ES : FVec Ideal S512x1 .f32) (R : Fin 512) :
    (k0_pay17 E ES (ix2 R 0) : EReal) = Ideal.div 1 (∑ x : Fin 384, (E (ix2 R x) : EReal) + (ES (ix2 R 0) : EReal)) := by
  pointwise [k0_pay17]

theorem p18 (E : FVec Ideal S512x384 .f32) (ES : FVec Ideal S512x1 .f32) (R : Fin 512) (j : Fin 384) :
    (k0_pay18 E ES (ix2 R j) : EReal) = (E (ix2 R j) : EReal) * (k0_pay17 E ES (ix2 R 0) : EReal) := by
  pointwise [k0_pay18]

theorem p19 (v16 : FVec Ideal S384x128 .bf16) (v30 : FVec Ideal S512x128 .bf16) (R : Fin 512) (j : Fin 384) :
    (k0_pay19 v16 v30 (ix2 R j) : EReal) = ∑ x : Fin 128, (v30 (ix2 R x) : EReal) * (v16 (ix2 j x) : EReal) := by
  pointwise [k0_pay19]

theorem p20 (v16 : FVec Ideal S384x128 .bf16) (v30 : FVec Ideal S512x128 .bf16) (E : FVec Ideal S512x384 .f32) (ES : FVec Ideal S512x1 .f32) (R : Fin 512) :
    (k0_pay20 v16 v30 E ES (ix2 R 0) : EReal) = ∑ x : Fin 384, (k0_pay18 E ES (ix2 R x) : EReal) * (k0_pay19 v16 v30 (ix2 R x) : EReal) := by
  pointwise [k0_pay20]

theorem p21 (v16 : FVec Ideal S384x128 .bf16) (v30 : FVec Ideal S512x128 .bf16) (E : FVec Ideal S512x384 .f32) (ES : FVec Ideal S512x1 .f32) (R : Fin 512) (j : Fin 384) :
    (k0_pay21 v16 v30 E ES (ix2 R j) : EReal) = (k0_pay18 E ES (ix2 R j) : EReal) * ((k0_pay19 v16 v30 (ix2 R j) : EReal) - (k0_pay20 v16 v30 E ES (ix2 R 0) : EReal)) * Ideal.ofBits .f32 1035273459#32 := by
  pointwise [k0_pay21]

theorem p22 (v9 v16 : FVec Ideal S384x128 .bf16) (v30 : FVec Ideal S512x128 .bf16) (E : FVec Ideal S512x384 .f32) (ES : FVec Ideal S512x1 .f32) (R : Fin 512) (d : Fin 128) :
    (k0_pay22 v9 v16 v30 E ES (ix2 R d) : EReal) = ∑ x : Fin 384, (k0_pay21 v16 v30 E ES (ix2 R x) : EReal) * (v9 (ix2 x d) : EReal) := by
  pointwise [k0_pay22]

theorem p23 (v16 : FVec Ideal S384x128 .bf16) (v30 : FVec Ideal S512x128 .bf16) (E : FVec Ideal S512x384 .f32) (ES : FVec Ideal S512x1 .f32) (R : Fin 512) :
    (k0_pay23 v16 v30 E ES (ix2 R 0) : EReal) = (ES (ix2 R 0) : EReal) * (k0_pay17 E ES (ix2 R 0) : EReal) * (k0_pay20 v16 v30 E ES (ix2 R 0) : EReal) := by
  pointwise [k0_pay23]

/-! ## The row -/

variable (m : (ℓ : Loc nD τ sig) → Buf (Elt Ideal) ℓ) (c : Dev nD) (t : Fin cfg0.N)

/-- The exponentials of the scores and of the sinks. -/
def EB : FVec Ideal S512x384 .f32 := k0_pay15 (KB m c t) (QB m c t) (MB t) k0_pay10 k0_pay11 (sinks m c t 0) (sinks m c t 1) (sinks m c t 2) (sinks m c t 3)
def ESB : FVec Ideal S512x1 .f32 := k0_pay16 (KB m c t) (QB m c t) (MB t) k0_pay10 k0_pay11 (sinks m c t 0) (sinks m c t 1) (sinks m c t 2) (sinks m c t 3)

def kw (j : Fin 384) (d : Fin 128) : ℝ := EReal.toReal (KB m c t (ix2 j d))
def vw (j : Fin 384) (d : Fin 128) : ℝ := EReal.toReal (VB m c t (ix2 j d))

/-- The gradient that arrives at a probability, over the block's own values. -/
def dw (R : Fin 512) (j : Fin 384) : ℝ := ∑ x, ro (DM m c) (pos (tn t) (ri R)) (hd (tg t) (rr R)) x * vw m c t j x

variable {m c t} (H : Real3 (Z m c) (DM m c) (SK m c))
include H

theorem KB_real (j : Fin 384) (d : Fin 128) : (KB m c t (ix2 j d) : EReal) = (kw m c t j d : EReal) := by
  obtain ⟨p, h, _⟩ := KB_at m c t j d
  have e : (KB m c t (ix2 j d) : EReal) = (rk (Z m c) p (tg t) d : EReal) := h.trans (H.k p (tg t) d)
  exact IsR.eq ⟨_, e⟩

theorem VB_real (j : Fin 384) (d : Fin 128) : (VB m c t (ix2 j d) : EReal) = (vw m c t j d : EReal) := by
  obtain ⟨p, h, _⟩ := VB_at m c t j d
  have e : (VB m c t (ix2 j d) : EReal) = (rv (Z m c) p (tg t) d : EReal) := h.trans (H.v p (tg t) d)
  exact IsR.eq ⟨_, e⟩

omit H in
theorem kw_in (j : Fin 384) (d : Fin 128) (hi : Inside (tn t) j) : kw m c t j d = win (rk (Z m c)) (tn t) j (tg t) d := by
  obtain ⟨p, h, hp⟩ := KB_at m c t j d
  unfold kw win
  rw [dif_pos hi, h]
  have e : p = ⟨(tn t).val * 128 + j.val - 128, by have := hi.1; have := hi.2; omega⟩ := Fin.ext (hp hi)
  rw [e]
  rfl

omit H in
theorem vw_in (j : Fin 384) (d : Fin 128) (hi : Inside (tn t) j) : vw m c t j d = win (rv (Z m c)) (tn t) j (tg t) d := by
  obtain ⟨p, h, hp⟩ := VB_at m c t j d
  unfold vw win
  rw [dif_pos hi, h]
  have e : p = ⟨(tn t).val * 128 + j.val - 128, by have := hi.1; have := hi.2; omega⟩ := Fin.ext (hp hi)
  rw [e]
  rfl

theorem QB_real (R : Fin 512) (d : Fin 128) : (QB m c t (ix2 R d) : EReal) = (rq (Z m c) (pos (tn t) (ri R)) (hd (tg t) (rr R)) d : EReal) :=
  (QB_at m c t R d).trans (H.q _ _ _)

theorem DB_real (R : Fin 512) (d : Fin 128) : (DB m c t (ix2 R d) : EReal) = (ro (DM m c) (pos (tn t) (ri R)) (hd (tg t) (rr R)) d : EReal) :=
  (DB_at m c t R d).trans (H.o _ _ _)

theorem score (R : Fin 512) (j : Fin 384) :
    (k0_pay13 (KB m c t) (QB m c t) (MB t) (ix2 R j) : EReal) = Row.msk (bb (tn t) (ri R)) (sg (Z m c) (tn t) (tg t) (rr R) (ri R)) j := by
  rw [p13, MB_at, ninf, sc_eq]
  have e : ∑ x, (QB m c t (ix2 R x) : EReal) * (KB m c t (ix2 j x) : EReal) = ((∑ x, rq (Z m c) (pos (tn t) (ri R)) (hd (tg t) (rr R)) x * kw m c t j x : ℝ) : EReal) := by
    rw [Row.coe_sum]
    refine Finset.sum_congr rfl fun x _ => ?_
    rw [QB_real H, KB_real H, EReal.coe_mul]
  rw [e, ← EReal.coe_mul]
  unfold Row.msk Scalar.select
  by_cases hb : mask (tn t) (ri R) j = 1#1
  · rw [if_pos (show mask (tn t) (ri R) j = 1 from hb), if_pos (show bb (tn t) (ri R) j from hb)]
    unfold sg
    refine congrArg (fun a : ℝ => ((a * sc : ℝ) : EReal)) (Finset.sum_congr rfl fun x _ => ?_)
    rw [kw_in j x (inside_of_mask _ _ _ hb)]
  · rw [if_neg (show ¬ mask (tn t) (ri R) j = 1 from hb), if_neg (show ¬ bb (tn t) (ri R) j from hb)]

theorem sink_row (R : Fin 512) : (k0_pay12 (F := Ideal) k0_pay10 k0_pay11 (sinks m c t 0) (sinks m c t 1) (sinks m c t 2) (sinks m c t 3) (ix2 R 0) : EReal) = (rs (SK m c) (hd (tg t) (rr R)) : EReal) :=
  (sel_at (sinks m c t) R).trans (H.s _)

theorem top_row (R : Fin 512) :
    (k0_pay14 (KB m c t) (QB m c t) (MB t) k0_pay10 k0_pay11 (sinks m c t 0) (sinks m c t 1) (sinks m c t 2) (sinks m c t 3) (ix2 R 0) : EReal)
      = Row.top (bb (tn t) (ri R)) (sg (Z m c) (tn t) (tg t) (rr R) (ri R)) (rs (SK m c) (hd (tg t) (rr R))) := by
  rw [p14, sink_row H, ninf]
  unfold Row.top
  refine congrArg (fun f : Fin 384 → EReal => max (Finset.univ.fold max ⊥ f) _) (funext fun j => score H R j)

theorem EB_real (R : Fin 512) (j : Fin 384) :
    (EB m c t (ix2 R j) : EReal) = (Row.E (bb (tn t) (ri R)) (sg (Z m c) (tn t) (tg t) (rr R) (ri R)) (rs (SK m c) (hd (tg t) (rr R))) j : EReal) := by
  unfold EB
  rw [p15, top_row H, score H]
  exact Row.exp_at _ _ _ _

theorem ESB_real (R : Fin 512) :
    (ESB m c t (ix2 R 0) : EReal) = (Row.ES (bb (tn t) (ri R)) (sg (Z m c) (tn t) (tg t) (rr R) (ri R)) (rs (SK m c) (hd (tg t) (rr R))) : EReal) := by
  unfold ESB
  rw [p16, top_row H, sink_row H]
  exact Row.exp_sink _ _ _

theorem inv_row (R : Fin 512) :
    (k0_pay17 (EB m c t) (ESB m c t) (ix2 R 0) : EReal) = Ideal.div 1 (∑ j, (Row.E (bb (tn t) (ri R)) (sg (Z m c) (tn t) (tg t) (rr R) (ri R)) (rs (SK m c) (hd (tg t) (rr R))) j : EReal) + (Row.ES (bb (tn t) (ri R)) (sg (Z m c) (tn t) (tg t) (rr R) (ri R)) (rs (SK m c) (hd (tg t) (rr R))) : EReal)) := by
  rw [p17, ESB_real H]
  refine congrArg (fun f : Fin 384 → EReal => Ideal.div 1 (∑ j, f j + _)) (funext fun j => EB_real H R j)

theorem P_row (R : Fin 512) (j : Fin 384) :
    (k0_pay18 (EB m c t) (ESB m c t) (ix2 R j) : EReal) = (PP (Z m c) (SK m c) (tn t) (tg t) (rr R) (ri R) j : EReal) := by
  rw [p18, inv_row H, EB_real H]
  exact Row.p_at _ _ _ _

omit H in
theorem dw_in (R : Fin 512) (j : Fin 384) (hb : bb (tn t) (ri R) j) : dw m c t R j = dl (Z m c) (DM m c) (tn t) (tg t) (rr R) (ri R) j := by
  unfold dw dl
  refine Finset.sum_congr rfl fun x _ => ?_
  rw [vw_in j x (inside_of_mask _ _ _ hb)]

theorem d_row (R : Fin 512) (j : Fin 384) :
    (k0_pay19 (VB m c t) (DB m c t) (ix2 R j) : EReal) = (dw m c t R j : EReal) := by
  rw [p19]
  unfold dw
  rw [Row.coe_sum]
  refine Finset.sum_congr rfl fun x _ => ?_
  rw [DB_real H, VB_real H, EReal.coe_mul]

theorem Dl_row (R : Fin 512) :
    (k0_pay20 (VB m c t) (DB m c t) (EB m c t) (ESB m c t) (ix2 R 0) : EReal) = (Row.Dl (bb (tn t) (ri R)) (sg (Z m c) (tn t) (tg t) (rr R) (ri R)) (dw m c t R) (rs (SK m c) (hd (tg t) (rr R))) : EReal) := by
  rw [p20]
  refine Eq.trans ?_ (Row.delta_at _ _ _ _)
  refine Finset.sum_congr rfl fun x _ => ?_
  rw [P_row H, d_row H]
  rfl

theorem D_row (R : Fin 512) (j : Fin 384) :
    (k0_pay21 (VB m c t) (DB m c t) (EB m c t) (ESB m c t) (ix2 R j) : EReal) = (DD (Z m c) (DM m c) (SK m c) (tn t) (tg t) (rr R) (ri R) j : EReal) := by
  rw [p21, Dl_row H, d_row H, P_row H, sc_eq]
  unfold DD
  rw [EReal.coe_mul, ← Row.DS_congr (bb (tn t) (ri R)) (sg (Z m c) (tn t) (tg t) (rr R) (ri R)) (dw m c t R) (rs (SK m c) (hd (tg t) (rr R))) (fun _ _ => rfl) (fun j hb => dw_in R j hb)]
  exact congrArg (fun a : EReal => a * (sc : EReal)) (Row.ds_at _ _ _ _ _)

theorem K_row (R : Fin 512) :
    (k0_pay23 (VB m c t) (DB m c t) (EB m c t) (ESB m c t) (ix2 R 0) : EReal) = (KK (Z m c) (DM m c) (SK m c) (tn t) (tg t) (rr R) (ri R) : EReal) := by
  rw [p23, Dl_row H, inv_row H, ESB_real H]
  unfold KK
  rw [← Row.Dl_congr (bb (tn t) (ri R)) (sg (Z m c) (tn t) (tg t) (rr R) (ri R)) (dw m c t R) (rs (SK m c) (hd (tg t) (rr R))) (fun _ _ => rfl) (fun j hb => dw_in R j hb)]
  exact Row.sink_at _ _ _ _

theorem Q_row (R : Fin 512) (d : Fin 128) :
    (k0_pay22 (KB m c t) (VB m c t) (DB m c t) (EB m c t) (ESB m c t) (ix2 R d) : EReal)
      = ((∑ j, DD (Z m c) (DM m c) (SK m c) (tn t) (tg t) (rr R) (ri R) j * win (rk (Z m c)) (tn t) j (tg t) d : ℝ) : EReal) := by
  rw [p22, Row.coe_sum]
  refine Finset.sum_congr rfl fun j _ => ?_
  rw [D_row H, KB_real H, ← EReal.coe_mul]
  refine congrArg _ ?_
  by_cases hb : bb (tn t) (ri R) j
  · rw [kw_in j d (inside_of_mask _ _ _ hb)]
  · have e : DD (Z m c) (DM m c) (SK m c) (tn t) (tg t) (rr R) (ri R) j = 0 := by
      unfold DD; rw [Row.DS_masked _ _ _ _ _ hb, zero_mul]
    rw [e, zero_mul, zero_mul]

end Cert.KernelIdeal.AttnBlocks

end
-- ==== Proof.AttnQ.lean ====
module

public import proofs.«01_k».proof.Proof.AttnRow
public import proofs.«01_k».proof.Proof.AttnRun
public import Idealize.ShloMosaic.Lib.Pipeline.ValueKit
public import Idealize.ShloMosaic.Lib.Pointwise

/-! The attention backward call's gradient of the queries: each point stores its four heads' rows, turned back by the
positions' angles. -/

@[expose] public section

set_option maxRecDepth 65536

noncomputable section

open Idealize.ShloMosaic Idealize.ShloMosaic.TcCoe Idealize.SL.Sem
open Idealize.ShloMosaic.Pipeline (Dat)
open scoped BigOperators

namespace Cert.KernelIdeal.AttnBlocks

open Cert.KernelIdeal Cert.KernelIdeal.Gen Cert.KernelIdeal.AttnHost Cert.KernelIdeal.AttnRope
open Cert.Attn

/-! ## Reading the stores back -/

theorem tile_at (o : ℕ) (h) (w : Vec Ideal S128x128 .bf16) (L : List (View.Piece (Elt Ideal) S128x512 .bf16)) (i : Fin 128) (e : Fin 512) :
    View.canon (Val := Elt Ideal) (s := S128x512) (⟨Rect.unit ![0, o] ![128, 128] h, w⟩ :: L) (ix2 i e)
      = if hx : o ≤ e.val ∧ e.val - o < 128 then w (ix2 i ⟨e.val - o, hx.2⟩) else View.canon L (ix2 i e) := by
  by_cases hx : o ≤ e.val ∧ e.val - o < 128
  · rw [dif_pos hx]
    have e' : (ix2 i e : S128x512.Idx) = (Rect.unit (s := S128x512) ![0, o] ![128, 128] h).emb (ix2 i (⟨e.val - o, hx.2⟩ : Fin 128)) := by
      funext a
      match a with
      | ⟨0, _⟩ => exact Fin.ext (show i.val = 0 + 1 * i.val by omega)
      | ⟨1, _⟩ => exact Fin.ext (show e.val = o + 1 * (e.val - o) by omega)
    rw [e']
    exact View.canon_cons_emb _ _ _ _
  · rw [dif_neg hx, View.canon_cons_of_not_mem _ _ (fun hm => hx ?_)]
    have := (Rect.mem_set_unit (inb := h)).mp hm (1 : Fin 2)
    have h1 : o ≤ e.val := this.1
    have h2 : e.val < o + 128 := this.2
    omega

theorem tiles4 (w3 w2 w1 w0 : Vec Ideal S128x128 .bf16) (h3) (h2) (h1) (h0) (v : Fin 4 → Fin 128 → Fin 128 → EReal)
    (e3 : ∀ i d, (w3 (ix2 i d) : EReal) = v 3 i d) (e2 : ∀ i d, (w2 (ix2 i d) : EReal) = v 2 i d)
    (e1 : ∀ i d, (w1 (ix2 i d) : EReal) = v 1 i d) (e0 : ∀ i d, (w0 (ix2 i d) : EReal) = v 0 i d) (i : Fin 128) (e : Fin 512) :
    (View.canon (Val := Elt Ideal) (s := S128x512) (e := .bf16) [⟨Rect.unit ![0, 384] ![128, 128] h3, w3⟩, ⟨Rect.unit ![0, 256] ![128, 128] h2, w2⟩,
      ⟨Rect.unit ![0, 128] ![128, 128] h1, w1⟩, ⟨Rect.unit ![0, 0] ![128, 128] h0, w0⟩] (ix2 i e) : EReal)
      = v ⟨e.val / 128, by omega⟩ i ⟨e.val % 128, by omega⟩ := by
  rw [tile_at, tile_at, tile_at, tile_at]
  have hw : e.val / 128 = 3 ∨ e.val / 128 = 2 ∨ e.val / 128 = 1 ∨ e.val / 128 = 0 := by omega
  rcases hw with h | h | h | h
  · rw [dif_pos (by omega), e3, show (⟨e.val / 128, by omega⟩ : Fin 4) = 3 from Fin.ext h]
    exact congrArg _ (Fin.ext (by simp only; omega))
  · rw [dif_neg (by omega), dif_pos (by omega), e2, show (⟨e.val / 128, by omega⟩ : Fin 4) = 2 from Fin.ext h]
    exact congrArg _ (Fin.ext (by simp only; omega))
  · rw [dif_neg (by omega), dif_neg (by omega), dif_pos (by omega), e1, show (⟨e.val / 128, by omega⟩ : Fin 4) = 1 from Fin.ext h]
    exact congrArg _ (Fin.ext (by simp only; omega))
  · rw [dif_neg (by omega), dif_neg (by omega), dif_neg (by omega), dif_pos (by omega), e0, show (⟨e.val / 128, by omega⟩ : Fin 4) = 0 from Fin.ext h]
    exact congrArg _ (Fin.ext (by simp only; omega))

/-! ## The stored rows, entry by entry -/

/-- Row `R` of the four heads' rows, turned through the three tables' row `i`. -/
def trn (X : FVec Ideal S512x128 .f32) (T U W : Vec Ideal S128x128 .f32) (R : Fin 512) (i d : Fin 128) : EReal :=
  (X (ix2 R d) : EReal) * (T (ix2 i d) : EReal)
    + (X (ix2 R ⟨(d.val + 128 - 16) % 128, by omega⟩) : EReal) * (U (ix2 i ⟨(d.val + 128 - 16) % 128, by omega⟩) : EReal)
    + (X (ix2 R ⟨(d.val + 128 - 112) % 128, by omega⟩) : EReal) * (W (ix2 i ⟨(d.val + 128 - 112) % 128, by omega⟩) : EReal)

theorem p24 (v9 v16 : FVec Ideal S384x128 .bf16) (v30 : FVec Ideal S512x128 .bf16) (E : FVec Ideal S512x384 .f32) (ES : FVec Ideal S512x1 .f32) (T U W : Vec Ideal S128x128 .f32) (i d : Fin 128) :
    (k0_pay24 v9 v16 v30 E ES T U W (ix2 i d) : EReal) = trn (k0_pay22 v9 v16 v30 E ES) T U W ⟨i.val, by omega⟩ i d := by
  pointwise [k0_pay24, trn]

theorem p28 (X : FVec Ideal S512x128 .f32) (T U W : Vec Ideal S128x128 .f32) (i d : Fin 128) :
    (k0_pay28 X T U W (ix2 i d) : EReal) = trn X T U W ⟨128 + i.val, by omega⟩ i d := by
  pointwise [k0_pay28, trn]

theorem p31 (X : FVec Ideal S512x128 .f32) (T U W : Vec Ideal S128x128 .f32) (i d : Fin 128) :
    (k0_pay31 (k0_pay30 X) T U W (ix2 i d) : EReal) = trn X T U W ⟨256 + i.val, by omega⟩ i d := by
  pointwise [k0_pay31, k0_pay30, trn]

theorem p37 (X : FVec Ideal S512x128 .f32) (T U W : Vec Ideal S128x128 .f32) (i d : Fin 128) :
    (k0_pay37 (k0_pay33 X) (k0_pay34 W) (k0_pay35 X T) (k0_pay36 X U) (ix2 i d) : EReal) = trn X T U W ⟨384 + i.val, by omega⟩ i d := by
  pointwise [k0_pay37, k0_pay33, k0_pay34, k0_pay35, k0_pay36, trn]

variable {m : (ℓ : Loc nD τ sig) → Buf (Elt Ideal) ℓ} {c : Dev nD}

/-- The tables turn a row back. -/
theorem trn_eq (x : Fin 128 → EReal) (X : FVec Ideal S512x128 .f32) (t : Fin cfg0.N) (R : Fin 512) (i b : Fin 128) (hX : ∀ d, (X (ix2 R d) : EReal) = x d) :
    trn X (iblk m c 9 t) (iblk m c 10 t) (iblk m c 11 t) R i b = unrot x (pos (tn t) i) b := by
  unfold trn unrot
  rw [hX, hX, hX, read_9, read_10, read_11, tab_c_apply, tab_sa_apply, tab_sb_apply]
  by_cases h : b.val < 16
  · have e : (⟨(b.val + 128 - 112) % 128, by omega⟩ : Fin 128) = ⟨b.val + 16, by omega⟩ := Fin.ext (by simp only; omega)
    have e' : ∀ h : (b.val + 128 - 112) % 128 - 16 < 16, (⟨(b.val + 128 - 112) % 128 - 16, h⟩ : Fin 16) = ⟨b.val, by omega⟩ := fun _ => Fin.ext (by simp only; omega)
    rw [dif_pos h, dif_pos h, dif_neg (by simp only; omega), dif_pos (by simp only; omega), mul_zero, add_zero]
    simp only [e, e']
  · by_cases h' : b.val < 32
    · have e : (⟨(b.val + 128 - 16) % 128, by omega⟩ : Fin 128) = ⟨b.val - 16, by omega⟩ := Fin.ext (by simp only; omega)
      have e' : ∀ h : (b.val + 128 - 16) % 128 < 16, (⟨(b.val + 128 - 16) % 128, h⟩ : Fin 16) = ⟨b.val - 16, by omega⟩ := fun _ => Fin.ext (by simp only; omega)
      rw [dif_neg h, dif_pos h', dif_neg h, dif_pos h', dif_pos (by simp only; omega), dif_neg (by simp only; omega), mul_zero, add_zero]
      simp only [e, e', mul_neg]
    · rw [dif_neg h, dif_neg h', dif_neg h, dif_neg h', dif_neg (by simp only; omega), dif_neg (by simp only; omega),
        mul_zero, mul_zero, add_zero, add_zero, mul_one]

variable (H : Real3 (Z m c) (DM m c) (SK m c))
include H

theorem gq_row (t : Fin cfg0.N) (r : Fin 4) (i : Fin 128) (R : Fin 512) (hR : R.val = r.val * 128 + i.val) (d : Fin 128) :
    (k0_pay22 (KB m c t) (VB m c t) (DB m c t) (EB m c t) (ESB m c t) (ix2 R d) : EReal) = gq (Z m c) (DM m c) (SK m c) (pos (tn t) i) (hd (tg t) r) d := by
  rw [Q_row H]
  have h1 : rr R = r := Fin.ext (show R.val / 128 = r.val by omega)
  have h2 : ri R = i := Fin.ext (show R.val % 128 = i.val by omega)
  rw [h1, h2]
  unfold gq
  have e1 : (⟨(pos (tn t) i).val / 128, by have := (pos (tn t) i).isLt; omega⟩ : Fin 32) = tn t := Fin.ext (show ((tn t).val * 128 + i.val) / 128 = (tn t).val by omega)
  have e2 : (⟨(pos (tn t) i).val % 128, by omega⟩ : Fin 128) = i := Fin.ext (show ((tn t).val * 128 + i.val) % 128 = i.val by omega)
  have e3 : (⟨(hd (tg t) r).val / 4, by have := (hd (tg t) r).isLt; omega⟩ : Fin 2) = tg t := Fin.ext (show ((tg t).val * 4 + r.val) / 4 = (tg t).val by omega)
  have e4 : (⟨(hd (tg t) r).val % 4, by omega⟩ : Fin 4) = r := Fin.ext (show ((tg t).val * 4 + r.val) % 4 = r.val by omega)
  rw [e1, e2, e3, e4]

theorem trn_row (t : Fin cfg0.N) (r : Fin 4) (i : Fin 128) (R : Fin 512) (hR : R.val = r.val * 128 + i.val) (d : Fin 128) :
    trn (k0_pay22 (KB m c t) (VB m c t) (DB m c t) (EB m c t) (ESB m c t)) (iblk m c 9 t) (iblk m c 10 t) (iblk m c 11 t) R i d
      = unrot (gq (Z m c) (DM m c) (SK m c) (pos (tn t) i) (hd (tg t) r)) (pos (tn t) i) d :=
  trn_eq _ _ t R i d fun d => gq_row H t r i R hR d

theorem point12 (t : Fin cfg0.N) (i : Fin 128) (e : Fin 512) :
    ((outsAt0 (F := Ideal) m c t.val t.isLt).1 (ix2 i e) : EReal)
      = unrot (gq (Z m c) (DM m c) (SK m c) (pos (tn t) i) (hd (tg t) ⟨e.val / 128, by omega⟩)) (pos (tn t) i) ⟨e.val % 128, by omega⟩ := by
  by_cases h0 : t.val % 32 = 0
  · rw [outsAt0_A m c t h0]; frame_out
    rw [← KB.eq_1 m c t, ← VB.eq_1 m c t, ← stack.eq_1, ← stackO.eq_1, ← QB.eq_1, ← DB.eq_1, ← MB.eq_1]
    rw [sink_0 m c t, sink_1 m c t, sink_2 m c t, sink_3 m c t, ← EB.eq_1, ← ESB.eq_1]
    exact tiles4 _ _ _ _ _ _ _ _ (fun r i d => unrot (gq (Z m c) (DM m c) (SK m c) (pos (tn t) i) (hd (tg t) r)) (pos (tn t) i) d)
      (fun i d => (p37 _ _ _ _ i d).trans (trn_row H t 3 i _ (by show 384 + i.val = 3 * 128 + i.val; omega) d))
      (fun i d => (p31 _ _ _ _ i d).trans (trn_row H t 2 i _ (by show 256 + i.val = 2 * 128 + i.val; omega) d))
      (fun i d => (p28 _ _ _ _ i d).trans (trn_row H t 1 i _ (by show 128 + i.val = 1 * 128 + i.val; omega) d))
      (fun i d => (p24 _ _ _ _ _ _ _ _ i d).trans (trn_row H t 0 i _ (by show i.val = 0 * 128 + i.val; omega) d)) i e
  · rw [outsAt0_B m c t h0]; frame_out
    rw [← KB.eq_1 m c t, ← VB.eq_1 m c t, ← stack.eq_1, ← stackO.eq_1, ← QB.eq_1, ← DB.eq_1, ← MB.eq_1]
    rw [sink_0 m c t, sink_1 m c t, sink_2 m c t, sink_3 m c t, ← EB.eq_1, ← ESB.eq_1]
    exact tiles4 _ _ _ _ _ _ _ _ (fun r i d => unrot (gq (Z m c) (DM m c) (SK m c) (pos (tn t) i) (hd (tg t) r)) (pos (tn t) i) d)
      (fun i d => (p37 _ _ _ _ i d).trans (trn_row H t 3 i _ (by show 384 + i.val = 3 * 128 + i.val; omega) d))
      (fun i d => (p31 _ _ _ _ i d).trans (trn_row H t 2 i _ (by show 256 + i.val = 2 * 128 + i.val; omega) d))
      (fun i d => (p28 _ _ _ _ i d).trans (trn_row H t 1 i _ (by show 128 + i.val = 1 * 128 + i.val; omega) d))
      (fun i d => (p24 _ _ _ _ _ _ _ _ i d).trans (trn_row H t 0 i _ (by show i.val = 0 * 128 + i.val; omega) d)) i e

theorem final12 : (dats m 0 c).arrAt 12 cfg0.N = RQ (Z m c) (DM m c) (SK m c) := by
  refine (dats m 0 c).arrAt_eq_of_covers 12 _ (by decide +kernel) fun t hf y => ?_
  have ht := t_lt t
  blk_simp
  rw [after0_12]
  idx_vars y
  have e : ((View.whole main_v93_0).slice (win0_12.rect t)).emb (ix2 y0 y1) = ix2 (pos (tn t) y0) (⟨t.val / 32 * 512 + y1.val, by omega⟩ : Fin 1024) := by
    blk_ext [idx_val t]
  rw [e]
  refine (point12 H t y0 y1).trans ?_
  show unrot (gq (Z m c) (DM m c) (SK m c) (pos (tn t) y0) (hd (tg t) ⟨y1.val / 128, by omega⟩)) (pos (tn t) y0) ⟨y1.val % 128, by omega⟩
    = unrot (gq (Z m c) (DM m c) (SK m c) (pos (tn t) y0) ⟨(t.val / 32 * 512 + y1.val) / 128, by omega⟩) (pos (tn t) y0) ⟨(t.val / 32 * 512 + y1.val) % 128, by omega⟩
  have e1 : hd (tg t) ⟨y1.val / 128, by omega⟩ = ⟨(t.val / 32 * 512 + y1.val) / 128, by omega⟩ := Fin.ext (show t.val / 32 * 4 + y1.val / 128 = (t.val / 32 * 512 + y1.val) / 128 by omega)
  have e2 : (⟨y1.val % 128, by omega⟩ : Fin 128) = ⟨(t.val / 32 * 512 + y1.val) % 128, by omega⟩ := Fin.ext (by simp only; omega)
  rw [e1, e2]

end Cert.KernelIdeal.AttnBlocks

end
-- ==== Proof.AttnAcc.lean ====
module

public import proofs.«01_k».proof.Proof.AttnRow
public import proofs.«01_k».proof.Proof.AttnRun
public import Idealize.ShloMosaic.Lib.Pipeline.ValueKit
public import Idealize.ShloMosaic.Lib.Pointwise
public import Idealize.ShloMosaic.Lib.WritesUnit

/-! The attention backward call's two accumulated results: the gradients of the turned keys and of the values. Each point adds
its block's share to a window of the padded sequence. -/

@[expose] public section

set_option maxRecDepth 65536

noncomputable section

open Idealize.ShloMosaic Idealize.ShloMosaic.TcCoe Idealize.SL.Sem
open Idealize.ShloMosaic.Pipeline (Dat)
open scoped BigOperators

namespace Cert.KernelIdeal.AttnBlocks

open Cert.KernelIdeal Cert.KernelIdeal.Gen Cert.KernelIdeal.AttnHost Cert.KernelIdeal.AttnRope
open Cert.Attn

/-! ## Reading the stores back -/

/-- The store of a window over a fill of the whole array. -/
theorem fresh_at {o : Fin 3 → ℕ} (O : ℕ) (ho : o = ![0, O, 0]) (h) (h0) (w : Vec Ideal S1x384x128 .f32) (z : Vec Ideal S1x5120x128 .f32)
    (x : Fin 5120) (d : Fin 128) :
    View.canon (Val := Elt Ideal) (s := S1x5120x128) [⟨Rect.unit o ![1, 384, 128] h, w⟩, ⟨Rect.unit ![0, 0, 0] ![1, 5120, 128] h0, z⟩] (ix3 (0 : Fin 1) x d)
      = if hx : O ≤ x.val ∧ x.val - O < 384 then w (ix3 (0 : Fin 1) ⟨x.val - O, hx.2⟩ d) else z (ix3 (0 : Fin 1) x d) := by
  subst ho
  by_cases hx : O ≤ x.val ∧ x.val - O < 384
  · rw [dif_pos hx]
    have e : (ix3 (0 : Fin 1) x d : S1x5120x128.Idx) = (Rect.unit (s := S1x5120x128) ![0, O, 0] ![1, 384, 128] h).emb (ix3 (0 : Fin 1) (⟨x.val - O, hx.2⟩ : Fin 384) d) := by
      funext a
      match a with
      | ⟨0, _⟩ => exact Fin.ext rfl
      | ⟨1, _⟩ => exact Fin.ext (show x.val = O + 1 * (x.val - O) by omega)
      | ⟨2, _⟩ => exact Fin.ext (show d.val = 0 + 1 * d.val by omega)
    rw [e]
    exact View.canon_cons_emb _ _ _ _
  · rw [dif_neg hx, View.canon_cons_of_not_mem _ _ (fun hm => hx ?_)]
    · exact congrFun (View.canon_cons_unit_lit (S := S1x5120x128) h0 z [] (by decide)) _
    · have := (Rect.mem_set_unit (inb := h)).mp hm (1 : Fin 3)
      have h1 : O ≤ x.val := this.1
      have h2 : x.val < O + 384 := this.2
      omega

/-- The store of a window over what the array held. -/
theorem kept_at {sig : RefSig} {κ : Kind} {sp : Space} (v : View sig κ sp S1x5120x128 .f32) (f : v.ty.Contents (Elt Ideal)) (z : Vec Ideal S1x5120x128 .f32)
    (hz : v.read (Elt Ideal) f = z) {o : Fin 3 → ℕ} (O : ℕ) (ho : o = ![0, O, 0]) (h) (w : Vec Ideal S1x384x128 .f32)
    (x : Fin 5120) (d : Fin 128) :
    v.read (Elt Ideal) (v.writes (Elt Ideal) f [⟨Rect.unit o ![1, 384, 128] h, w⟩]) (ix3 (0 : Fin 1) x d)
      = if hx : O ≤ x.val ∧ x.val - O < 384 then w (ix3 (0 : Fin 1) ⟨x.val - O, hx.2⟩ d) else z (ix3 (0 : Fin 1) x d) := by
  by_cases hx : O ≤ x.val ∧ x.val - O < 384
  · rw [dif_pos hx]
    refine View.read_writes_cons_unit_of_mem v f h w [] _ (ix3 (0 : Fin 1) (⟨x.val - O, hx.2⟩ : Fin 384) d) ho fun a => ?_
    match a with
    | ⟨0, _⟩ => rfl
    | ⟨1, _⟩ => exact (show x.val = O + (x.val - O) by omega)
    | ⟨2, _⟩ => exact (show d.val = 0 + d.val by omega)
  · rw [dif_neg hx]
    refine (View.read_writes_cons_unit_of_not_mem v f h w [] _ ho (1 : Fin 3) ?_).trans (congrFun hz _)
    show x.val < O ∨ O + 384 ≤ x.val
    omega

/-- The window read back before the addition. -/
theorem ld_at (z : Vec Ideal S1x5120x128 .f32) {o : Fin 3 → ℕ} (O : ℕ) (ho : o = ![0, O, 0]) (h) (x : Fin 5120) (d : Fin 128)
    (hx : O ≤ x.val ∧ x.val - O < 384) :
    View.ld z (Rect.unit (s := S1x5120x128) o ![1, 384, 128] h) (ix3 (0 : Fin 1) (⟨x.val - O, hx.2⟩ : Fin 384) d) = z (ix3 (0 : Fin 1) x d) := by
  subst ho
  refine View.ld_unit_apply_of z _ _ h _ _ fun a => ?_
  match a with
  | ⟨0, _⟩ => rfl
  | ⟨1, _⟩ => exact (show x.val = O + (x.val - O) by omega)
  | ⟨2, _⟩ => exact (show d.val = 0 + d.val by omega)

/-! ## The additions -/

theorem p39 (q : FVec Ideal S512x128 .bf16) (D : FVec Ideal S512x384 .f32) (w : Vec Ideal S1x384x128 .f32) (j : Fin 384) (d : Fin 128) :
    (k0_pay39 q D w (ix3 (0 : Fin 1) j d) : EReal) = (w (ix3 (0 : Fin 1) j d) : EReal) + ∑ x : Fin 512, (D (ix2 x j) : EReal) * (q (ix2 x d) : EReal) := by
  pointwise [k0_pay39]

theorem p40 (q : FVec Ideal S512x128 .bf16) (D : FVec Ideal S512x384 .f32) (w : Vec Ideal S1x384x128 .f32) (j : Fin 384) (d : Fin 128) :
    (k0_pay1 (k0_pay40 q D w) (ix3 (0 : Fin 1) j d) : EReal) = (w (ix3 (0 : Fin 1) j d) : EReal) + ∑ x : Fin 512, (D (ix2 x j) : EReal) * (q (ix2 x d) : EReal) := by
  pointwise [k0_pay1, k0_pay40]

theorem p2 (x : Fin 5120) (d : Fin 128) : (k0_pay2 (F := Ideal) (ix3 (0 : Fin 1) x d) : EReal) = 0 := by
  pointwise [k0_pay2]

theorem p3 (x : Fin 5120) (d : Fin 128) : (k0_pay3 (F := Ideal) (ix3 (0 : Fin 1) x d) : EReal) = 0 := by
  pointwise [k0_pay3]

/-- A sum over the rows of a block is a sum over its heads and positions. -/
theorem sum512 (f : Fin 4 → Fin 128 → ℝ) : ∑ R : Fin 512, ((f (rr R) (ri R) : ℝ) : EReal) = ((∑ r, ∑ i, f r i : ℝ) : EReal) := by
  rw [← Row.coe_sum]
  exact congrArg _ (Fin.sum_divmod_congr fun R ha hs => rfl)

/-- Block `n`'s share at row `x` of the padded sequence. -/
def shr (f : Fin 32 → Fin 384 → Fin 2 → Fin 128 → ℝ) (n : Fin 32) (g : Fin 2) (x : ℕ) (d : Fin 128) : ℝ :=
  if h : n.val * 128 + 384 ≤ x ∧ x - (n.val * 128 + 384) < 384 then f n ⟨x - (n.val * 128 + 384), h.2⟩ g d else 0

theorem acc_eq (f : Fin 32 → Fin 384 → Fin 2 → Fin 128 → ℝ) (g : Fin 2) (x : ℕ) (d : Fin 128) :
    acc f g x d = ∑ n : Fin 32, shr f n g x d := rfl

theorem off3 (t : Fin cfg0.N) : k0_off3 (grid0.coords t) = ![0, (tn t).val * 128 + 384, 0] := by
  rw [k0_off3_eq, coord1]
  show ![0, 128 * (t.val % 32) + 384, 0] = ![0, t.val % 32 * 128 + 384, 0]
  rw [Nat.mul_comm]

theorem in3 (t : Fin cfg0.N) : ∀ a, k0_off3 (grid0.coords t) a + ![1, 384, 128] a ≤ S1x5120x128.size a := by
  rw [off3]
  have := (tn t).isLt
  intro a
  match a with
  | ⟨0, _⟩ => exact (by decide : 0 + 1 ≤ 1)
  | ⟨1, _⟩ => exact (show (tn t).val * 128 + 384 + 384 ≤ 5120 by omega)
  | ⟨2, _⟩ => exact (by decide : 0 + 128 ≤ 128)

variable {m : (ℓ : Loc nD τ sig) → Buf (Elt Ideal) ℓ} {c : Dev nD} (H : Real3 (Z m c) (DM m c) (SK m c))
include H

/-! ## One point -/

theorem part_k (t : Fin cfg0.N) (j : Fin 384) (d : Fin 128) :
    ∑ x : Fin 512, (k0_pay21 (VB m c t) (DB m c t) (EB m c t) (ESB m c t) (ix2 x j) : EReal) * (QB m c t (ix2 x d) : EReal)
      = (gk (Z m c) (DM m c) (SK m c) (tn t) j (tg t) d : EReal) := by
  refine Eq.trans ?_ (sum512 fun r i => DD (Z m c) (DM m c) (SK m c) (tn t) (tg t) r i j * rq (Z m c) (pos (tn t) i) (hd (tg t) r) d)
  refine Finset.sum_congr rfl fun x _ => ?_
  rw [D_row H, QB_real H, EReal.coe_mul]

theorem part_v (t : Fin cfg0.N) (j : Fin 384) (d : Fin 128) :
    ∑ x : Fin 512, (k0_pay18 (EB m c t) (ESB m c t) (ix2 x j) : EReal) * (DB m c t (ix2 x d) : EReal)
      = (gv (Z m c) (DM m c) (SK m c) (tn t) j (tg t) d : EReal) := by
  refine Eq.trans ?_ (sum512 fun r i => PP (Z m c) (SK m c) (tn t) (tg t) r i j * ro (DM m c) (pos (tn t) i) (hd (tg t) r) d)
  refine Finset.sum_congr rfl fun x _ => ?_
  rw [P_row H, DB_real H, EReal.coe_mul]

omit H in
/-- A window's addition, over any contents. -/
theorem add_at (f : Fin 32 → Fin 384 → Fin 2 → Fin 128 → ℝ) (t : Fin cfg0.N) (z : Vec Ideal S1x5120x128 .f32) (w : Vec Ideal S1x384x128 .f32) (h)
    (hw : ∀ j d, (w (ix3 (0 : Fin 1) j d) : EReal) = (View.ld z (Rect.unit (s := S1x5120x128) (k0_off3 (grid0.coords t)) ![1, 384, 128] h) (ix3 (0 : Fin 1) j d) : EReal) + (f (tn t) j (tg t) d : EReal))
    (x : Fin 5120) (d : Fin 128) :
    ((if hx : (tn t).val * 128 + 384 ≤ x.val ∧ x.val - ((tn t).val * 128 + 384) < 384 then w (ix3 (0 : Fin 1) ⟨x.val - ((tn t).val * 128 + 384), hx.2⟩ d) else z (ix3 (0 : Fin 1) x d)) : EReal)
      = (z (ix3 (0 : Fin 1) x d) : EReal) + (shr f (tn t) (tg t) x.val d : EReal) := by
  unfold shr
  by_cases hx : (tn t).val * 128 + 384 ≤ x.val ∧ x.val - ((tn t).val * 128 + 384) < 384
  · rw [dif_pos hx, dif_pos hx, hw, ld_at z _ (off3 t) h x d hx]
  · rw [dif_neg hx, dif_neg hx]
    exact (add_zero _).symm

theorem k_A (t : Fin cfg0.N) (h0 : t.val % 32 = 0) (x : Fin 5120) (d : Fin 128) :
    ((outsAt0 (F := Ideal) m c t.val t.isLt).2.1 (ix3 (0 : Fin 1) x d) : EReal) = 0 + (shr (gk (Z m c) (DM m c) (SK m c)) (tn t) (tg t) x.val d : EReal) := by
  rw [outsAt0_A m c t h0]; frame_out
  rw [← KB.eq_1 m c t, ← VB.eq_1 m c t, ← stack.eq_1, ← stackO.eq_1, ← QB.eq_1, ← DB.eq_1, ← MB.eq_1]
  rw [sink_0 m c t, sink_1 m c t, sink_2 m c t, sink_3 m c t, ← EB.eq_1, ← ESB.eq_1]
  refine (fresh_at _ (off3 t) _ _ _ _ x d).trans ?_
  refine (add_at (gk (Z m c) (DM m c) (SK m c)) t (k0_pay2 (F := Ideal)) _ (in3 t) (fun j d => ?_) x d).trans ?_
  · exact (p39 _ _ _ j d).trans (congrArg _ (part_k H t j d))
  · rw [p2]

theorem k_B (t : Fin cfg0.N) (h0 : ¬t.val % 32 = 0) (x : Fin 5120) (d : Fin 128) :
    ((outsAt0 (F := Ideal) m c t.val t.isLt).2.1 (ix3 (0 : Fin 1) x d) : EReal)
      = ((outsAt0 (F := Ideal) m c (t.val - 1) (Nat.lt_of_le_of_lt (Nat.sub_le _ _) t.isLt)).2.1 (ix3 (0 : Fin 1) x d) : EReal) + (shr (gk (Z m c) (DM m c) (SK m c)) (tn t) (tg t) x.val d : EReal) := by
  rw [outsAt0_B m c t h0]; frame_out
  rw [← KB.eq_1 m c t, ← VB.eq_1 m c t, ← stack.eq_1, ← stackO.eq_1, ← QB.eq_1, ← DB.eq_1, ← MB.eq_1]
  rw [sink_0 m c t, sink_1 m c t, sink_2 m c t, sink_3 m c t, ← EB.eq_1, ← ESB.eq_1]
  refine (kept_at _ _ _ (Memref.IsWhole.read_unread _ _) _ (off3 t) _ _ x d).trans ?_
  refine (add_at (gk (Z m c) (DM m c) (SK m c)) t _ _ (in3 t) (fun j d => ?_) x d)
  exact (p39 _ _ _ j d).trans (congrArg _ (part_k H t j d))

theorem v_A (t : Fin cfg0.N) (h0 : t.val % 32 = 0) (x : Fin 5120) (d : Fin 128) :
    ((outsAt0 (F := Ideal) m c t.val t.isLt).2.2.1 (ix3 (0 : Fin 1) x d) : EReal) = 0 + (shr (gv (Z m c) (DM m c) (SK m c)) (tn t) (tg t) x.val d : EReal) := by
  rw [outsAt0_A m c t h0]; frame_out
  rw [← KB.eq_1 m c t, ← stack.eq_1, ← stackO.eq_1, ← QB.eq_1, ← DB.eq_1, ← MB.eq_1]
  rw [sink_0 m c t, sink_1 m c t, sink_2 m c t, sink_3 m c t, ← EB.eq_1, ← ESB.eq_1]
  refine (fresh_at _ (off3 t) _ _ _ _ x d).trans ?_
  refine (add_at (gv (Z m c) (DM m c) (SK m c)) t (k0_pay3 (F := Ideal)) _ (in3 t) (fun j d => ?_) x d).trans ?_
  · exact (p40 _ _ _ j d).trans (congrArg _ (part_v H t j d))
  · rw [p3]

theorem v_B (t : Fin cfg0.N) (h0 : ¬t.val % 32 = 0) (x : Fin 5120) (d : Fin 128) :
    ((outsAt0 (F := Ideal) m c t.val t.isLt).2.2.1 (ix3 (0 : Fin 1) x d) : EReal)
      = ((outsAt0 (F := Ideal) m c (t.val - 1) (Nat.lt_of_le_of_lt (Nat.sub_le _ _) t.isLt)).2.2.1 (ix3 (0 : Fin 1) x d) : EReal) + (shr (gv (Z m c) (DM m c) (SK m c)) (tn t) (tg t) x.val d : EReal) := by
  rw [outsAt0_B m c t h0]; frame_out
  rw [← KB.eq_1 m c t, ← stack.eq_1, ← stackO.eq_1, ← QB.eq_1, ← DB.eq_1, ← MB.eq_1]
  rw [sink_0 m c t, sink_1 m c t, sink_2 m c t, sink_3 m c t, ← EB.eq_1, ← ESB.eq_1]
  refine (kept_at _ _ _ (Memref.IsWhole.read_unread _ _) _ (off3 t) _ _ x d).trans ?_
  refine (add_at (gv (Z m c) (DM m c) (SK m c)) t _ _ (in3 t) (fun j d => ?_) x d)
  exact (p40 _ _ _ j d).trans (congrArg _ (part_v H t j d))

/-! ## The whole array -/

omit H in
theorem ix3_eta (y : S1x5120x128.Idx) : y = ix3 (0 : Fin 1) (y 1 : Fin 5120) (y 2 : Fin 128) := by
  funext a
  match a with
  | ⟨0, _⟩ => exact Subsingleton.elim (α := Fin 1) _ _
  | ⟨1, _⟩ => rfl
  | ⟨2, _⟩ => rfl

omit H in
theorem sum_acc (f : Fin 32 → Fin 384 → Fin 2 → Fin 128 → ℝ) (t : Fin cfg0.N) (hb : ∀ s : Fin 32, 32 * (t.val / 32) + s.val < cfg0.N) (g : Fin 2) (hg : g.val = t.val / 32) (x : ℕ) (d : Fin 128) :
    ∑ s : Fin 32, ((shr f (tn ⟨32 * (t.val / 32) + s.val, hb s⟩) (tg ⟨32 * (t.val / 32) + s.val, hb s⟩) x d : ℝ) : EReal) = ((acc f g x d : ℝ) : EReal) := by
  rw [acc_eq, Row.coe_sum]
  refine Finset.sum_congr rfl fun s _ => ?_
  have h1 : tn ⟨32 * (t.val / 32) + s.val, hb s⟩ = s := Fin.ext (show (32 * (t.val / 32) + s.val) % 32 = s.val by omega)
  have h2 : tg ⟨32 * (t.val / 32) + s.val, hb s⟩ = g := Fin.ext (show (32 * (t.val / 32) + s.val) / 32 = g.val by omega)
  rw [h1, h2]

theorem final13 : (dats m 0 c).arrAt 13 cfg0.N = RK (Z m c) (DM m c) (SK m c) := by
  refine (dats m 0 c).arrAt_eq_of_covers 13 _ (by decide +kernel) fun t hf y => ?_
  have ht := t_lt t
  blk_simp
  rw [after0_13, Pipeline.eq_sum_fin_of_reset_step_apply_of_flush (fun n h => (outsAt0 m c n h).2.1) 32 (fun _ => (0 : EReal))
    (fun t y => ((shr (gk (Z m c) (DM m c) (SK m c)) (tn t) (tg t) (y 1).val (y 2) : ℝ) : EReal))
    (fun t h y => by rw [ix3_eta y]; exact k_A H t h _ _) (fun t h y => by rw [ix3_eta y]; exact k_B H t h _ _) t ((flush0_13 t).mp hf) _]
  refine (zero_add (M := EReal) _).trans ?_
  idx_vars y
  have e : ((View.whole main_v93_1).slice (win0_13.rect t)).emb (ix3 y0 y1 y2) = ix3 (⟨t.val / 32, by omega⟩ : Fin 2) y1 y2 := by
    blk_ext [idx_val t]
  rw [e]
  exact sum_acc _ t _ _ rfl _ _

theorem final14 : (dats m 0 c).arrAt 14 cfg0.N = RV (Z m c) (DM m c) (SK m c) := by
  refine (dats m 0 c).arrAt_eq_of_covers 14 _ (by decide +kernel) fun t hf y => ?_
  have ht := t_lt t
  blk_simp
  rw [after0_14, Pipeline.eq_sum_fin_of_reset_step_apply_of_flush (fun n h => (outsAt0 m c n h).2.2.1) 32 (fun _ => (0 : EReal))
    (fun t y => ((shr (gv (Z m c) (DM m c) (SK m c)) (tn t) (tg t) (y 1).val (y 2) : ℝ) : EReal))
    (fun t h y => by rw [ix3_eta y]; exact v_A H t h _ _) (fun t h y => by rw [ix3_eta y]; exact v_B H t h _ _) t ((flush0_14 t).mp hf) _]
  refine (zero_add (M := EReal) _).trans ?_
  idx_vars y
  have e : ((View.whole main_v93_2).slice (win0_14.rect t)).emb (ix3 y0 y1 y2) = ix3 (⟨t.val / 32, by omega⟩ : Fin 2) y1 y2 := by
    blk_ext [idx_val t]
  rw [e]
  exact sum_acc _ t _ _ rfl _ _

end Cert.KernelIdeal.AttnBlocks

end
-- ==== Proof.AttnS.lean ====
module

public import proofs.«01_k».proof.Proof.AttnRow
public import proofs.«01_k».proof.Proof.AttnRun
public import Idealize.ShloMosaic.Lib.Pipeline.ValueKit
public import Idealize.ShloMosaic.Lib.Pointwise
public import Idealize.ShloMosaic.Lib.WritesUnit

/-! The attention backward call's gradient of the sinks: each point takes its four heads' shares off the first four rows. -/

@[expose] public section

set_option maxRecDepth 65536

noncomputable section

open Idealize.ShloMosaic Idealize.ShloMosaic.TcCoe Idealize.SL.Sem
open Idealize.ShloMosaic.Pipeline (Dat)
open scoped BigOperators

namespace Cert.KernelIdeal.AttnBlocks

open Cert.KernelIdeal Cert.KernelIdeal.Gen Cert.KernelIdeal.AttnHost Cert.KernelIdeal.AttnRope
open Cert.Attn

/-! ## Reading the stores back -/

/-- The store of row `r` over what it read of the stores before it. -/
def stp {sig : RefSig} {κ : Kind} {sp : Space} (v : View sig κ sp S1x8x128 .f32) (f : Vec Ideal S1x1x128 .f32 → Vec Ideal S1x1x128 .f32) (r : ℕ)
    (h : ∀ a, (![0, r, 0] : Fin 3 → ℕ) a + (![1, 1, 128] : Fin 3 → ℕ) a ≤ S1x8x128.size a) (L : List (View.Piece (Elt Ideal) S1x8x128 .f32)) : List (View.Piece (Elt Ideal) S1x8x128 .f32) :=
  ⟨Rect.unit (s := S1x8x128) ![0, r, 0] ![1, 1, 128] h, f (v.readCov L (Rect.unit (s := S1x8x128) ![0, r, 0] ![1, 1, 128] h).toLoadRect)⟩ :: L

theorem emb_row (r : ℕ) (h) (s : Fin 8) (hs : s.val = r) (d : Fin 128) :
    (Rect.unit (s := S1x8x128) ![0, r, 0] ![1, 1, 128] h).emb (ix3 (0 : Fin 1) (0 : Fin 1) d) = (ix3 (0 : Fin 1) s d : S1x8x128.Idx) := by
  funext a
  match a with
  | ⟨0, _⟩ => exact Fin.ext rfl
  | ⟨1, _⟩ => exact Fin.ext (show r + 1 * 0 = s.val by omega)
  | ⟨2, _⟩ => exact Fin.ext (show 0 + 1 * d.val = d.val by omega)

theorem stp_at {sig : RefSig} {κ : Kind} {sp : Space} (v : View sig κ sp S1x8x128 .f32) (f : Vec Ideal S1x1x128 .f32 → Vec Ideal S1x1x128 .f32) (p : EReal)
    (hf : ∀ w d, (f w (ix3 (0 : Fin 1) (0 : Fin 1) d) : EReal) = (w (ix3 (0 : Fin 1) (0 : Fin 1) d) : EReal) + p) (r : ℕ) (h) (L) (s : Fin 8) (d : Fin 128) :
    (View.canon (Val := Elt Ideal) (stp v f r h L) (ix3 (0 : Fin 1) s d) : EReal)
      = (View.canon L (ix3 (0 : Fin 1) s d) : EReal) + (if s.val = r then p else 0) := by
  by_cases hs : s.val = r
  · rw [if_pos hs]
    rw [← emb_row r h s hs d]
    unfold stp
    refine (View.canon_cons_emb _ _ _ _).trans ((hf _ d).trans ?_)
    rw [View.readCov_eq_canon']
    rfl
  · rw [if_neg hs]
    refine Eq.trans ?_ (add_zero _).symm
    unfold stp
    rw [View.canon_cons_of_not_mem _ _ (fun hm => hs ?_)]
    have := (Rect.mem_set_unit (inb := h)).mp hm (1 : Fin 3)
    have h1 : r ≤ s.val := this.1
    have h2 : s.val < r + 1 := this.2
    omega

theorem kept_row {sig : RefSig} {κ : Kind} {sp : Space} (v : View sig κ sp S1x8x128 .f32) (f : v.ty.Contents (Elt Ideal)) (r : ℕ) (h)
    (w : Vec Ideal S1x1x128 .f32) (L : List (View.Piece (Elt Ideal) S1x8x128 .f32)) (s : Fin 8) (d : Fin 128) :
    v.read (Elt Ideal) (v.writes (Elt Ideal) f (⟨Rect.unit (s := S1x8x128) ![0, r, 0] ![1, 1, 128] h, w⟩ :: L)) (ix3 (0 : Fin 1) s d)
      = if s.val = r then w (ix3 (0 : Fin 1) (0 : Fin 1) d) else v.read (Elt Ideal) (v.writes (Elt Ideal) f L) (ix3 (0 : Fin 1) s d) := by
  by_cases hs : s.val = r
  · rw [if_pos hs]
    refine View.read_writes_cons_unit_of_mem v f h w L _ (ix3 (0 : Fin 1) (0 : Fin 1) d) rfl fun a => ?_
    match a with
    | ⟨0, _⟩ => rfl
    | ⟨1, _⟩ => exact (show s.val = r + 0 by omega)
    | ⟨2, _⟩ => exact (show d.val = 0 + d.val by omega)
  · rw [if_neg hs]
    refine (View.read_writes_cons_unit_of_not_mem v f h w L _ rfl (1 : Fin 3) ?_)
    show s.val < r ∨ r + 1 ≤ s.val
    omega

theorem ld_row (z : Vec Ideal S1x8x128 .f32) (r : ℕ) (h) (s : Fin 8) (hs : s.val = r) (d : Fin 128) :
    View.ld z (Rect.unit (s := S1x8x128) ![0, r, 0] ![1, 1, 128] h) (ix3 (0 : Fin 1) (0 : Fin 1) d) = z (ix3 (0 : Fin 1) s d) := by
  refine View.ld_unit_apply_of z _ _ h _ _ fun a => ?_
  match a with
  | ⟨0, _⟩ => rfl
  | ⟨1, _⟩ => exact (show s.val = r + 0 by omega)
  | ⟨2, _⟩ => exact (show d.val = 0 + d.val by omega)

/-- The share of row `s`: one of the four heads', or none. -/
def row4 (p : Fin 4 → ℝ) (s : ℕ) : ℝ := if h : s < 4 then p ⟨s, h⟩ else 0

theorem rows_fresh {sig : RefSig} {κ : Kind} {sp : Space} (v : View sig κ sp S1x8x128 .f32) (p : Fin 4 → ℝ)
    (f3 f2 f1 f0 : Vec Ideal S1x1x128 .f32 → Vec Ideal S1x1x128 .f32) (z : Vec Ideal S1x8x128 .f32) (h3) (h2) (h1) (h0) (hz)
    (e3 : ∀ w d, (f3 w (ix3 (0 : Fin 1) (0 : Fin 1) d) : EReal) = (w (ix3 (0 : Fin 1) (0 : Fin 1) d) : EReal) + (p 3 : EReal))
    (e2 : ∀ w d, (f2 w (ix3 (0 : Fin 1) (0 : Fin 1) d) : EReal) = (w (ix3 (0 : Fin 1) (0 : Fin 1) d) : EReal) + (p 2 : EReal))
    (e1 : ∀ w d, (f1 w (ix3 (0 : Fin 1) (0 : Fin 1) d) : EReal) = (w (ix3 (0 : Fin 1) (0 : Fin 1) d) : EReal) + (p 1 : EReal))
    (e0 : ∀ w d, (f0 w (ix3 (0 : Fin 1) (0 : Fin 1) d) : EReal) = (w (ix3 (0 : Fin 1) (0 : Fin 1) d) : EReal) + (p 0 : EReal))
    (s : Fin 8) (d : Fin 128) :
    (View.canon (Val := Elt Ideal) (stp v f3 3 h3 (stp v f2 2 h2 (stp v f1 1 h1 (stp v f0 0 h0 [⟨Rect.unit (s := S1x8x128) ![0, 0, 0] ![1, 8, 128] hz, z⟩])))) (ix3 (0 : Fin 1) s d) : EReal)
      = (z (ix3 (0 : Fin 1) s d) : EReal) + (row4 p s.val : EReal) := by
  rw [stp_at v f3 _ e3 3 h3, stp_at v f2 _ e2 2 h2, stp_at v f1 _ e1 1 h1, stp_at v f0 _ e0 0 h0,
    View.canon_cons_unit_lit (S := S1x8x128) hz z [] (by decide)]
  have hs := s.isLt
  have hw : s.val = 0 ∨ s.val = 1 ∨ s.val = 2 ∨ s.val = 3 ∨ ¬ s.val < 4 := by omega
  rcases hw with h | h | h | h | h
  · simp [row4, h]
  · simp [row4, h]
  · simp [row4, h]
  · simp [row4, h]
  · have a0 : ¬ s.val = 0 := by omega
    have a1 : ¬ s.val = 1 := by omega
    have a2 : ¬ s.val = 2 := by omega
    have a3 : ¬ s.val = 3 := by omega
    simp only [row4, dif_neg h, if_neg a0, if_neg a1, if_neg a2, if_neg a3, add_zero, EReal.coe_zero]

theorem rows_kept {sig : RefSig} {κ : Kind} {sp : Space} (v : View sig κ sp S1x8x128 .f32) (f : v.ty.Contents (Elt Ideal)) (z : Vec Ideal S1x8x128 .f32)
    (hz : v.read (Elt Ideal) f = z) (p : Fin 4 → ℝ)
    (w3 w2 w1 w0 : Vec Ideal S1x1x128 .f32) (h3) (h2) (h1) (h0)
    (e3 : ∀ d, (w3 (ix3 (0 : Fin 1) (0 : Fin 1) d) : EReal) = (View.ld z (Rect.unit (s := S1x8x128) ![0, 3, 0] ![1, 1, 128] h3) (ix3 (0 : Fin 1) (0 : Fin 1) d) : EReal) + (p 3 : EReal))
    (e2 : ∀ d, (w2 (ix3 (0 : Fin 1) (0 : Fin 1) d) : EReal) = (View.ld z (Rect.unit (s := S1x8x128) ![0, 2, 0] ![1, 1, 128] h2) (ix3 (0 : Fin 1) (0 : Fin 1) d) : EReal) + (p 2 : EReal))
    (e1 : ∀ d, (w1 (ix3 (0 : Fin 1) (0 : Fin 1) d) : EReal) = (View.ld z (Rect.unit (s := S1x8x128) ![0, 1, 0] ![1, 1, 128] h1) (ix3 (0 : Fin 1) (0 : Fin 1) d) : EReal) + (p 1 : EReal))
    (e0 : ∀ d, (w0 (ix3 (0 : Fin 1) (0 : Fin 1) d) : EReal) = (View.ld z (Rect.unit (s := S1x8x128) ![0, 0, 0] ![1, 1, 128] h0) (ix3 (0 : Fin 1) (0 : Fin 1) d) : EReal) + (p 0 : EReal))
    (s : Fin 8) (d : Fin 128) :
    (v.read (Elt Ideal) (v.writes (Elt Ideal) f [⟨Rect.unit (s := S1x8x128) ![0, 3, 0] ![1, 1, 128] h3, w3⟩, ⟨Rect.unit (s := S1x8x128) ![0, 2, 0] ![1, 1, 128] h2, w2⟩,
      ⟨Rect.unit (s := S1x8x128) ![0, 1, 0] ![1, 1, 128] h1, w1⟩, ⟨Rect.unit (s := S1x8x128) ![0, 0, 0] ![1, 1, 128] h0, w0⟩]) (ix3 (0 : Fin 1) s d) : EReal)
      = (z (ix3 (0 : Fin 1) s d) : EReal) + (row4 p s.val : EReal) := by
  rw [kept_row, kept_row, kept_row, kept_row]
  have hs := s.isLt
  have hw : s.val = 0 ∨ s.val = 1 ∨ s.val = 2 ∨ s.val = 3 ∨ ¬ s.val < 4 := by omega
  rcases hw with h | h | h | h | h
  · rw [if_neg (by omega), if_neg (by omega), if_neg (by omega), if_pos h, e0, ld_row z 0 h0 s h d]
    simp [row4, h]
  · rw [if_neg (by omega), if_neg (by omega), if_pos h, e1, ld_row z 1 h1 s h d]
    simp [row4, h]
  · rw [if_neg (by omega), if_pos h, e2, ld_row z 2 h2 s h d]
    simp [row4, h]
  · rw [if_pos h, e3, ld_row z 3 h3 s h d]
    simp [row4, h]
  · rw [if_neg (by omega), if_neg (by omega), if_neg (by omega), if_neg (by omega)]
    refine (congrFun hz _).trans ?_
    unfold row4
    rw [dif_neg h]
    exact (add_zero _).symm

/-! ## The subtractions -/

theorem p27 (v16 : FVec Ideal S384x128 .bf16) (v30 : FVec Ideal S512x128 .bf16) (E : FVec Ideal S512x384 .f32) (ES : FVec Ideal S512x1 .f32) (w : Vec Ideal S1x1x128 .f32) (d : Fin 128) :
    (k0_pay27 (k0_pay25 w) (k0_pay26 v16 v30 E ES) (ix3 (0 : Fin 1) (0 : Fin 1) d) : EReal) = (w (ix3 (0 : Fin 1) (0 : Fin 1) d) : EReal) - ∑ x : Fin 128, (k0_pay23 v16 v30 E ES (ix2 (⟨x.val, by omega⟩ : Fin 512) 0) : EReal) := by
  pointwise [k0_pay27, k0_pay25, k0_pay26]

theorem p29 (v : FVec Ideal S512x1 .f32) (w : Vec Ideal S1x1x128 .f32) (d : Fin 128) :
    (k0_pay29 v w (ix3 (0 : Fin 1) (0 : Fin 1) d) : EReal) = (w (ix3 (0 : Fin 1) (0 : Fin 1) d) : EReal) - ∑ x : Fin 128, (v (ix2 (⟨128 + x.val, by omega⟩ : Fin 512) 0) : EReal) := by
  pointwise [k0_pay29]

theorem p32 (v : FVec Ideal S512x1 .f32) (w : Vec Ideal S1x1x128 .f32) (d : Fin 128) :
    (k0_pay32 v w (ix3 (0 : Fin 1) (0 : Fin 1) d) : EReal) = (w (ix3 (0 : Fin 1) (0 : Fin 1) d) : EReal) - ∑ x : Fin 128, (v (ix2 (⟨256 + x.val, by omega⟩ : Fin 512) 0) : EReal) := by
  pointwise [k0_pay32]

theorem p38 (v : FVec Ideal S512x1 .f32) (w : Vec Ideal S1x1x128 .f32) (d : Fin 128) :
    (k0_pay38 v w (ix3 (0 : Fin 1) (0 : Fin 1) d) : EReal) = (w (ix3 (0 : Fin 1) (0 : Fin 1) d) : EReal) - ∑ x : Fin 128, (v (ix2 (⟨384 + x.val, by omega⟩ : Fin 512) 0) : EReal) := by
  pointwise [k0_pay38]

theorem p4 (s : Fin 8) (d : Fin 128) : (k0_pay4 (F := Ideal) (ix3 (0 : Fin 1) s d) : EReal) = 0 := by
  pointwise [k0_pay4]

variable {m : (ℓ : Loc nD τ sig) → Buf (Elt Ideal) ℓ} {c : Dev nD} (H : Real3 (Z m c) (DM m c) (SK m c))
include H

/-! ## One point -/

/-- A head's share, taken off. -/
theorem off_at (t : Fin cfg0.N) (r : Fin 4) (R : Fin 128 → Fin 512) (hR : ∀ x, (R x).val = r.val * 128 + x.val) (a : EReal) :
    a - ∑ x : Fin 128, (k0_pay23 (VB m c t) (DB m c t) (EB m c t) (ESB m c t) (ix2 (R x) 0) : EReal)
      = a + ((-(gs (Z m c) (DM m c) (SK m c) (tn t) (tg t) r) : ℝ) : EReal) := by
  have e : ∑ x : Fin 128, (k0_pay23 (VB m c t) (DB m c t) (EB m c t) (ESB m c t) (ix2 (R x) 0) : EReal) = ((gs (Z m c) (DM m c) (SK m c) (tn t) (tg t) r : ℝ) : EReal) := by
    unfold gs
    rw [Row.coe_sum]
    refine Finset.sum_congr rfl fun x _ => ?_
    rw [K_row H]
    have hx := hR x
    have h1 : rr (R x) = r := Fin.ext (show (R x).val / 128 = r.val by omega)
    have h2 : ri (R x) = x := Fin.ext (show (R x).val % 128 = x.val by omega)
    rw [h1, h2]
  rw [e, EReal.coe_neg, sub_eq_add_neg]

theorem s_A (t : Fin cfg0.N) (h0 : t.val % 32 = 0) (s : Fin 8) (d : Fin 128) :
    ((outsAt0 (F := Ideal) m c t.val t.isLt).2.2.2 (ix3 (0 : Fin 1) s d) : EReal)
      = 0 + (row4 (fun r => -(gs (Z m c) (DM m c) (SK m c) (tn t) (tg t) r)) s.val : EReal) := by
  rw [outsAt0_A m c t h0]; frame_out
  rw [← KB.eq_1 m c t, ← VB.eq_1 m c t, ← stack.eq_1, ← stackO.eq_1, ← QB.eq_1, ← DB.eq_1, ← MB.eq_1]
  rw [sink_0 m c t, sink_1 m c t, sink_2 m c t, sink_3 m c t, ← EB.eq_1, ← ESB.eq_1]
  refine (rows_fresh (ms0_15 t).view (fun r => -(gs (Z m c) (DM m c) (SK m c) (tn t) (tg t) r))
    (k0_pay38 (k0_pay23 (VB m c t) (DB m c t) (EB m c t) (ESB m c t))) (k0_pay32 (k0_pay23 (VB m c t) (DB m c t) (EB m c t) (ESB m c t)))
    (k0_pay29 (k0_pay23 (VB m c t) (DB m c t) (EB m c t) (ESB m c t))) (fun w => k0_pay27 (k0_pay25 w) (k0_pay26 (VB m c t) (DB m c t) (EB m c t) (ESB m c t)))
    (k0_pay4 (F := Ideal)) inb_S1x8x128_S1x1x128_0_3_0 inb_S1x8x128_S1x1x128_0_2_0 inb_S1x8x128_S1x1x128_0_1_0 inb_S1x8x128_S1x1x128_0_0_0 inb_S1x8x128_S1x8x128_0_0_0
    (fun w d => (p38 _ w d).trans (off_at H t 3 _ (fun x => by show 384 + x.val = 3 * 128 + x.val; omega) _))
    (fun w d => (p32 _ w d).trans (off_at H t 2 _ (fun x => by show 256 + x.val = 2 * 128 + x.val; omega) _))
    (fun w d => (p29 _ w d).trans (off_at H t 1 _ (fun x => by show 128 + x.val = 1 * 128 + x.val; omega) _))
    (fun w d => (p27 _ _ _ _ w d).trans (off_at H t 0 _ (fun x => by show x.val = 0 * 128 + x.val; omega) _)) s d).trans ?_
  rw [p4]

theorem s_B (t : Fin cfg0.N) (h0 : ¬t.val % 32 = 0) (s : Fin 8) (d : Fin 128) :
    ((outsAt0 (F := Ideal) m c t.val t.isLt).2.2.2 (ix3 (0 : Fin 1) s d) : EReal)
      = ((outsAt0 (F := Ideal) m c (t.val - 1) (Nat.lt_of_le_of_lt (Nat.sub_le _ _) t.isLt)).2.2.2 (ix3 (0 : Fin 1) s d) : EReal)
        + (row4 (fun r => -(gs (Z m c) (DM m c) (SK m c) (tn t) (tg t) r)) s.val : EReal) := by
  rw [outsAt0_B m c t h0]; frame_out
  rw [← KB.eq_1 m c t, ← VB.eq_1 m c t, ← stack.eq_1, ← stackO.eq_1, ← QB.eq_1, ← DB.eq_1, ← MB.eq_1]
  rw [sink_0 m c t, sink_1 m c t, sink_2 m c t, sink_3 m c t, ← EB.eq_1, ← ESB.eq_1]
  exact rows_kept _ _ _ (Memref.IsWhole.read_unread _ _) (fun r => -(gs (Z m c) (DM m c) (SK m c) (tn t) (tg t) r)) _ _ _ _
    inb_S1x8x128_S1x1x128_0_3_0 inb_S1x8x128_S1x1x128_0_2_0 inb_S1x8x128_S1x1x128_0_1_0 inb_S1x8x128_S1x1x128_0_0_0
    (fun d => (p38 _ _ d).trans (off_at H t 3 _ (fun x => by show 384 + x.val = 3 * 128 + x.val; omega) _))
    (fun d => (p32 _ _ d).trans (off_at H t 2 _ (fun x => by show 256 + x.val = 2 * 128 + x.val; omega) _))
    (fun d => (p29 _ _ d).trans (off_at H t 1 _ (fun x => by show 128 + x.val = 1 * 128 + x.val; omega) _))
    (fun d => (p27 _ _ _ _ _ d).trans (off_at H t 0 _ (fun x => by show x.val = 0 * 128 + x.val; omega) _)) s d

/-! ## The whole array -/

omit H in
theorem ix3_eta8 (y : S1x8x128.Idx) : y = ix3 (0 : Fin 1) (y 1 : Fin 8) (y 2 : Fin 128) := by
  funext a
  match a with
  | ⟨0, _⟩ => exact Subsingleton.elim (α := Fin 1) _ _
  | ⟨1, _⟩ => rfl
  | ⟨2, _⟩ => rfl

omit H in
theorem sum_row (f : Fin 32 → Fin 2 → Fin 4 → ℝ) (t : Fin cfg0.N) (hb : ∀ s : Fin 32, 32 * (t.val / 32) + s.val < cfg0.N) (g : Fin 2) (hg : g.val = t.val / 32) (x : ℕ) :
    ∑ s : Fin 32, ((row4 (fun r => -(f (tn ⟨32 * (t.val / 32) + s.val, hb s⟩) (tg ⟨32 * (t.val / 32) + s.val, hb s⟩) r)) x : ℝ) : EReal)
      = if h : x < 4 then ((-(∑ n, f n g ⟨x, h⟩) : ℝ) : EReal) else 0 := by
  have hsum : ∀ s : Fin 32, ((row4 (fun r => -(f (tn ⟨32 * (t.val / 32) + s.val, hb s⟩) (tg ⟨32 * (t.val / 32) + s.val, hb s⟩) r)) x : ℝ) : EReal) = ((row4 (fun r => -(f s g r)) x : ℝ) : EReal) := fun s => by
    have h1 : tn ⟨32 * (t.val / 32) + s.val, hb s⟩ = s := Fin.ext (show (32 * (t.val / 32) + s.val) % 32 = s.val by omega)
    have h2 : tg ⟨32 * (t.val / 32) + s.val, hb s⟩ = g := Fin.ext (show (32 * (t.val / 32) + s.val) / 32 = g.val by omega)
    rw [h1, h2]
  refine (Finset.sum_congr rfl fun s _ => hsum s).trans ?_
  unfold row4
  by_cases h : x < 4
  · simp only [dif_pos h]
    rw [← Row.coe_sum, Finset.sum_neg_distrib]
  · simp only [dif_neg h]
    exact Finset.sum_eq_zero fun s _ => EReal.coe_zero

theorem final15 : (dats m 0 c).arrAt 15 cfg0.N = RS (Z m c) (DM m c) (SK m c) := by
  refine (dats m 0 c).arrAt_eq_of_covers 15 _ (by decide +kernel) fun t hf y => ?_
  have ht := t_lt t
  blk_simp
  rw [after0_15, Pipeline.eq_sum_fin_of_reset_step_apply_of_flush (fun n h => (outsAt0 m c n h).2.2.2) 32 (fun _ => (0 : EReal))
    (fun t y => ((row4 (fun r => -(gs (Z m c) (DM m c) (SK m c) (tn t) (tg t) r)) (y 1).val : ℝ) : EReal))
    (fun t h y => by rw [ix3_eta8 y]; exact s_A H t h _ _) (fun t h y => by rw [ix3_eta8 y]; exact s_B H t h _ _) t ((flush0_15 t).mp hf) _]
  refine (zero_add (M := EReal) _).trans ?_
  idx_vars y
  have e : ((View.whole main_v93_3).slice (win0_15.rect t)).emb (ix3 y0 y1 y2) = ix3 (⟨t.val / 32, by omega⟩ : Fin 2) y1 y2 := by
    blk_ext [idx_val t]
  rw [e]
  exact sum_row (gs (Z m c) (DM m c) (SK m c)) t _ _ rfl _

end Cert.KernelIdeal.AttnBlocks

end
-- ==== Proof.AttnPre.lean ====
module

public import proofs.«01_k».proof.Defs
public import proofs.«01_k».proof.Proof.AttnData
public import Idealize.ShloMosaic.Lib.Pointwise

/-! The precondition of the attention backward call: the entries read are real numbers. -/

@[expose] public section

set_option maxRecDepth 65536

noncomputable section

open Idealize.ShloMosaic

namespace Cert.Attn

/-- The shape relations of the precondition. -/
theorem preFacts : Cert.Pre_finite.Facts where
  slices_S4096x3584_S4096x1536_0_0 := by decide
  bitsLt_bf16_f32 := by decide
  bcast_S_S4096x1536 := by decide
  slices_S4096x2048_S4096x1024_0_0 := by decide
  bcast_S_S4096x1024 := by decide
  bcast_S_S8 := by decide

/-- An extended real below infinity in magnitude is a real number. -/
theorem isR_of_word (x y : EReal) (hy : y = ⊤) (h : (Idealize.ShloMosaic.Ideal.cmp .olt (max x (-x)) y : BitVec 1) = 1#1) : IsR x := by
  subst hy
  have hlt : max x (-x) < ⊤ := by
    by_contra hn
    simp [Idealize.ShloMosaic.Ideal.cmp, hn] at h
  have h1 : x ≠ ⊤ := fun e => by simp [e] at hlt
  have h2 : x ≠ ⊥ := fun e => by simp [e] at hlt
  exact ⟨x.toReal, (EReal.coe_toReal h1 h2).symm⟩

theorem inf_word : Idealize.ShloMosaic.Ideal.ofBits .f32 0x7F800000#32 = ⊤ := by
  simp [Idealize.ShloMosaic.Ideal.ofBits, Idealize.ShloMosaic.Ideal.ieee]

/-- The precondition says that every entry read is a real number. -/
theorem real3_of_pre (z : FVec Ideal Cert.Pre_finite.S4096x3584 .bf16) (dm : FVec Ideal Cert.Pre_finite.S4096x2048 .bf16) (sk : FVec Ideal Cert.Pre_finite.S8 .f32)
    (h0 : (@Cert.Pre_finite.fn preFacts Ideal _ z dm sk).1 = fun _ => 1#1)
    (h1 : (@Cert.Pre_finite.fn preFacts Ideal _ z dm sk).2.1 = fun _ => 1#1)
    (h2 : (@Cert.Pre_finite.fn preFacts Ideal _ z dm sk).2.2 = fun _ => 1#1) : Real3 z dm sk where
  hz p j hj := by
    have e := congrFun h0 (ix2 p (⟨j.val, hj⟩ : Fin 1536))
    refine isR_of_word _ _ inf_word (Eq.trans ?_ e)
    pointwise [Cert.Pre_finite.fn]
    rfl
  hd p j hj := by
    have e := congrFun h1 (ix2 p (⟨j.val, hj⟩ : Fin 1024))
    refine isR_of_word _ _ inf_word (Eq.trans ?_ e)
    pointwise [Cert.Pre_finite.fn]
    rfl
  hs h := by
    have e := congrFun h2 (ix1 h)
    refine isR_of_word _ _ inf_word (Eq.trans ?_ e)
    pointwise [Cert.Pre_finite.fn]
    rfl

end Cert.Attn

end
-- ==== Proof.AttnRef1.lean ====
module

public import proofs.«01_k».proof.Proof.AttnRope
public import proofs.«01_k».proof.Proof.Gen.ReferenceIdeal.Run

/-! The reference of the attention's gradient: the windows of keys and values, the queries, the mask and the masked scores, entry by entry. -/

@[expose] public section

set_option maxRecDepth 65536

noncomputable section

open Idealize.ShloMosaic Idealize.ShloMosaic.TcCoe Idealize.SL.Sem
open scoped BigOperators

namespace Cert.ReferenceIdeal.AttnRef

open Cert.ReferenceIdeal Cert.ReferenceIdeal.Gen Cert.ReferenceIdeal.Value
open Cert.KernelIdeal.AttnRope (rope8 rope2 q8 k2 rope8_at rope2_at q8_at k2_at)
open Cert.Attn

variable (V0 : Valuation τ sig (Elt Ideal))

/-- The three arguments' contents. -/
def Z : FVec Ideal S4096x3584 .bf16 := V0 (Proc.devRef .tc main_arg0)
def DM : FVec Ideal S4096x2048 .bf16 := V0 (Proc.devRef .tc main_arg1)
def SK : FVec Ideal S8 .f32 := V0 (Proc.devRef .tc main_arg2)

theorem v78_eq : res_main_v78 V0 = (shapeCast _ (rope8 (q8 (Z V0))) shapeCasts_S1x4096x8x128_S1x32x128x2x4x128 : FVec Ideal S1x32x128x2x4x128 .f32) := rfl

theorem v78_at (n : Fin 32) (i : Fin 128) (g : Fin 2) (r : Fin 4) (d : Fin 128) :
    (res_main_v78 V0 (ix6 0 n i g r d) : EReal) = xq (Z V0) (pos n i) (hd g r) d := by
  rw [v78_eq]
  pointwise
  refine (rope8_at _ _ _ _).trans ?_
  simp only [q8_at]
  rfl

/-- The keys, and the keys with a block of zeros at both ends. -/
def padded (x : FVec Ideal S1x4096x2x128 .f32) : FVec Ideal S1x34x128x2x128 .f32 :=
  shapeCast _ ((concatenate S1x4352x2x128 1 [⟨S1x128x2x128, (broadcastInDim S1x128x2x128 ![] bcast_S_S1x128x2x128 (constant S_ .f32 0x00000000#32) : FVec Ideal S1x128x2x128 .f32)⟩, ⟨S1x4096x2x128, x⟩, ⟨S1x128x2x128, (broadcastInDim S1x128x2x128 ![] bcast_S_S1x128x2x128 (constant S_ .f32 0x00000000#32) : FVec Ideal S1x128x2x128 .f32)⟩] concatenates_S1x128x2x128_S1x4096x2x128_S1x128x2x128_S1x4352x2x128_d1 : FVec Ideal S1x4352x2x128 .f32)) shapeCasts_S1x4352x2x128_S1x34x128x2x128

/-- The windows of a padded array. -/
def windows (x : FVec Ideal S1x4096x2x128 .f32) : FVec Ideal S1x32x384x2x128 .f32 :=
  concatenate S1x32x384x2x128 2 [⟨S1x32x128x2x128, (extractStridedSlice S1x32x128x2x128 ![0, 0, 0, 0, 0] (padded x) slices_S1x34x128x2x128_S1x32x128x2x128_0_0_0_0_0 : FVec Ideal S1x32x128x2x128 .f32)⟩, ⟨S1x32x128x2x128, (extractStridedSlice S1x32x128x2x128 ![0, 1, 0, 0, 0] (padded x) slices_S1x34x128x2x128_S1x32x128x2x128_0_1_0_0_0 : FVec Ideal S1x32x128x2x128 .f32)⟩, ⟨S1x32x128x2x128, (extractStridedSlice S1x32x128x2x128 ![0, 2, 0, 0, 0] (padded x) slices_S1x34x128x2x128_S1x32x128x2x128_0_2_0_0_0 : FVec Ideal S1x32x128x2x128 .f32)⟩] concatenates_S1x32x128x2x128_S1x32x128x2x128_S1x32x128x2x128_S1x32x384x2x128_d2

theorem padded_at (x : FVec Ideal S1x4096x2x128 .f32) (b : Fin 34) (k : Fin 128) (g : Fin 2) (d : Fin 128) :
    padded x (ix5 0 b k g d) = if h : 128 ≤ b.val * 128 + k.val ∧ b.val * 128 + k.val < 4224 then x (ix4 0 ⟨b.val * 128 + k.val - 128, by omega⟩ g d) else (0 : EReal) := by
  pointwise [padded]
  by_cases h1 : b.val * 128 + k.val < 128
  · rw [dif_pos h1, dif_neg (by omega)]
  · rw [dif_neg h1]
    by_cases h2 : b.val * 128 + k.val - 128 < 4096
    · rw [dif_pos h2, dif_pos (by omega)]
    · rw [dif_neg h2, dif_neg (by omega)]

theorem windows_at (x : FVec Ideal S1x4096x2x128 .f32) (n : Fin 32) (j : Fin 384) (g : Fin 2) (d : Fin 128) :
    windows x (ix5 0 n j g d) = if h : Inside n j then x (ix4 0 ⟨n.val * 128 + j.val - 128, by have := h.1; have := h.2; omega⟩ g d) else (0 : EReal) := by
  have key : ∀ (b : Fin 34) (k : Fin 128), b.val * 128 + k.val = n.val * 128 + j.val → padded x (ix5 0 b k g d) = if h : Inside n j then x (ix4 0 ⟨n.val * 128 + j.val - 128, by have := h.1; have := h.2; omega⟩ g d) else (0 : EReal) := by
    intro b k h
    rw [padded_at]
    simp only [h]
  pointwise [windows]
  split
  · exact key _ _ (by simp only)
  · split
    · exact key _ _ (by simp only; omega)
    · exact key _ _ (by simp only; omega)

theorem v73_eq : res_main_v73 V0 = windows (rope2 (k2 (Z V0))) := rfl

/-- The value heads. -/
def v2 (z : FVec Ideal S4096x3584 .bf16) : FVec Ideal S1x4096x2x128 .f32 :=
  shapeCast _ (extf .f32 (extractStridedSlice S4096x256 ![0, 1280] z slices_S4096x3584_S4096x256_0_1280) bitsLt_bf16_f32 : FVec Ideal S4096x256 .f32) shapeCasts_S4096x256_S1x4096x2x128

theorem v2_at (z : FVec Ideal S4096x3584 .bf16) (p : Fin 4096) (h : Fin 2) (d : Fin 128) :
    v2 z (ix4 0 p h d) = xv z p h d := by
  pointwise [v2]
  rfl

theorem v77_eq : res_main_v77 V0 = windows (v2 (Z V0)) := rfl

variable {V0} (H : Real3 (Z V0) (DM V0) (SK V0))
include H

theorem v78_real (n : Fin 32) (i : Fin 128) (g : Fin 2) (r : Fin 4) (d : Fin 128) :
    (res_main_v78 V0 (ix6 0 n i g r d) : EReal) = (rq (Z V0) (pos n i) (hd g r) d : EReal) := by
  rw [v78_at, H.q]

theorem v73_real (n : Fin 32) (j : Fin 384) (g : Fin 2) (d : Fin 128) :
    (res_main_v73 V0 (ix5 0 n j g d) : EReal) = (win (rk (Z V0)) n j g d : EReal) := by
  rw [v73_eq, windows_at]
  unfold win
  split
  · refine (rope2_at _ _ _ _).trans ?_
    simp only [k2_at]
    exact H.k _ _ _
  · rfl

theorem v77_real (n : Fin 32) (j : Fin 384) (g : Fin 2) (d : Fin 128) :
    (res_main_v77 V0 (ix5 0 n j g d) : EReal) = (win (rv (Z V0)) n j g d : EReal) := by
  rw [v77_eq, windows_at]
  unfold win
  split
  · rw [v2_at]
    exact H.v _ _ _
  · rfl

theorem v154_real (n : Fin 32) (g : Fin 2) (d : Fin 128) (r : Fin 4) (i : Fin 128) :
    (res_main_v154 V0 (ix6 0 n g d r i) : EReal) = (ro (DM V0) (pos n i) (hd g r) d : EReal) := by
  refine Eq.trans ?_ (H.o _ _ _)
  pointwise [res_main_v154]
  refine congrArg (fun k => DM V0 (ix2 _ k)) (Fin.ext ?_)
  simp only; omega

omit H
theorem mask_at (n : Fin 32) (g : Fin 2) (r : Fin 4) (i : Fin 128) (j : Fin 384) :
    (res_main_v114_1 V0 (ix6 0 n g r i j) : BitVec 1) = mask n i j := by
  pointwise [res_main_v114_1, res_main_v95]
  rfl

/-- The windows of keys and the queries, as arrays of extended reals. -/
abbrev e73 (V0 : Valuation τ sig (Elt Ideal)) : S1x32x384x2x128.Idx → EReal := res_main_v73 V0
abbrev e78 (V0 : Valuation τ sig (Elt Ideal)) : S1x32x128x2x4x128.Idx → EReal := res_main_v78 V0

theorem v117_all (n : Fin 32) (g : Fin 2) (r : Fin 4) (i : Fin 128) (k : Fin 385) :
    (res_main_v117 V0 (ix6 0 n g r i k) : EReal) = if h : k.val < 384 then
      Scalar.select (res_main_v114_1 V0 (ix6 0 n g r i ⟨k.val, h⟩) : BitVec 1) ((∑ d, e73 V0 (ix5 0 n ⟨k.val, h⟩ g d) * e78 V0 (ix6 0 n i g r d)) * Ideal.ofBits .f32 1035273459#32) (Ideal.ofBits .f32 4286578688#32)
      else SK V0 (ix1 (hd g r)) := by
  pointwise [res_main_v117]
  rfl

theorem v117_last (n : Fin 32) (g : Fin 2) (r : Fin 4) (i : Fin 128) :
    (res_main_v117 V0 (ix6 0 n g r i (Fin.last 384)) : EReal) = SK V0 (ix1 (hd g r)) :=
  (v117_all n g r i (Fin.last 384)).trans (dif_neg (by simp))

theorem v117_at (n : Fin 32) (g : Fin 2) (r : Fin 4) (i : Fin 128) (j : Fin 384) :
    (res_main_v117 V0 (ix6 0 n g r i j.castSucc) : EReal) =
      Scalar.select (res_main_v114_1 V0 (ix6 0 n g r i j) : BitVec 1) ((∑ d, e73 V0 (ix5 0 n j g d) * e78 V0 (ix6 0 n i g r d)) * Ideal.ofBits .f32 1035273459#32) (Ideal.ofBits .f32 4286578688#32) :=
  (v117_all n g r i j.castSucc).trans (dif_pos j.isLt)

include H
theorem v117_msk (n : Fin 32) (g : Fin 2) (r : Fin 4) (i : Fin 128) (j : Fin 384) :
    (res_main_v117 V0 (ix6 0 n g r i j.castSucc) : EReal) = Row.msk (bb n i) (sg (Z V0) n g r i) j := by
  rw [v117_at, mask_at, ninf, sc_eq]
  unfold Row.msk Scalar.select
  refine if_congr Iff.rfl ?_ rfl
  unfold sg
  rw [EReal.coe_mul, Row.coe_sum]
  refine congrArg (fun x : EReal => x * _) (Finset.sum_congr rfl fun d _ => ?_)
  refine (congrArg₂ (fun a b : EReal => a * b) (v73_real H n j g d) (v78_real H n i g r d)).trans ?_
  rw [← EReal.coe_mul, mul_comm]

theorem v117_sink (n : Fin 32) (g : Fin 2) (r : Fin 4) (i : Fin 128) :
    (res_main_v117 V0 (ix6 0 n g r i (Fin.last 384)) : EReal) = (rs (SK V0) (hd g r) : EReal) := by
  rw [v117_last, H.s]

end Cert.ReferenceIdeal.AttnRef

end
-- ==== Proof.AttnRef2.lean ====
module

public import proofs.«01_k».proof.Proof.AttnRef1

/-! The reference of the attention's gradient, row by row: the sums over the last axis, the exponentials, the
probabilities and the gradient of the scores. -/

@[expose] public section

set_option maxRecDepth 65536

noncomputable section

open Idealize.ShloMosaic Idealize.ShloMosaic.TcCoe Idealize.SL.Sem
open scoped BigOperators

namespace Cert.ReferenceIdeal.AttnRef

open Cert.ReferenceIdeal Cert.ReferenceIdeal.Gen Cert.ReferenceIdeal.Value
open Cert.Attn

/-! ## The reductions -/

theorem fiber5 (n : Fin 32) (g : Fin 2) (r : Fin 4) (i : Fin 128) (y : S1x32x2x4x128x385.Idx) :
    reducesTo_S1x32x2x4x128x385_S1x32x2x4x128_d5.drop y = ix5 0 n g r i ↔ ∃ k : Fin 385, ix6 0 n g r i k = y := by
  constructor
  · intro e
    refine ⟨y 5, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨k, rfl⟩
    funext b; apply Fin.ext
    match b with
    | ⟨0, _⟩ => rfl
    | ⟨1, _⟩ => rfl
    | ⟨2, _⟩ => rfl
    | ⟨3, _⟩ => rfl
    | ⟨4, _⟩ => rfl

theorem inj5 (n : Fin 32) (g : Fin 2) (r : Fin 4) (i : Fin 128) :
    Function.Injective (fun k : Fin 385 => (ix6 0 n g r i k : S1x32x2x4x128x385.Idx)) := fun a b e => congrFun e 5

theorem sum5 (v : FVec Ideal S1x32x2x4x128x385 .f32) (n : Fin 32) (g : Fin 2) (r : Fin 4) (i : Fin 128) :
    (Host.reduceAdd v (constant S_ .f32 0x00000000#32) reducesTo_S1x32x2x4x128x385_S1x32x2x4x128_d5 h_S_ (ix5 0 n g r i) : EReal) = ∑ k : Fin 385, v (ix6 0 n g r i k) := by
  pointwise
  exact (congrArg ((0 : EReal) + ·) (Finset.sum_filter_eq_sum_of_fiber _ (fun k : Fin 385 => (ix6 0 n g r i k : S1x32x2x4x128x385.Idx)) (inj5 n g r i) (fiber5 n g r i) v)).trans (zero_add _)

theorem max5 (v : FVec Ideal S1x32x2x4x128x385 .f32) (n : Fin 32) (g : Fin 2) (r : Fin 4) (i : Fin 128) :
    (Host.reduce FloatOps.maximumf v (constant S_ .f32 0xFF800000#32) reducesTo_S1x32x2x4x128x385_S1x32x2x4x128_d5 h_S_ : FVec Ideal S1x32x2x4x128 .f32) (ix5 0 n g r i) = Finset.univ.fold max ⊥ (fun k : Fin 385 => (v (ix6 0 n g r i k) : EReal)) := by
  rw [Ideal.maximumf_eq_max]
  refine (Host.reduce_eq_fold (max : EReal → EReal → EReal) v _ _ _ _).trans ?_
  refine (Finset.fold_filter_eq_fold_of_fiber _ _ (fun k : Fin 385 => (ix6 0 n g r i k : S1x32x2x4x128x385.Idx)) (inj5 n g r i) (fiber5 n g r i) _ v).trans ?_
  exact congrArg (fun b => Finset.univ.fold max b (fun k : Fin 385 => (v (ix6 0 n g r i k) : EReal))) ninf

theorem fiber05 (n : Fin 32) (g : Fin 2) (r : Fin 4) (i : Fin 128) (y : S1x32x2x4x128x1.Idx) :
    reducesTo_S1x32x2x4x128x1_S32x2x4x128_d0_5.drop y = ix4 n g r i ↔ ∃ k : Fin 1, ix6 0 n g r i k = y := by
  constructor
  · intro e
    refine ⟨y 5, ?_⟩
    funext a; apply Fin.ext
    match a with
    | ⟨0, _⟩ => exact (Nat.lt_one_iff.mp (y 0).isLt).symm
    | ⟨1, _⟩ => exact (congrArg Fin.val (congrFun e ⟨0, by decide⟩)).symm
    | ⟨2, _⟩ => exact (congrArg Fin.val (congrFun e ⟨1, by decide⟩)).symm
    | ⟨3, _⟩ => exact (congrArg Fin.val (congrFun e ⟨2, by decide⟩)).symm
    | ⟨4, _⟩ => exact (congrArg Fin.val (congrFun e ⟨3, by decide⟩)).symm
    | ⟨5, _⟩ => rfl
  · rintro ⟨k, rfl⟩
    funext b; apply Fin.ext
    match b with
    | ⟨0, _⟩ => rfl
    | ⟨1, _⟩ => rfl
    | ⟨2, _⟩ => rfl
    | ⟨3, _⟩ => rfl

theorem sum05 (v : FVec Ideal S1x32x2x4x128x1 .f32) (n : Fin 32) (g : Fin 2) (r : Fin 4) (i : Fin 128) :
    (Host.reduceAdd v (constant S_ .f32 0x00000000#32) reducesTo_S1x32x2x4x128x1_S32x2x4x128_d0_5 h_S_ (ix4 n g r i) : EReal) = v (ix6 0 n g r i 0) := by
  pointwise
  refine (congrArg ((0 : EReal) + ·) (Finset.sum_filter_eq_sum_of_fiber _ (fun k : Fin 1 => (ix6 0 n g r i k : S1x32x2x4x128x1.Idx)) (fun a b e => congrFun e 5) (fiber05 n g r i) v)).trans ((zero_add _).trans ?_)
  exact Fin.sum_univ_one (fun k : Fin 1 => (v (ix6 0 n g r i k) : EReal))

theorem fiber0145 (g : Fin 2) (r : Fin 4) (y : S1x32x2x4x128x1.Idx) :
    reducesTo_S1x32x2x4x128x1_S2x4_d0_1_4_5.drop y = ix2 g r ↔ ∃ k : Fin 32 × Fin 128, ix6 0 k.1 g r k.2 0 = y := by
  constructor
  · intro e
    refine ⟨(y 1, y 4), ?_⟩
    funext a; apply Fin.ext
    match a with
    | ⟨0, _⟩ => exact (Nat.lt_one_iff.mp (y 0).isLt).symm
    | ⟨1, _⟩ => rfl
    | ⟨2, _⟩ => exact (congrArg Fin.val (congrFun e ⟨0, by decide⟩)).symm
    | ⟨3, _⟩ => exact (congrArg Fin.val (congrFun e ⟨1, by decide⟩)).symm
    | ⟨4, _⟩ => rfl
    | ⟨5, _⟩ => exact (Nat.lt_one_iff.mp (y 5).isLt).symm
  · rintro ⟨k, rfl⟩
    funext b; apply Fin.ext
    match b with
    | ⟨0, _⟩ => rfl
    | ⟨1, _⟩ => rfl

theorem sum0145 (v : FVec Ideal S1x32x2x4x128x1 .f32) (g : Fin 2) (r : Fin 4) :
    (Host.reduceAdd v (constant S_ .f32 0x00000000#32) reducesTo_S1x32x2x4x128x1_S2x4_d0_1_4_5 h_S_ (ix2 g r) : EReal) = ∑ n : Fin 32, ∑ i : Fin 128, (v (ix6 0 n g r i 0) : EReal) := by
  pointwise
  refine (congrArg ((0 : EReal) + ·) (Finset.sum_filter_eq_sum_of_fiber _ (fun k : Fin 32 × Fin 128 => (ix6 0 k.1 g r k.2 0 : S1x32x2x4x128x1.Idx)) (fun a b e => Prod.ext (congrFun e 1) (congrFun e 4)) (fiber0145 g r) v)).trans ((zero_add _).trans ?_)
  exact Fintype.sum_prod_type (fun k : Fin 32 × Fin 128 => (v (ix6 0 k.1 g r k.2 0) : EReal))

/-! ## The exponentials and their sum -/

abbrev e117 (V0 : Valuation τ sig (Elt Ideal)) : S1x32x2x4x128x385.Idx → EReal := res_main_v117 V0
abbrev e138 (V0 : Valuation τ sig (Elt Ideal)) : S1x32x2x4x128x385.Idx → EReal := res_main_v138 V0
abbrev e140 (V0 : Valuation τ sig (Elt Ideal)) : S1x32x2x4x128x1.Idx → EReal := res_main_v140 V0
abbrev e146 (V0 : Valuation τ sig (Elt Ideal)) : S1x32x2x4x128x384.Idx → EReal := res_main_v146 V0
abbrev e77 (V0 : Valuation τ sig (Elt Ideal)) : S1x32x384x2x128.Idx → EReal := res_main_v77 V0
abbrev e154 (V0 : Valuation τ sig (Elt Ideal)) : S1x32x2x128x4x128.Idx → EReal := res_main_v154 V0
abbrev e158 (V0 : Valuation τ sig (Elt Ideal)) : S1x32x2x4x128x385.Idx → EReal := res_main_v158 V0
abbrev e171 (V0 : Valuation τ sig (Elt Ideal)) : S1x32x2x4x128x385.Idx → EReal := res_main_v171 V0

variable (V0 : Valuation τ sig (Elt Ideal))

theorem exp_form (x : FVec Ideal S1x32x2x4x128x385 .f32) (y : FVec Ideal S1x32x2x4x128 .f32) (n : Fin 32) (g : Fin 2) (r : Fin 4) (i : Fin 128) (k : Fin 385) :
    (Host.exp (subf x (broadcastInDim S1x32x2x4x128x385 ![0, 1, 2, 3, 4, 5] bcast_S1x32x2x4x128x1_S1x32x2x4x128x385_0_1_2_3_4_5 (broadcastInDim S1x32x2x4x128x1 ![0, 1, 2, 3, 4] bcast_S1x32x2x4x128_S1x32x2x4x128x1_0_1_2_3_4 (maximumf (broadcastInDim S1x32x2x4x128 ![] bcast_S_S1x32x2x4x128 (constant S_ .f32 0xFF800000#32)) y)))) (ix6 0 n g r i k) : EReal)
      = Ideal.exp ((x (ix6 0 n g r i k) : EReal) - max (Ideal.ofBits .f32 4286578688#32) (y (ix5 0 n g r i))) := by
  pointwise

theorem v138_at (n : Fin 32) (g : Fin 2) (r : Fin 4) (i : Fin 128) (k : Fin 385) :
    e138 V0 (ix6 0 n g r i k) = Ideal.exp (e117 V0 (ix6 0 n g r i k) - max ⊥ (Finset.univ.fold max ⊥ (fun k => e117 V0 (ix6 0 n g r i k)))) := by
  refine (exp_form (res_main_v117 V0) (res_main_v118 V0) n g r i k).trans ?_
  rw [ninf]
  exact congrArg (fun t : EReal => Ideal.exp (e117 V0 (ix6 0 n g r i k) - max ⊥ t)) (max5 (res_main_v117 V0) n g r i)

theorem v140_at (n : Fin 32) (g : Fin 2) (r : Fin 4) (i : Fin 128) :
    e140 V0 (ix6 0 n g r i 0) = ∑ k : Fin 385, e138 V0 (ix6 0 n g r i k) := by
  refine Eq.trans ?_ (sum5 (res_main_v138 V0) n g r i)
  show res_main_v140 V0 (ix6 0 n g r i 0) = _
  unfold res_main_v140
  generalize (Host.reduceAdd (res_main_v138 V0) (constant S_ .f32 0x00000000#32) reducesTo_S1x32x2x4x128x385_S1x32x2x4x128_d5 h_S_ : FVec Ideal S1x32x2x4x128 .f32) = w
  pointwise

theorem v146_at (n : Fin 32) (g : Fin 2) (r : Fin 4) (i : Fin 128) (j : Fin 384) :
    e146 V0 (ix6 0 n g r i j) = Ideal.div (e138 V0 (ix6 0 n g r i j.castSucc)) (e140 V0 (ix6 0 n g r i 0)) := by
  show (res_main_v146 V0 (ix6 0 n g r i j) : EReal) = _
  pointwise [res_main_v146]
  rfl

theorem v158_at (n : Fin 32) (g : Fin 2) (r : Fin 4) (i : Fin 128) (k : Fin 385) :
    e158 V0 (ix6 0 n g r i k) = if h : k.val < 384 then ∑ d, e154 V0 (ix6 0 n g d r i) * e77 V0 (ix5 0 n ⟨k.val, h⟩ g d) else 0 := by
  show (res_main_v158 V0 (ix6 0 n g r i k) : EReal) = _
  pointwise [res_main_v158]

/-- The row's correction, from its parts. -/
def corr (x : FVec Ideal S1x32x2x4x128x385 .f32) (y : FVec Ideal S1x32x2x4x128x1 .f32) (w : FVec Ideal S1x32x2x4x128x385 .f32) : FVec Ideal S32x2x4x128 .f32 :=
  Host.reduceAdd (Host.negf (shapeCast _ (Host.reduceAdd (mulf (mulf x (broadcastInDim S1x32x2x4x128x385 ![0, 1, 2, 3, 4, 5] bcast_S1x32x2x4x128x1_S1x32x2x4x128x385_0_1_2_3_4_5 (Host.divf (broadcastInDim S1x32x2x4x128x1 ![] bcast_S_S1x32x2x4x128x1 (constant S_ .f32 0x3F800000#32)) (mulf y y)))) w) (constant S_ .f32 0x00000000#32) reducesTo_S1x32x2x4x128x385_S1x32x2x4x128_d5 h_S_) shapeCasts_S1x32x2x4x128_S1x32x2x4x128x1)) (constant S_ .f32 0x00000000#32) reducesTo_S1x32x2x4x128x1_S32x2x4x128_d0_5 h_S_

theorem neg_form (x : FVec Ideal S1x32x2x4x128 .f32) (n : Fin 32) (g : Fin 2) (r : Fin 4) (i : Fin 128) :
    ((Host.negf (shapeCast S1x32x2x4x128x1 x shapeCasts_S1x32x2x4x128_S1x32x2x4x128x1) : FVec Ideal S1x32x2x4x128x1 .f32) (ix6 0 n g r i 0) : EReal) = -(x (ix5 0 n g r i) : EReal) := by
  pointwise

theorem prod_form (x : FVec Ideal S1x32x2x4x128x385 .f32) (y : FVec Ideal S1x32x2x4x128x1 .f32) (w : FVec Ideal S1x32x2x4x128x385 .f32) (n : Fin 32) (g : Fin 2) (r : Fin 4) (i : Fin 128) (k : Fin 385) :
    (mulf (mulf x (broadcastInDim S1x32x2x4x128x385 ![0, 1, 2, 3, 4, 5] bcast_S1x32x2x4x128x1_S1x32x2x4x128x385_0_1_2_3_4_5 (Host.divf (broadcastInDim S1x32x2x4x128x1 ![] bcast_S_S1x32x2x4x128x1 (constant S_ .f32 0x3F800000#32)) (mulf y y)))) w (ix6 0 n g r i k) : EReal)
      = (x (ix6 0 n g r i k) : EReal) * Ideal.div 1 ((y (ix6 0 n g r i 0) : EReal) * (y (ix6 0 n g r i 0) : EReal)) * (w (ix6 0 n g r i k) : EReal) := by
  pointwise

theorem corr_at (x : FVec Ideal S1x32x2x4x128x385 .f32) (y : FVec Ideal S1x32x2x4x128x1 .f32) (w : FVec Ideal S1x32x2x4x128x385 .f32) (n : Fin 32) (g : Fin 2) (r : Fin 4) (i : Fin 128) :
    (corr x y w (ix4 n g r i) : EReal) = -(∑ k : Fin 385, (x (ix6 0 n g r i k) : EReal) * Ideal.div 1 ((y (ix6 0 n g r i 0) : EReal) * (y (ix6 0 n g r i 0) : EReal)) * (w (ix6 0 n g r i k) : EReal)) := by
  unfold corr
  refine (sum05 _ n g r i).trans ((neg_form _ n g r i).trans ?_)
  refine congrArg (fun t : EReal => -t) ((sum5 _ n g r i).trans ?_)
  exact Finset.sum_congr rfl fun k _ => prod_form x y w n g r i k

theorem grad_form (x : FVec Ideal S1x32x2x4x128x385 .f32) (y : FVec Ideal S1x32x2x4x128x1 .f32) (w : FVec Ideal S1x32x2x4x128x385 .f32) (t : FVec Ideal S32x2x4x128 .f32) (n : Fin 32) (g : Fin 2) (r : Fin 4) (i : Fin 128) (k : Fin 385) :
    (mulf (addf (Host.divf x (broadcastInDim S1x32x2x4x128x385 ![0, 1, 2, 3, 4, 5] bcast_S1x32x2x4x128x1_S1x32x2x4x128x385_0_1_2_3_4_5 y)) (broadcastInDim S1x32x2x4x128x385 ![0, 1, 2, 3, 4] bcast_S1x32x2x4x128_S1x32x2x4x128x385_0_1_2_3_4 (broadcastInDim S1x32x2x4x128 ![1, 2, 3, 4] bcast_S32x2x4x128_S1x32x2x4x128_1_2_3_4 t))) w (ix6 0 n g r i k) : EReal)
      = (Ideal.div (x (ix6 0 n g r i k)) (y (ix6 0 n g r i 0)) + (t (ix4 n g r i) : EReal)) * (w (ix6 0 n g r i k) : EReal) := by
  pointwise

theorem v171_at (n : Fin 32) (g : Fin 2) (r : Fin 4) (i : Fin 128) (k : Fin 385) :
    e171 V0 (ix6 0 n g r i k) = (Ideal.div (e158 V0 (ix6 0 n g r i k)) (e140 V0 (ix6 0 n g r i 0))
      + -(∑ k : Fin 385, e158 V0 (ix6 0 n g r i k) * Ideal.div 1 (e140 V0 (ix6 0 n g r i 0) * e140 V0 (ix6 0 n g r i 0)) * e138 V0 (ix6 0 n g r i k))) * e138 V0 (ix6 0 n g r i k) := by
  refine (grad_form (res_main_v158 V0) (res_main_v140 V0) (res_main_v138 V0) (corr (res_main_v158 V0) (res_main_v140 V0) (res_main_v138 V0)) n g r i k).trans ?_
  exact congrArg (fun t : EReal => (Ideal.div (e158 V0 (ix6 0 n g r i k)) (e140 V0 (ix6 0 n g r i 0)) + t) * e138 V0 (ix6 0 n g r i k)) (corr_at (res_main_v158 V0) (res_main_v140 V0) (res_main_v138 V0) n g r i)

variable {V0} (H : Real3 (Z V0) (DM V0) (SK V0))
include H

theorem top_at (n : Fin 32) (g : Fin 2) (r : Fin 4) (i : Fin 128) :
    max (⊥ : EReal) (Finset.univ.fold max ⊥ (fun k => e117 V0 (ix6 0 n g r i k))) = Row.top (bb n i) (sg (Z V0) n g r i) (rs (SK V0) (hd g r)) :=
  Row.top_ref (bb n i) (sg (Z V0) n g r i) (rs (SK V0) (hd g r)) (fun k => e117 V0 (ix6 0 n g r i k)) (fun j => v117_msk H n g r i j) (v117_sink H n g r i)

theorem v138_E (n : Fin 32) (g : Fin 2) (r : Fin 4) (i : Fin 128) (j : Fin 384) :
    e138 V0 (ix6 0 n g r i j.castSucc) = (Row.E (bb n i) (sg (Z V0) n g r i) (rs (SK V0) (hd g r)) j : EReal) := by
  rw [v138_at, top_at H, ← Row.exp_at]
  exact congrArg (fun t : EReal => Ideal.exp (t - _)) (v117_msk H n g r i j)

theorem v138_ES (n : Fin 32) (g : Fin 2) (r : Fin 4) (i : Fin 128) :
    e138 V0 (ix6 0 n g r i (Fin.last 384)) = (Row.ES (bb n i) (sg (Z V0) n g r i) (rs (SK V0) (hd g r)) : EReal) := by
  rw [v138_at, top_at H, ← Row.exp_sink]
  exact congrArg (fun t : EReal => Ideal.exp (t - _)) (v117_sink H n g r i)

theorem v140_S (n : Fin 32) (g : Fin 2) (r : Fin 4) (i : Fin 128) :
    e140 V0 (ix6 0 n g r i 0) = (Row.S (bb n i) (sg (Z V0) n g r i) (rs (SK V0) (hd g r)) : EReal) := by
  rw [v140_at]
  exact Row.sum_ref (bb n i) (sg (Z V0) n g r i) (rs (SK V0) (hd g r)) (fun k => e138 V0 (ix6 0 n g r i k)) (v138_E H n g r i) (v138_ES H n g r i)

theorem v146_P (n : Fin 32) (g : Fin 2) (r : Fin 4) (i : Fin 128) (j : Fin 384) :
    e146 V0 (ix6 0 n g r i j) = (PP (Z V0) (SK V0) n g r i j : EReal) := by
  rw [v146_at, v138_E H, v140_S H]
  exact Row.p_ref _ _ _ _

theorem v158_d (n : Fin 32) (g : Fin 2) (r : Fin 4) (i : Fin 128) (j : Fin 384) :
    e158 V0 (ix6 0 n g r i j.castSucc) = (dl (Z V0) (DM V0) n g r i j : EReal) := by
  refine (v158_at V0 n g r i j.castSucc).trans ((dif_pos j.isLt).trans ?_)
  unfold dl
  rw [Row.coe_sum]
  refine Finset.sum_congr rfl fun d _ => ?_
  rw [EReal.coe_mul]
  exact congrArg₂ (fun a b : EReal => a * b) (v154_real H n g d r i) (v77_real H n j g d)

omit H in
theorem v158_last (n : Fin 32) (g : Fin 2) (r : Fin 4) (i : Fin 128) :
    e158 V0 (ix6 0 n g r i (Fin.last 384)) = 0 :=
  (v158_at V0 n g r i (Fin.last 384)).trans (dif_neg (by simp))

theorem corr_real (n : Fin 32) (g : Fin 2) (r : Fin 4) (i : Fin 128) :
    ∑ k : Fin 385, e158 V0 (ix6 0 n g r i k) * Ideal.div 1 (e140 V0 (ix6 0 n g r i 0) * e140 V0 (ix6 0 n g r i 0)) * e138 V0 (ix6 0 n g r i k)
      = ((1 / Row.S (bb n i) (sg (Z V0) n g r i) (rs (SK V0) (hd g r)) * Row.Dl (bb n i) (sg (Z V0) n g r i) (dl (Z V0) (DM V0) n g r i) (rs (SK V0) (hd g r)) : ℝ) : EReal) := by
  rw [v140_S H]
  exact Row.corr_ref (bb n i) (sg (Z V0) n g r i) (dl (Z V0) (DM V0) n g r i) (rs (SK V0) (hd g r)) (fun k => e138 V0 (ix6 0 n g r i k)) (fun k => e158 V0 (ix6 0 n g r i k)) (v138_E H n g r i) (v138_ES H n g r i) (v158_d H n g r i) (v158_last n g r i)

theorem v171_D (n : Fin 32) (g : Fin 2) (r : Fin 4) (i : Fin 128) (j : Fin 384) :
    e171 V0 (ix6 0 n g r i j.castSucc) = (Row.DS (bb n i) (sg (Z V0) n g r i) (dl (Z V0) (DM V0) n g r i) (rs (SK V0) (hd g r)) j : EReal) := by
  rw [v171_at, corr_real H, v140_S H, v138_E H, v158_d H]
  exact Row.ds_ref _ _ _ _ _

theorem v171_K (n : Fin 32) (g : Fin 2) (r : Fin 4) (i : Fin 128) :
    e171 V0 (ix6 0 n g r i (Fin.last 384)) = ((-(KK (Z V0) (DM V0) (SK V0) n g r i) : ℝ) : EReal) := by
  rw [v171_at, corr_real H, v140_S H, v138_ES H, v158_last]
  exact Row.sink_ref _ _ _ _

end Cert.ReferenceIdeal.AttnRef

end
-- ==== Proof.AttnRef3.lean ====
module

public import proofs.«01_k».proof.Proof.AttnRef2

/-! The reference of the attention's gradient: the gradients of queries, keys and values, and the reference's results. -/

@[expose] public section

set_option maxRecDepth 65536

noncomputable section

open Idealize.ShloMosaic Idealize.ShloMosaic.TcCoe Idealize.SL.Sem
open scoped BigOperators

namespace Cert.ReferenceIdeal.AttnRef

open Cert.ReferenceIdeal Cert.ReferenceIdeal.Gen Cert.ReferenceIdeal.Value
open Cert.Attn

variable (V0 : Valuation τ sig (Elt Ideal))

abbrev e157 (V0 : Valuation τ sig (Elt Ideal)) : S1x32x384x2x128.Idx → EReal := res_main_v157 V0
abbrev e180 (V0 : Valuation τ sig (Elt Ideal)) : S1x32x2x384x128x4.Idx → EReal := res_main_v180 V0
abbrev e184 (V0 : Valuation τ sig (Elt Ideal)) : S1x32x384x2x128.Idx → EReal := res_main_v184 V0
abbrev e185 (V0 : Valuation τ sig (Elt Ideal)) : S1x4096x8x128.Idx → EReal := res_main_v185 V0

theorem v157_at (n : Fin 32) (j : Fin 384) (g : Fin 2) (d : Fin 128) :
    e157 V0 (ix5 0 n j g d) = ∑ r, ∑ i, e154 V0 (ix6 0 n g d r i) * e146 V0 (ix6 0 n g r i j) := by
  show (res_main_v157 V0 (ix5 0 n j g d) : EReal) = _
  pointwise [res_main_v157]

theorem v180_at (n : Fin 32) (g : Fin 2) (j : Fin 384) (i : Fin 128) (r : Fin 4) :
    e180 V0 (ix6 0 n g j i r) = Scalar.select (res_main_v114_1 V0 (ix6 0 n g r i j) : BitVec 1) (e171 V0 (ix6 0 n g r i j.castSucc)) 0 * Ideal.ofBits .f32 1035273459#32 := by
  show (res_main_v180 V0 (ix6 0 n g j i r) : EReal) = _
  pointwise [res_main_v180]
  rfl

theorem v184_at (n : Fin 32) (j : Fin 384) (g : Fin 2) (d : Fin 128) :
    e184 V0 (ix5 0 n j g d) = ∑ i, ∑ r, e180 V0 (ix6 0 n g j i r) * e78 V0 (ix6 0 n i g r d) := by
  show (res_main_v184 V0 (ix5 0 n j g d) : EReal) = _
  pointwise [res_main_v184]

theorem v185_at (p : Fin 4096) (h : Fin 8) (d : Fin 128) :
    e185 V0 (ix4 0 p h d) = ∑ j, e180 V0 (ix6 0 ⟨p.val / 128, by omega⟩ ⟨h.val / 4, by omega⟩ j ⟨p.val % 128, by omega⟩ ⟨h.val % 4, by omega⟩) * e73 V0 (ix5 0 ⟨p.val / 128, by omega⟩ j ⟨h.val / 4, by omega⟩ d) := by
  show (res_main_v185 V0 (ix4 0 p h d) : EReal) = _
  pointwise [res_main_v185]

/-- The windows' shares, added up at each position of the padded sequence. -/
def fold3 (x : FVec Ideal S1x32x384x2x128 .f32) : FVec Ideal S1x4352x2x128 .f32 :=
  shapeCast _ (addf (addf (pad S1x34x128x2x128 ![0, 2, 0, 0, 0] ![0, 0, 0, 0, 0] ![0, 0, 0, 0, 0] (extractStridedSlice S1x32x128x2x128 ![0, 0, 256, 0, 0] x slices_S1x32x384x2x128_S1x32x128x2x128_0_0_256_0_0) (constant S_ .f32 0x00000000#32) pads_S1x32x128x2x128_S1x34x128x2x128_000_200_000_000_000 h_S_) (pad S1x34x128x2x128 ![0, 1, 0, 0, 0] ![0, 1, 0, 0, 0] ![0, 0, 0, 0, 0] (extractStridedSlice S1x32x128x2x128 ![0, 0, 128, 0, 0] x slices_S1x32x384x2x128_S1x32x128x2x128_0_0_128_0_0) (constant S_ .f32 0x00000000#32) pads_S1x32x128x2x128_S1x34x128x2x128_000_110_000_000_000 h_S_)) (pad S1x34x128x2x128 ![0, 0, 0, 0, 0] ![0, 2, 0, 0, 0] ![0, 0, 0, 0, 0] (extractStridedSlice S1x32x128x2x128 ![0, 0, 0, 0, 0] x slices_S1x32x384x2x128_S1x32x128x2x128_0_0_0_0_0) (constant S_ .f32 0x00000000#32) pads_S1x32x128x2x128_S1x34x128x2x128_000_020_000_000_000 h_S_)) shapeCasts_S1x34x128x2x128_S1x4352x2x128

theorem fold3_at (x : FVec Ideal S1x32x384x2x128 .f32) (p : Fin 4352) (g : Fin 2) (d : Fin 128) :
    (fold3 x (ix4 0 p g d) : EReal) =
      ((if h : 2 ≤ p.val / 128 ∧ p.val / 128 - 2 < 32 then (x (ix5 0 ⟨p.val / 128 - 2, h.2⟩ ⟨256 + p.val % 128, by omega⟩ g d) : EReal) else 0)
      + (if h : 1 ≤ p.val / 128 ∧ p.val / 128 - 1 < 32 then (x (ix5 0 ⟨p.val / 128 - 1, h.2⟩ ⟨128 + p.val % 128, by omega⟩ g d) : EReal) else 0))
      + (if h : p.val / 128 < 32 then (x (ix5 0 ⟨p.val / 128, h⟩ ⟨p.val % 128, by omega⟩ g d) : EReal) else 0) := by
  pointwise [fold3]
  have hm : p.val % 128 < 128 := Nat.mod_lt _ (by decide)
  simp only [hm, and_true]

theorem pick (k q : ℕ) (F : Fin 32 → ℝ) : (∑ n : Fin 32, if n.val + k = q then F n else 0) = if h : k ≤ q ∧ q - k < 32 then F ⟨q - k, h.2⟩ else 0 := by
  split
  · rename_i h
    refine (Finset.sum_eq_single (⟨q - k, h.2⟩ : Fin 32) ?_ ?_).trans (if_pos (by simp only; omega))
    · intro b _ hb
      refine if_neg fun e => hb (Fin.ext ?_)
      simp only; omega
    · intro h'; exact absurd (Finset.mem_univ _) h'
  · rename_i h
    refine Finset.sum_eq_zero fun n _ => if_neg fun e => h ?_
    have := n.isLt
    omega

theorem acc_three (f : Fin 32 → Fin 384 → Fin 2 → Fin 128 → ℝ) (g : Fin 2) (p : ℕ) (d : Fin 128) :
    acc f g (p + 384) d =
      ((if h : 2 ≤ p / 128 ∧ p / 128 - 2 < 32 then f ⟨p / 128 - 2, h.2⟩ ⟨256 + p % 128, by omega⟩ g d else 0)
      + (if h : 1 ≤ p / 128 ∧ p / 128 - 1 < 32 then f ⟨p / 128 - 1, h.2⟩ ⟨128 + p % 128, by omega⟩ g d else 0))
      + (if h : 0 ≤ p / 128 ∧ p / 128 - 0 < 32 then f ⟨p / 128 - 0, h.2⟩ ⟨p % 128, by omega⟩ g d else 0) := by
  rw [← pick 2 (p / 128) (fun n => f n ⟨256 + p % 128, by omega⟩ g d), ← pick 1 (p / 128) (fun n => f n ⟨128 + p % 128, by omega⟩ g d), ← pick 0 (p / 128) (fun n => f n ⟨p % 128, by omega⟩ g d), ← Finset.sum_add_distrib, ← Finset.sum_add_distrib]
  unfold acc
  refine Finset.sum_congr rfl fun n _ => ?_
  by_cases h2 : n.val + 2 = p / 128
  · have e : (⟨p + 384 - (n.val * 128 + 384), by omega⟩ : Fin 384) = ⟨256 + p % 128, by omega⟩ := Fin.ext (by simp only; omega)
    rw [dif_pos (by omega), if_pos h2, if_neg (by omega), if_neg (by omega), add_zero, add_zero, e]
  · by_cases h1 : n.val + 1 = p / 128
    · have e : (⟨p + 384 - (n.val * 128 + 384), by omega⟩ : Fin 384) = ⟨128 + p % 128, by omega⟩ := Fin.ext (by simp only; omega)
      rw [dif_pos (by omega), if_neg h2, if_pos h1, if_neg (by omega), add_zero, zero_add, e]
    · by_cases h0 : n.val + 0 = p / 128
      · have e : (⟨p + 384 - (n.val * 128 + 384), by omega⟩ : Fin 384) = ⟨p % 128, by omega⟩ := Fin.ext (by simp only; omega)
        rw [dif_pos (by omega), if_neg h2, if_neg h1, if_pos h0, zero_add, zero_add, e]
      · rw [dif_neg (by omega), if_neg h2, if_neg h1, if_neg h0, zero_add, zero_add]

theorem coe_dif (c : Prop) [Decidable c] (f : c → ℝ) : (((if h : c then f h else 0 : ℝ) : EReal)) = if h : c then (f h : EReal) else 0 := by
  split <;> rfl

theorem fold3_acc (x : FVec Ideal S1x32x384x2x128 .f32) (f : Fin 32 → Fin 384 → Fin 2 → Fin 128 → ℝ)
    (hx : ∀ n j g d, (x (ix5 0 n j g d) : EReal) = (f n j g d : EReal)) (p : Fin 4352) (g : Fin 2) (d : Fin 128) :
    (fold3 x (ix4 0 p g d) : EReal) = (acc f g (p.val + 384) d : EReal) := by
  rw [fold3_at, acc_three, EReal.coe_add, EReal.coe_add, coe_dif, coe_dif, coe_dif]
  simp only [hx, Nat.zero_le, true_and, Nat.sub_zero]

/-- Shares of places outside the sequence vanish, so the rows of padding hold zero. -/
theorem acc_pad (f : Fin 32 → Fin 384 → Fin 2 → Fin 128 → ℝ) (hf : ∀ n j g d, ¬ Inside n j → f n j g d = 0) (g : Fin 2) (x : ℕ) (hx : x < 512 ∨ 4608 ≤ x) (d : Fin 128) :
    acc f g x d = 0 := by
  unfold acc
  refine Finset.sum_eq_zero fun n _ => ?_
  split
  · rename_i h
    refine hf _ _ _ _ fun hi => ?_
    have h1 := hi.1
    have h2 := hi.2
    simp only at h1 h2
    omega
  · rfl

/-- The three pieces of a result laid out with padding on both sides. -/
def padRes (w : FVec Ideal S1x4352x2x128 .f32) : FVec Ideal S2x5120x128 .f32 :=
  concatenate S2x5120x128 1 [⟨S2x512x128, (broadcastInDim S2x512x128 ![] bcast_S_S2x512x128 (constant S_ .f32 0x00000000#32) : FVec Ideal S2x512x128 .f32)⟩, ⟨S2x4096x128, (transpose S2x4096x128 [1, 0, 2] (shapeCast _ (extractStridedSlice S1x4096x2x128 ![0, 128, 0, 0] w slices_S1x4352x2x128_S1x4096x2x128_0_128_0_0) shapeCasts_S1x4096x2x128_S4096x2x128) transposes_S4096x2x128_S2x4096x128_1_0_2 : FVec Ideal S2x4096x128 .f32)⟩, ⟨S2x512x128, (broadcastInDim S2x512x128 ![] bcast_S_S2x512x128 (constant S_ .f32 0x00000000#32) : FVec Ideal S2x512x128 .f32)⟩] concatenates_S2x512x128_S2x4096x128_S2x512x128_S2x5120x128_d1

theorem padRes_at (w : FVec Ideal S1x4352x2x128 .f32) (g : Fin 2) (x : Fin 5120) (d : Fin 128) :
    (padRes w (ix3 g x d) : EReal) = if h : 512 ≤ x.val ∧ x.val < 4608 then w (ix4 0 ⟨x.val - 384, by omega⟩ g d) else 0 := by
  pointwise [padRes]
  by_cases h1 : x.val < 512
  · rw [dif_pos h1, dif_neg (by omega)]
  · rw [dif_neg h1]
    by_cases h2 : x.val - 512 < 4096
    · rw [dif_pos h2, dif_pos (by omega)]
      refine congrArg (fun k => w (ix4 0 k g d)) (Fin.ext ?_)
      simp only; omega
    · rw [dif_neg h2, dif_neg (by omega)]

theorem padRes_acc (x : FVec Ideal S1x32x384x2x128 .f32) (f : Fin 32 → Fin 384 → Fin 2 → Fin 128 → ℝ)
    (hx : ∀ n j g d, (x (ix5 0 n j g d) : EReal) = (f n j g d : EReal)) (hf : ∀ n j g d, ¬ Inside n j → f n j g d = 0) (g : Fin 2) (y : Fin 5120) (d : Fin 128) :
    (padRes (fold3 x) (ix3 g y d) : EReal) = (acc f g y.val d : EReal) := by
  rw [padRes_at]
  split
  · rename_i h
    rw [fold3_acc x f hx]
    refine congrArg (fun k => ((acc f g k d : ℝ) : EReal)) ?_
    simp only; omega
  · rename_i h
    rw [acc_pad f hf g y.val (by omega) d]
    rfl

/-- The queries' gradient before it is laid out position by position. -/
def core8 (x : FVec Ideal S1x4096x8x128 .f32) : FVec Ideal S1x4096x8x128 .f32 :=
  (addf (addf (pad S1x4096x8x128 ![0, 0, 0, 32] ![0, 0, 0, 0] ![0, 0, 0, 0] (extractStridedSlice S1x4096x8x96 ![0, 0, 0, 32] x slices_S1x4096x8x128_S1x4096x8x96_0_0_0_32) (constant S_ .f32 0x00000000#32) pads_S1x4096x8x96_S1x4096x8x128_000_000_000_3200 h_S_) (pad S1x4096x8x128 ![0, 0, 0, 16] ![0, 0, 0, 96] ![0, 0, 0, 0] (addf (mulf (extractStridedSlice S1x4096x8x16 ![0, 0, 0, 16] (extractStridedSlice S1x4096x8x32 ![0, 0, 0, 0] x slices_S1x4096x8x128_S1x4096x8x32_0_0_0_0) slices_S1x4096x8x32_S1x4096x8x16_0_0_0_16) (broadcastInDim S1x4096x8x16 ![0, 1, 2, 3] bcast_S1x4096x1x16_S1x4096x8x16_0_1_2_3 (broadcastInDim S1x4096x1x16 ![1, 3] bcast_S4096x16_S1x4096x1x16_1_3 (Host.cos Cert.Kernel2Ideal.FinishValue.ang)))) (mulf (Host.negf (extractStridedSlice S1x4096x8x16 ![0, 0, 0, 0] (extractStridedSlice S1x4096x8x32 ![0, 0, 0, 0] x slices_S1x4096x8x128_S1x4096x8x32_0_0_0_0) slices_S1x4096x8x32_S1x4096x8x16_0_0_0_0)) (broadcastInDim S1x4096x8x16 ![0, 1, 2, 3] bcast_S1x4096x1x16_S1x4096x8x16_0_1_2_3 (broadcastInDim S1x4096x1x16 ![1, 3] bcast_S4096x16_S1x4096x1x16_1_3 (Host.sin Cert.Kernel2Ideal.FinishValue.ang))))) (constant S_ .f32 0x00000000#32) pads_S1x4096x8x16_S1x4096x8x128_000_000_000_16960 h_S_)) (pad S1x4096x8x128 ![0, 0, 0, 0] ![0, 0, 0, 112] ![0, 0, 0, 0] (addf (mulf (extractStridedSlice S1x4096x8x16 ![0, 0, 0, 16] (extractStridedSlice S1x4096x8x32 ![0, 0, 0, 0] x slices_S1x4096x8x128_S1x4096x8x32_0_0_0_0) slices_S1x4096x8x32_S1x4096x8x16_0_0_0_16) (broadcastInDim S1x4096x8x16 ![0, 1, 2, 3] bcast_S1x4096x1x16_S1x4096x8x16_0_1_2_3 (broadcastInDim S1x4096x1x16 ![1, 3] bcast_S4096x16_S1x4096x1x16_1_3 (Host.sin Cert.Kernel2Ideal.FinishValue.ang)))) (mulf (extractStridedSlice S1x4096x8x16 ![0, 0, 0, 0] (extractStridedSlice S1x4096x8x32 ![0, 0, 0, 0] x slices_S1x4096x8x128_S1x4096x8x32_0_0_0_0) slices_S1x4096x8x32_S1x4096x8x16_0_0_0_0) (broadcastInDim S1x4096x8x16 ![0, 1, 2, 3] bcast_S1x4096x1x16_S1x4096x8x16_0_1_2_3 (broadcastInDim S1x4096x1x16 ![1, 3] bcast_S4096x16_S1x4096x1x16_1_3 (Host.cos Cert.Kernel2Ideal.FinishValue.ang))))) (constant S_ .f32 0x00000000#32) pads_S1x4096x8x16_S1x4096x8x128_000_000_000_01120 h_S_))

set_option maxHeartbeats 2000000 in
theorem core8_at (x : FVec Ideal S1x4096x8x128 .f32) (p : Fin 4096) (h : Fin 8) (d : Fin 128) :
    (core8 x (ix4 0 p h d) : EReal) = unrot (fun d => x (ix4 0 p h d)) p d := by
  unfold unrot
  pointwise [core8]
  by_cases h1 : d.val < 16
  · have e : ∀ h : 16 + d.val < 128, (⟨16 + d.val, h⟩ : Fin 128) = ⟨d.val + 16, by omega⟩ := fun _ => Fin.ext (Nat.add_comm _ _)
    rw [dif_neg (by omega), dif_neg (by omega), dif_pos h1, dif_pos h1, zero_add, zero_add, e]
    exact add_comm _ _
  · by_cases h2 : d.val < 32
    · have e : ∀ h : 16 + (d.val - 16) < 128, (⟨16 + (d.val - 16), h⟩ : Fin 128) = d := fun _ => Fin.ext (by simp only; omega)
      rw [dif_neg (by omega), dif_pos (by omega), dif_neg h1, dif_neg h1, dif_pos h2, zero_add, add_zero]
      simp only [e]
      exact congrArg₂ (fun a b : EReal => a + b) rfl (EReal.neg_mul _ _)
    · have e : ∀ h : 32 + (d.val - 32) < 128, (⟨32 + (d.val - 32), h⟩ : Fin 128) = d := fun _ => Fin.ext (by simp only; omega)
      have a : 32 ≤ d.val ∧ d.val - 32 < 96 := ⟨by omega, by have := d.isLt; omega⟩
      have b : ¬ (16 ≤ d.val ∧ d.val - 16 < 16) := by omega
      rw [dif_neg h1, dif_neg h1, dif_neg h2, dif_pos a, dif_neg b]
      refine (add_zero _).trans ((add_zero _).trans ?_)
      exact congrArg (fun k => x (ix4 0 p h k)) (e _)

variable {V0} (H : Real3 (Z V0) (DM V0) (SK V0))

theorem DD_masked (z : (⟨2, ![4096, 3584]⟩ : Shape).Idx → EReal) (dm : (⟨2, ![4096, 2048]⟩ : Shape).Idx → EReal) (sk : (⟨1, ![8]⟩ : Shape).Idx → EReal) (n : Fin 32) (g : Fin 2) (r : Fin 4) (i : Fin 128) (j : Fin 384) (h : ¬ bb n i j) :
    DD z dm sk n g r i j = 0 := by
  unfold DD; rw [Row.DS_masked _ _ _ _ _ h, zero_mul]

theorem gk_masked (z : (⟨2, ![4096, 3584]⟩ : Shape).Idx → EReal) (dm : (⟨2, ![4096, 2048]⟩ : Shape).Idx → EReal) (sk : (⟨1, ![8]⟩ : Shape).Idx → EReal) (n : Fin 32) (j : Fin 384) (g : Fin 2) (d : Fin 128) (h : ¬ Inside n j) :
    gk z dm sk n j g d = 0 := by
  unfold gk
  refine Finset.sum_eq_zero fun r _ => Finset.sum_eq_zero fun i _ => ?_
  rw [DD_masked z dm sk n g r i j (fun e => h (inside_of_mask n i j e)), zero_mul]

theorem gv_masked (z : (⟨2, ![4096, 3584]⟩ : Shape).Idx → EReal) (dm : (⟨2, ![4096, 2048]⟩ : Shape).Idx → EReal) (sk : (⟨1, ![8]⟩ : Shape).Idx → EReal) (n : Fin 32) (j : Fin 384) (g : Fin 2) (d : Fin 128) (h : ¬ Inside n j) :
    gv z dm sk n j g d = 0 := by
  unfold gv
  refine Finset.sum_eq_zero fun r _ => Finset.sum_eq_zero fun i _ => ?_
  unfold PP
  rw [Row.P_masked _ _ _ _ (fun e : bb n i j => h (inside_of_mask n i j e)), zero_mul]

include H

theorem v180_D (n : Fin 32) (g : Fin 2) (j : Fin 384) (i : Fin 128) (r : Fin 4) :
    e180 V0 (ix6 0 n g j i r) = (DD (Z V0) (DM V0) (SK V0) n g r i j : EReal) := by
  rw [v180_at, mask_at, v171_D H, sc_eq]
  unfold Scalar.select
  split
  · unfold DD; rw [EReal.coe_mul]
  · rename_i h
    rw [DD_masked _ _ _ _ _ _ _ _ h, zero_mul, EReal.coe_zero]

theorem v184_k (n : Fin 32) (j : Fin 384) (g : Fin 2) (d : Fin 128) :
    (res_main_v184 V0 (ix5 0 n j g d) : EReal) = (gk (Z V0) (DM V0) (SK V0) n j g d : EReal) := by
  refine (v184_at V0 n j g d).trans ?_
  unfold gk
  rw [Finset.sum_comm, Row.coe_sum]
  refine Finset.sum_congr rfl fun r _ => ?_
  rw [Row.coe_sum]
  refine Finset.sum_congr rfl fun i _ => ?_
  rw [EReal.coe_mul]
  exact congrArg₂ (fun a b : EReal => a * b) (v180_D H n g j i r) (v78_real H n i g r d)

theorem v157_v (n : Fin 32) (j : Fin 384) (g : Fin 2) (d : Fin 128) :
    (res_main_v157 V0 (ix5 0 n j g d) : EReal) = (gv (Z V0) (DM V0) (SK V0) n j g d : EReal) := by
  refine (v157_at V0 n j g d).trans ?_
  unfold gv
  rw [Row.coe_sum]
  refine Finset.sum_congr rfl fun r _ => ?_
  rw [Row.coe_sum]
  refine Finset.sum_congr rfl fun i _ => ?_
  rw [mul_comm (PP _ _ _ _ _ _ _), EReal.coe_mul]
  exact congrArg₂ (fun a b : EReal => a * b) (v154_real H n g d r i) (v146_P H n g r i j)

theorem v185_q (p : Fin 4096) (h : Fin 8) (d : Fin 128) :
    (res_main_v185 V0 (ix4 0 p h d) : EReal) = gq (Z V0) (DM V0) (SK V0) p h d := by
  refine (v185_at V0 p h d).trans ?_
  unfold gq
  rw [Row.coe_sum]
  refine Finset.sum_congr rfl fun j _ => ?_
  rw [EReal.coe_mul]
  exact congrArg₂ (fun a b : EReal => a * b) (v180_D H _ _ _ _ _) (v73_real H _ _ _ _)

/-! ## The results -/

theorem res_k : padRes (res_main_v206 V0) = RK (Z V0) (DM V0) (SK V0) := by
  funext y
  idx_vars y
  exact padRes_acc (res_main_v184 V0) (gk (Z V0) (DM V0) (SK V0)) (v184_k H) (gk_masked _ _ _) y0 y1 y2

theorem res_v : padRes (res_main_v202 V0) = RV (Z V0) (DM V0) (SK V0) := by
  funext y
  idx_vars y
  exact padRes_acc (res_main_v157 V0) (gv (Z V0) (DM V0) (SK V0)) (v157_v H) (gv_masked _ _ _) y0 y1 y2

theorem res_q : (truncf .bf16 (shapeCast _ (core8 (res_main_v185 V0)) shapeCasts_S1x4096x8x128_S4096x1024) bitsLt_bf16_f32 : FVec Ideal S4096x1024 .bf16) = RQ (Z V0) (DM V0) (SK V0) := by
  funext y
  idx_vars y
  generalize hc : core8 (res_main_v185 V0) = w
  pointwise
  rw [← hc]
  refine (core8_at _ _ _ _).trans ?_
  exact congrArg (fun f : Fin 128 → EReal => unrot f _ _) (funext fun d => v185_q H _ _ d)

theorem res_s : (concatenate S2x8x128 1 [⟨S2x4x128, (broadcastInDim S2x4x128 ![0, 1, 2] bcast_S2x4x1_S2x4x128_0_1_2 (shapeCast _ (shapeCast _ (broadcastInDim S1x1x2x4x1x1 ![2, 3] bcast_S2x4_S1x1x2x4x1x1_2_3 (Host.reduceAdd (extractStridedSlice S1x32x2x4x128x1 ![0, 0, 0, 0, 0, 384] (res_main_v171 V0) slices_S1x32x2x4x128x385_S1x32x2x4x128x1_0_0_0_0_0_384) (constant S_ .f32 0x00000000#32) reducesTo_S1x32x2x4x128x1_S2x4_d0_1_4_5 h_S_)) shapeCasts_S1x1x2x4x1x1_S8) shapeCasts_S8_S2x4x1) : FVec Ideal S2x4x128 .f32)⟩, ⟨S2x4x128, (broadcastInDim S2x4x128 ![] bcast_S_S2x4x128 (constant S_ .f32 0x00000000#32) : FVec Ideal S2x4x128 .f32)⟩] concatenates_S2x4x128_S2x4x128_S2x8x128_d1 : FVec Ideal S2x8x128 .f32)
    = RS (Z V0) (DM V0) (SK V0) := by
  have hs : ∀ g r, ((Host.reduceAdd (extractStridedSlice S1x32x2x4x128x1 ![0, 0, 0, 0, 0, 384] (res_main_v171 V0) slices_S1x32x2x4x128x385_S1x32x2x4x128x1_0_0_0_0_0_384) (constant S_ .f32 0x00000000#32) reducesTo_S1x32x2x4x128x1_S2x4_d0_1_4_5 h_S_ : FVec Ideal S2x4 .f32) (ix2 g r) : EReal) = ((-(∑ n, gs (Z V0) (DM V0) (SK V0) n g r) : ℝ) : EReal) := by
    intro g r
    refine (sum0145 _ g r).trans ?_
    rw [← Finset.sum_neg_distrib, Row.coe_sum]
    refine Finset.sum_congr rfl fun n _ => ?_
    unfold gs
    rw [← Finset.sum_neg_distrib, Row.coe_sum]
    refine Finset.sum_congr rfl fun i _ => ?_
    refine Eq.trans ?_ (v171_K H n g r i)
    pointwise
    rfl
  revert hs
  generalize (Host.reduceAdd (extractStridedSlice S1x32x2x4x128x1 ![0, 0, 0, 0, 0, 384] (res_main_v171 V0) slices_S1x32x2x4x128x385_S1x32x2x4x128x1_0_0_0_0_0_384) (constant S_ .f32 0x00000000#32) reducesTo_S1x32x2x4x128x1_S2x4_d0_1_4_5 h_S_ : FVec Ideal S2x4 .f32) = w
  intro hs
  funext y
  idx_vars y
  unfold RS
  pointwise
  split
  · rename_i h
    refine Eq.trans ?_ (hs y0 ⟨y1.val, h⟩)
    rfl
  · rfl

end Cert.ReferenceIdeal.AttnRef

end
-- ==== Proof.AttnRefRun.lean ====
module

public import proofs.«01_k».proof.Proof.AttnRef3

/-! The reference of the attention's gradient: its run leaves the four results. -/

@[expose] public section

set_option maxRecDepth 65536

noncomputable section

open Idealize.ShloMosaic Idealize.ShloMosaic.TcCoe Idealize.SL.Sem
open scoped BigOperators

namespace Cert.ReferenceIdeal.AttnRef

open Cert.ReferenceIdeal Cert.ReferenceIdeal.Gen Cert.ReferenceIdeal.Value
open Cert.Attn

/-- The reference's run leaves the four results, as functions of the arguments. -/
theorem run_res (m : (ℓ : Loc nD τ sig) → Buf (Elt Ideal) ℓ) (ρ : Dev nD → PrngReg)
    (H : ∀ c : Dev nD, Real3 (Z (StableHlo.launchContents m c)) (DM (StableHlo.launchContents m c)) (SK (StableHlo.launchContents m c))) :
    θ_run defs (onTc (τ := τ) (main (F := Ideal))) ⟨m, fun _ => 0, ρ⟩ fun r => ∀ c : Dev nD,
      r.2.mem ((c.tc : Thread nD τ).loc main_v242) = RQ (Z (StableHlo.launchContents m c)) (DM (StableHlo.launchContents m c)) (SK (StableHlo.launchContents m c))
      ∧ r.2.mem ((c.tc : Thread nD τ).loc main_v233) = RK (Z (StableHlo.launchContents m c)) (DM (StableHlo.launchContents m c)) (SK (StableHlo.launchContents m c))
      ∧ r.2.mem ((c.tc : Thread nD τ).loc main_v236) = RV (Z (StableHlo.launchContents m c)) (DM (StableHlo.launchContents m c)) (SK (StableHlo.launchContents m c))
      ∧ r.2.mem ((c.tc : Thread nD τ).loc main_v240) = RS (Z (StableHlo.launchContents m c)) (DM (StableHlo.launchContents m c)) (SK (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (res_q (H c)), (h c).2.1.trans (res_k (H c)), (h c).2.2.1.trans (res_v (H c)),
    (h c).2.2.2.1.trans (res_s (H c)), (h c).2.2.2.2⟩) (Value.run m ρ)

end Cert.ReferenceIdeal.AttnRef

end
-- ==== Proof.Sigmoid.lean ====
module

public import Idealize.ShloMosaic.Lib.Pointwise
public import Idealize.ShloMosaic.Lib.Claim

/-! The logistic function: as half of a hyperbolic tangent and a half, and as the reciprocal of one plus an exponential. -/

@[expose] public section

noncomputable section

open Idealize.ShloMosaic

namespace Cert.Sigmoid

/-- The two words that stand in the programs. -/
theorem half_word : Idealize.ShloMosaic.Ideal.ofBits .f32 0x3F000000#32 = (((1 / 2 : ℝ) : ℝ) : EReal) := by
  simp [Idealize.ShloMosaic.Ideal.ofBits, Idealize.ShloMosaic.Ideal.ieee]
  rw [← EReal.coe_mul]
  norm_num

theorem one_word : Idealize.ShloMosaic.Ideal.ofBits .f32 0x3F800000#32 = ((1 : ℝ) : EReal) := by
  simp [Idealize.ShloMosaic.Ideal.ofBits, Idealize.ShloMosaic.Ideal.ieee]
  rw [← EReal.coe_mul]
  norm_num

/-- As the kernel writes it. -/
def sk (g : EReal) : EReal :=
  Idealize.ShloMosaic.Ideal.ofBits .f32 0x3F000000#32 * Idealize.ShloMosaic.Ideal.tanh (Idealize.ShloMosaic.Ideal.ofBits .f32 0x3F000000#32 * g) + Idealize.ShloMosaic.Ideal.ofBits .f32 0x3F000000#32

/-- As the reference writes it. -/
def sr (g : EReal) : EReal :=
  Idealize.ShloMosaic.Ideal.div (Idealize.ShloMosaic.Ideal.ofBits .f32 0x3F800000#32) (Idealize.ShloMosaic.Ideal.ofBits .f32 0x3F800000#32 + Idealize.ShloMosaic.Ideal.exp (-g))

theorem sk_top : sk ⊤ = ((1 : ℝ) : EReal) := by
  unfold sk
  rw [half_word, EReal.coe_mul_top_of_pos (by norm_num), Idealize.ShloMosaic.Ideal.tanh_top]
  norm_cast
  norm_num

theorem sk_bot : sk ⊥ = ((0 : ℝ) : EReal) := by
  unfold sk
  rw [half_word, EReal.coe_mul_bot_of_pos (by norm_num), Idealize.ShloMosaic.Ideal.tanh_bot]
  have e : (-1 : EReal) = ((-1 : ℝ) : EReal) := by rw [EReal.coe_neg, EReal.coe_one]
  rw [e, ← EReal.coe_mul, ← EReal.coe_add]
  norm_num

theorem sk_coe (r : ℝ) : sk (r : EReal) = ((1 / 2 * Real.tanh (1 / 2 * r) + 1 / 2 : ℝ) : EReal) := by
  unfold sk
  rw [half_word, ← EReal.coe_mul, Idealize.ShloMosaic.Ideal.tanh_coe]
  norm_cast

theorem sr_top : sr ⊤ = ((1 : ℝ) : EReal) := by
  unfold sr
  rw [one_word, EReal.neg_top, Idealize.ShloMosaic.Ideal.exp_bot, add_zero, Idealize.ShloMosaic.Ideal.div_coe (by norm_num)]
  norm_cast
  norm_num

theorem sr_bot : sr ⊥ = ((0 : ℝ) : EReal) := by
  unfold sr
  rw [one_word, EReal.neg_bot, Idealize.ShloMosaic.Ideal.exp_top, EReal.coe_add_top]
  simp [Idealize.ShloMosaic.Ideal.div]

theorem sr_coe (r : ℝ) : sr (r : EReal) = ((1 / (1 + Real.exp (-r)) : ℝ) : EReal) := by
  unfold sr
  rw [one_word, ← EReal.coe_neg, Idealize.ShloMosaic.Ideal.exp_coe, ← EReal.coe_add, Idealize.ShloMosaic.Ideal.div_coe (by positivity), ← EReal.coe_mul, one_mul]

theorem real_eq (r : ℝ) : 1 / 2 * Real.tanh (1 / 2 * r) + 1 / 2 = 1 / (1 + Real.exp (-r)) := by
  rw [Real.tanh_eq_sinh_div_cosh, Real.sinh_eq, Real.cosh_eq]
  have h : Real.exp (-r) = Real.exp (-(1 / 2 * r)) * Real.exp (-(1 / 2 * r)) := by
    rw [← Real.exp_add]
    congr 1
    ring
  have h2 : Real.exp (1 / 2 * r) * Real.exp (-(1 / 2 * r)) = 1 := by
    rw [← Real.exp_add]
    simp
  rw [h]
  have p : 0 < Real.exp (1 / 2 * r) := Real.exp_pos _
  have q : 0 < Real.exp (-(1 / 2 * r)) := Real.exp_pos _
  generalize Real.exp (1 / 2 * r) = u at *
  generalize Real.exp (-(1 / 2 * r)) = v at *
  field_simp
  nlinarith [h2]

/-- The two are one function, at the infinities too. -/
theorem sk_eq_sr (g : EReal) : sk g = sr g := by
  induction g with
  | bot => rw [sk_bot, sr_bot]
  | top => rw [sk_top, sr_top]
  | coe r => rw [sk_coe, sr_coe, real_eq]

/-- The gradient of the gate: with a real incoming gradient, the product and the sum of two products agree at every gate. -/
theorem dgate_eq (t : ℝ) (g : EReal) :
    ((t : EReal) * (sr g * (((1 : ℝ) : EReal) + g * (((1 : ℝ) : EReal) - sr g))) : EReal)
      = (t : EReal) * sr g + (g * (t : EReal)) * (sr g * (((1 : ℝ) : EReal) - sr g)) := by
  induction g with
  | bot =>
    rw [sr_bot]
    simp
  | top =>
    rw [sr_top]
    have e : (((1 : ℝ) : EReal) - ((1 : ℝ) : EReal)) = 0 := by rw [← EReal.coe_sub, sub_self, EReal.coe_zero]
    rw [e]
    simp
  | coe r =>
    rw [sr_coe]
    norm_cast
    ring

end Cert.Sigmoid

end
-- ==== Proof.FfnDownBwdValue.lean ====
module

public import proofs.«01_k».proof.Proof.Gen.Kernel3Ideal.Value
public import Idealize.ShloMosaic.Lib.Pipeline.ValueKit
public import Idealize.ShloMosaic.Lib.Pointwise
public import Idealize.ShloMosaic.Lib.WritesUnit
public import Idealize.ShloMosaic.Lib.Claim
public import proofs.«01_k».proof.Proof.Sigmoid

/-! The gradient through the down product and the activation: what the two result arrays hold. -/

@[expose] public section

set_option maxRecDepth 65536

noncomputable section

open Idealize.ShloMosaic Idealize.ShloMosaic.TcCoe Idealize.SL.Sem
open Idealize.ShloMosaic.Pipeline (Dat)
open scoped BigOperators

namespace Cert.Kernel3Ideal.FfnDownBwdValue

open Cert.Kernel3Ideal Cert.Kernel3Ideal.Gen

variable (m : (ℓ : Loc nD τ sig) → Buf (Elt Ideal) ℓ)

/-- Every window's block index in terms of the point's number. -/
theorem idx_val : ∀ t : Fin cfg0.N, win0_0.index t = ![t.val / 11, 0]
    ∧ win0_1.index t = ![t.val % 11, 0]
    ∧ win0_2.index t = ![t.val / 11, t.val % 11]
    ∧ win0_3.index t = ![t.val / 11, t.val % 11]
    ∧ win0_4.index t = ![t.val / 11, t.val % 11]
    ∧ win0_5.index t = ![t.val / 11, t.val % 11] :=
  (by decide +kernel : ∀ t : Fin grid0.N, _)

theorem t_lt (t : Fin cfg0.N) : t.val < 44 := by have := t.isLt; have h : cfg0.N = 44 := rfl; omega

theorem row_lt (t : Fin cfg0.N) (a : Fin 1024) : t.val / 11 * 1024 + a.val < 4096 := by have := t_lt t; omega

theorem col_lt (t : Fin cfg0.N) (b : Fin 512) : t.val % 11 * 512 + b.val < 5632 := by omega

theorem read_x (c : Dev nD) (t : Fin cfg0.N) (a : Fin 1024) (k : Fin 2048) :
    iblk m c 0 t (ix2 a k) = m ((c.tc : Thread nD τ).loc main_arg0) (ix2 ⟨t.val / 11 * 1024 + a.val, row_lt t a⟩ k) := by
  have := t_lt t
  blk_ext [iblk, V, idx_val t]

/-- One entry of a product of two blocks. -/
def part (P0 : Vec Ideal S1024x2048 .bf16) (P1 : Vec Ideal S512x2048 .bf16) (a : Fin 1024) (b : Fin 512) : EReal :=
  ∑ k : Fin 2048, (P0 (ix2 a k) * P1 (ix2 b k) : EReal)

/-- The product of the incoming gradient with the transposed weights, entry by entry. -/
def D (x : FVec Ideal S4096x2048 .bf16) (w : FVec Ideal S5632x2048 .f32) : S4096x5632.Idx → EReal := fun i =>
  ∑ k : Fin 2048, (x (ix2 (i 0) k) * w (ix2 (i 1) k) : EReal)

/-- The gradient of the gate. -/
def G4 (x : FVec Ideal S4096x2048 .bf16) (w : FVec Ideal S5632x2048 .f32) (g u : FVec Ideal S4096x5632 .bf16) : FVec Ideal S4096x5632 .bf16 := fun i =>
  (D x w i * u i * (Cert.Sigmoid.sr (g i) * (Idealize.ShloMosaic.Ideal.ofBits .f32 0x3F800000#32 + g i * (Idealize.ShloMosaic.Ideal.ofBits .f32 0x3F800000#32 - Cert.Sigmoid.sr (g i)))) : EReal)

/-- The gradient of the up product. -/
def G5 (x : FVec Ideal S4096x2048 .bf16) (w : FVec Ideal S5632x2048 .f32) (g : FVec Ideal S4096x5632 .bf16) : FVec Ideal S4096x5632 .bf16 := fun i =>
  (D x w i * (g i * Cert.Sigmoid.sr (g i)) : EReal)

theorem read_1 (c : Dev nD) (t : Fin cfg0.N) (b : Fin 512) (k : Fin 2048) :
    iblk m c 1 t (ix2 b k) = V m c main_v0 (ix2 ⟨t.val % 11 * 512 + b.val, col_lt t b⟩ k) := by
  have := t_lt t
  blk_ext [iblk, idx_val t]

theorem read_2 (c : Dev nD) (t : Fin cfg0.N) (a : Fin 1024) (b : Fin 512) :
    iblk m c 2 t (ix2 a b) = m ((c.tc : Thread nD τ).loc main_arg2) (ix2 ⟨t.val / 11 * 1024 + a.val, row_lt t a⟩ ⟨t.val % 11 * 512 + b.val, col_lt t b⟩) := by
  have := t_lt t
  blk_ext [iblk, V, idx_val t]

theorem read_3 (c : Dev nD) (t : Fin cfg0.N) (a : Fin 1024) (b : Fin 512) :
    iblk m c 3 t (ix2 a b) = m ((c.tc : Thread nD τ).loc main_arg3) (ix2 ⟨t.val / 11 * 1024 + a.val, row_lt t a⟩ ⟨t.val % 11 * 512 + b.val, col_lt t b⟩) := by
  have := t_lt t
  blk_ext [iblk, V, idx_val t]

/-- The weights as the host lays them out. -/
theorem host_w (c : Dev nD) : V m c main_v0 = (truncf .bf16 (m ((c.tc : Thread nD τ).loc main_arg1) : FVec Ideal S5632x2048 .f32) bitsLt_bf16_f32 : FVec Ideal S5632x2048 .bf16) := rfl

theorem host_w_at (c : Dev nD) (j : Fin 5632) (k : Fin 2048) : V m c main_v0 (ix2 j k) = m ((c.tc : Thread nD τ).loc main_arg1) (ix2 j k) := by
  rw [host_w]
  pointwise

/-- One entry of the product with the weights. -/
theorem part_w (c : Dev nD) (t : Fin cfg0.N) (a : Fin 1024) (b : Fin 512) :
    part (iblk m c 0 t) (iblk m c 1 t) a b = D (m ((c.tc : Thread nD τ).loc main_arg0)) (m ((c.tc : Thread nD τ).loc main_arg1)) (ix2 ⟨t.val / 11 * 1024 + a.val, row_lt t a⟩ ⟨t.val % 11 * 512 + b.val, col_lt t b⟩) := by
  refine Finset.sum_congr rfl fun k _ => ?_
  rw [read_x, read_1, host_w_at]
  rfl

theorem pay1_at (P0 : Vec Ideal S1024x2048 .bf16) (P1 : Vec Ideal S512x2048 .bf16) (a : Fin 1024) (b : Fin 512) :
    k0_pay1 (F := Ideal) P0 P1 (ix2 a b) = part P0 P1 a b := by
  pointwise [k0_pay1, part]

theorem pay4_raw (P0 : Vec Ideal S1024x2048 .bf16) (P1 : Vec Ideal S512x2048 .bf16) (P2 P3 : Vec Ideal S1024x512 .bf16) (a : Fin 1024) (b : Fin 512) :
    k0_pay4 (F := Ideal) P0 P1 P2 P3 (ix2 a b)
      = ((k0_pay1 (F := Ideal) P0 P1 (ix2 a b) : EReal) * P3 (ix2 a b) * (Cert.Sigmoid.sk (P2 (ix2 a b)) * (Idealize.ShloMosaic.Ideal.ofBits .f32 0x3F800000#32 + P2 (ix2 a b) * (Idealize.ShloMosaic.Ideal.ofBits .f32 0x3F800000#32 - Cert.Sigmoid.sk (P2 (ix2 a b))))) : EReal) := rfl

theorem pay4_at (P0 : Vec Ideal S1024x2048 .bf16) (P1 : Vec Ideal S512x2048 .bf16) (P2 P3 : Vec Ideal S1024x512 .bf16) (a : Fin 1024) (b : Fin 512) :
    k0_pay4 (F := Ideal) P0 P1 P2 P3 (ix2 a b)
      = (part P0 P1 a b * P3 (ix2 a b) * (Cert.Sigmoid.sr (P2 (ix2 a b)) * (Idealize.ShloMosaic.Ideal.ofBits .f32 0x3F800000#32 + P2 (ix2 a b) * (Idealize.ShloMosaic.Ideal.ofBits .f32 0x3F800000#32 - Cert.Sigmoid.sr (P2 (ix2 a b))))) : EReal) := by
  rw [pay4_raw, pay1_at, Cert.Sigmoid.sk_eq_sr]

theorem pay5_raw (P0 : Vec Ideal S1024x2048 .bf16) (P1 : Vec Ideal S512x2048 .bf16) (P2 : Vec Ideal S1024x512 .bf16) (a : Fin 1024) (b : Fin 512) :
    k0_pay5 (F := Ideal) P0 P1 P2 (ix2 a b)
      = ((k0_pay1 (F := Ideal) P0 P1 (ix2 a b) : EReal) * (P2 (ix2 a b) * Cert.Sigmoid.sk (P2 (ix2 a b))) : EReal) := rfl

theorem pay5_at (P0 : Vec Ideal S1024x2048 .bf16) (P1 : Vec Ideal S512x2048 .bf16) (P2 : Vec Ideal S1024x512 .bf16) (a : Fin 1024) (b : Fin 512) :
    k0_pay5 (F := Ideal) P0 P1 P2 (ix2 a b)
      = (part P0 P1 a b * (P2 (ix2 a b) * Cert.Sigmoid.sr (P2 (ix2 a b))) : EReal) := by
  rw [pay5_raw, pay1_at, Cert.Sigmoid.sk_eq_sr]

/-- Result array 4 holds that. -/
theorem final_4 (c : Dev nD) : (dats m 0 c).arrAt 4 cfg0.N = G4 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  idx_vars y
  have := t_lt t
  have e : ((View.whole main_v1_0).slice (win0_4.rect t)).emb (ix2 y0 y1) = ix2 ⟨t.val / 11 * 1024 + y0.val, row_lt t y0⟩ ⟨t.val % 11 * 512 + y1.val, col_lt t y1⟩ := by
    blk_ext [idx_val t]
  rw [e]
  refine (pay4_at _ _ _ _ y0 y1).trans ?_
  rw [part_w, read_2, read_3]
  rfl

/-- Result array 5 holds that. -/
theorem final_5 (c : Dev nD) : (dats m 0 c).arrAt 5 cfg0.N = G5 (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  idx_vars y
  have := t_lt t
  have e : ((View.whole main_v1_1).slice (win0_5.rect t)).emb (ix2 y0 y1) = ix2 ⟨t.val / 11 * 1024 + y0.val, row_lt t y0⟩ ⟨t.val % 11 * 512 + y1.val, col_lt t y1⟩ := by
    blk_ext [idx_val t]
  rw [e]
  refine (pay5_at _ _ _ y0 y1).trans ?_
  rw [part_w, read_2]
  rfl

end Cert.Kernel3Ideal.FfnDownBwdValue

end
-- ==== Proof.FfnDownBwdRef.lean ====
module

public import proofs.«01_k».proof.Proof.FfnDownBwdValue
public import proofs.«01_k».proof.Proof.Gen.Reference3Ideal.Run
public import proofs.«01_k».proof.Proof.AttnPre
public import proofs.«01_k».proof.Proof.RowMath

/-! The reference of the gradient through the down product and the activation, entry by entry. -/

@[expose] public section

set_option maxRecDepth 65536

noncomputable section

open Idealize.ShloMosaic Idealize.ShloMosaic.TcCoe Idealize.SL.Sem
open scoped BigOperators

namespace Cert.Reference3Ideal.FfnDownBwdRef

open Cert.Reference3Ideal Cert.Reference3Ideal.Gen

open Cert.Attn (IsR)

/-- The shape relations of the precondition. -/
theorem preFacts : Cert.Pre_finite3.Facts where
  bitsLt_bf16_f32 := by decide
  bcast_S_S4096x2048 := by decide
  bcast_S_S5632x2048 := by decide
  bcast_S_S4096x5632 := by decide

/-- The arrays that have to be real numbers: the incoming gradient, the weights and the up product. -/
structure Reals (x : FVec Ideal S4096x2048 .bf16) (w : FVec Ideal S5632x2048 .f32) (u : FVec Ideal S4096x5632 .bf16) : Prop where
  hx : ∀ p k, IsR (x (ix2 p k))
  hw : ∀ j k, IsR (w (ix2 j k))
  hu : ∀ p j, IsR (u (ix2 p j))

/-- The precondition says so. -/
theorem real_of_pre (x : FVec Ideal S4096x2048 .bf16) (w : FVec Ideal S5632x2048 .f32) (g u : FVec Ideal S4096x5632 .bf16)
    (h0 : (@Cert.Pre_finite3.fn preFacts Ideal _ x w g u).1 = fun _ => 1#1)
    (h1 : (@Cert.Pre_finite3.fn preFacts Ideal _ x w g u).2.1 = fun _ => 1#1)
    (h2 : (@Cert.Pre_finite3.fn preFacts Ideal _ x w g u).2.2 = fun _ => 1#1) : Reals x w u where
  hx p k := by
    have e := congrFun h0 (ix2 p k)
    refine Cert.Attn.isR_of_word _ _ Cert.Attn.inf_word (Eq.trans ?_ e)
    pointwise [Cert.Pre_finite3.fn]
    rfl
  hw j k := by
    have e := congrFun h1 (ix2 j k)
    refine Cert.Attn.isR_of_word _ _ Cert.Attn.inf_word (Eq.trans ?_ e)
    pointwise [Cert.Pre_finite3.fn]
    rfl
  hu p j := by
    have e := congrFun h2 (ix2 p j)
    refine Cert.Attn.isR_of_word _ _ Cert.Attn.inf_word (Eq.trans ?_ e)
    pointwise [Cert.Pre_finite3.fn]
    rfl

/-- The product is then a real number. -/
theorem D_real (x : FVec Ideal S4096x2048 .bf16) (w : FVec Ideal S5632x2048 .f32) (u : FVec Ideal S4096x5632 .bf16) (h : Reals x w u) (p : Fin 4096) (j : Fin 5632) :
    ∃ r : ℝ, Cert.Kernel3Ideal.FfnDownBwdValue.D x w (ix2 p j) = (r : EReal) := by
  choose f hf using fun k : Fin 2048 => h.hx p k
  choose f' hf' using fun k : Fin 2048 => h.hw j k
  refine ⟨∑ k : Fin 2048, f k * f' k, ?_⟩
  rw [Cert.Row.coe_sum]
  refine Finset.sum_congr rfl fun k _ => ?_
  rw [EReal.coe_mul, ← hf, ← hf']
  rfl

theorem dot_at (x : FVec Ideal S4096x2048 .bf16) (w : FVec Ideal S5632x2048 .f32) (p : Fin 4096) (j : Fin 5632) :
    (Host.dotGeneral (F := Ideal) dot_S4096x2048_S5632x2048_S4096x5632_1_1_0_0_n_n none (extf .f32 x bitsLt_bf16_f32) w) (ix2 p j) = Cert.Kernel3Ideal.FfnDownBwdValue.D x w (ix2 p j) := by
  pointwise [Cert.Kernel3Ideal.FfnDownBwdValue.D]

theorem dgate_raw (d : FVec Ideal S4096x5632 .f32) (g u : FVec Ideal S4096x5632 .bf16) (p : Fin 4096) (j : Fin 5632) :
    (truncf .bf16 (addf (mulf (mulf d (extf .f32 u bitsLt_bf16_f32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 g bitsLt_bf16_f32)))))) (mulf (mulf (extf .f32 g bitsLt_bf16_f32) (mulf d (extf .f32 u bitsLt_bf16_f32))) (mulf (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 g bitsLt_bf16_f32))))) (subf (broadcastInDim S4096x5632 ![] bcast_S_S4096x5632 (constant S_ .f32 0x3F800000#32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 g bitsLt_bf16_f32))))))))) bitsLt_bf16_f32 : FVec Ideal S4096x5632 .bf16) (ix2 p j)
      = ((d (ix2 p j) : EReal) * u (ix2 p j) * Cert.Sigmoid.sr (g (ix2 p j)) + (g (ix2 p j) * ((d (ix2 p j) : EReal) * u (ix2 p j))) * (Cert.Sigmoid.sr (g (ix2 p j)) * (Idealize.ShloMosaic.Ideal.ofBits .f32 0x3F800000#32 - Cert.Sigmoid.sr (g (ix2 p j)))) : EReal) := rfl

theorem dup_raw (d : FVec Ideal S4096x5632 .f32) (g : FVec Ideal S4096x5632 .bf16) (p : Fin 4096) (j : Fin 5632) :
    (truncf .bf16 (mulf (mulf (extf .f32 g bitsLt_bf16_f32) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 g bitsLt_bf16_f32)))))) d) bitsLt_bf16_f32 : FVec Ideal S4096x5632 .bf16) (ix2 p j)
      = ((g (ix2 p j) * Cert.Sigmoid.sr (g (ix2 p j))) * (d (ix2 p j) : EReal) : EReal) := rfl

/-- The gradient of the gate. -/
theorem res_0 (x : FVec Ideal S4096x2048 .bf16) (w : FVec Ideal S5632x2048 .f32) (g u : FVec Ideal S4096x5632 .bf16) (h : Reals x w u) :
    (truncf .bf16 (addf (mulf (mulf (Host.dotGeneral (F := Ideal) dot_S4096x2048_S5632x2048_S4096x5632_1_1_0_0_n_n none (extf .f32 x bitsLt_bf16_f32) w) (extf .f32 u bitsLt_bf16_f32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 g bitsLt_bf16_f32)))))) (mulf (mulf (extf .f32 g bitsLt_bf16_f32) (mulf (Host.dotGeneral (F := Ideal) dot_S4096x2048_S5632x2048_S4096x5632_1_1_0_0_n_n none (extf .f32 x bitsLt_bf16_f32) w) (extf .f32 u bitsLt_bf16_f32))) (mulf (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 g bitsLt_bf16_f32))))) (subf (broadcastInDim S4096x5632 ![] bcast_S_S4096x5632 (constant S_ .f32 0x3F800000#32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 g bitsLt_bf16_f32))))))))) bitsLt_bf16_f32 : FVec Ideal S4096x5632 .bf16) = Cert.Kernel3Ideal.FfnDownBwdValue.G4 x w g u := by
  funext y
  idx_vars y
  refine (dgate_raw _ g u y0 y1).trans ?_
  rw [dot_at]
  obtain ⟨r, hr⟩ := D_real x w u h y0 y1
  obtain ⟨v, hv⟩ := h.hu y0 y1
  refine Eq.trans ?_ (show (Cert.Kernel3Ideal.FfnDownBwdValue.D x w (ix2 y0 y1) * u (ix2 y0 y1) * (Cert.Sigmoid.sr (g (ix2 y0 y1)) * (Idealize.ShloMosaic.Ideal.ofBits .f32 0x3F800000#32 + g (ix2 y0 y1) * (Idealize.ShloMosaic.Ideal.ofBits .f32 0x3F800000#32 - Cert.Sigmoid.sr (g (ix2 y0 y1))))) : EReal) = Cert.Kernel3Ideal.FfnDownBwdValue.G4 x w g u (ix2 y0 y1) from rfl)
  rw [hr, hv, Cert.Sigmoid.one_word, ← EReal.coe_mul]
  exact (Cert.Sigmoid.dgate_eq (r * v) (g (ix2 y0 y1))).symm

/-- The gradient of the up product. -/
theorem res_1 (x : FVec Ideal S4096x2048 .bf16) (w : FVec Ideal S5632x2048 .f32) (g : FVec Ideal S4096x5632 .bf16) :
    (truncf .bf16 (mulf (mulf (extf .f32 g bitsLt_bf16_f32) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 g bitsLt_bf16_f32)))))) (Host.dotGeneral (F := Ideal) dot_S4096x2048_S5632x2048_S4096x5632_1_1_0_0_n_n none (extf .f32 x bitsLt_bf16_f32) w)) bitsLt_bf16_f32 : FVec Ideal S4096x5632 .bf16) = Cert.Kernel3Ideal.FfnDownBwdValue.G5 x w g := by
  funext y
  idx_vars y
  refine (dup_raw _ g y0 y1).trans ?_
  rw [dot_at]
  exact mul_comm _ _

end Cert.Reference3Ideal.FfnDownBwdRef

end
-- ==== Proof.DownWgradValue.lean ====
module

public import proofs.«01_k».proof.Proof.Gen.Kernel4Ideal.Value
public import Idealize.ShloMosaic.Lib.Pipeline.ValueKit
public import Idealize.ShloMosaic.Lib.Pointwise
public import Idealize.ShloMosaic.Lib.WritesUnit
public import Idealize.ShloMosaic.Lib.Claim

/-! The gradient of the down weights: what the result array holds. -/

@[expose] public section

set_option maxRecDepth 65536

noncomputable section

open Idealize.ShloMosaic Idealize.ShloMosaic.TcCoe Idealize.SL.Sem
open Idealize.ShloMosaic.Pipeline (Dat)
open scoped BigOperators

namespace Cert.Kernel4Ideal.DownWgradValue

open Cert.Kernel4Ideal Cert.Kernel4Ideal.Gen

variable (m : (ℓ : Loc nD τ sig) → Buf (Elt Ideal) ℓ)

/-- Every window's block index in terms of the point's number. -/
theorem idx_val : ∀ t : Fin cfg0.N, win0_0.index t = ![t.val % 2, t.val / 4]
    ∧ win0_1.index t = ![t.val % 2, t.val / 2 % 2]
    ∧ win0_2.index t = ![t.val / 4, t.val / 2 % 2] :=
  (by decide +kernel : ∀ t : Fin grid0.N, _)

theorem t_lt (t : Fin cfg0.N) : t.val < 16 := by have := t.isLt; have h : cfg0.N = 16 := rfl; omega

/-- The gradient of the weights: the sum over every position of one factor times the other. -/
def G (x : FVec Ideal S4096x5632 .bf16) (z : FVec Ideal S4096x2048 .bf16) : FVec Ideal S5632x2048 .bf16 := fun i =>
  ∑ k : Fin 4096, (x (ix2 k (i 0)) * z (ix2 k (i 1)) : EReal)

theorem read_x (c : Dev nD) (t : Fin cfg0.N) (k : Fin 2048) (a : Fin 1408) :
    iblk m c 0 t (ix2 k a) = m ((c.tc : Thread nD τ).loc main_arg0) (ix2 ⟨t.val % 2 * 2048 + k.val, by omega⟩ ⟨t.val / 4 * 1408 + a.val, by have := t_lt t; omega⟩) := by
  have := t_lt t
  blk_ext [iblk, V, idx_val t]

theorem read_z (c : Dev nD) (t : Fin cfg0.N) (k : Fin 2048) (b : Fin 1024) :
    iblk m c 1 t (ix2 k b) = m ((c.tc : Thread nD τ).loc main_arg1) (ix2 ⟨t.val % 2 * 2048 + k.val, by omega⟩ ⟨t.val / 2 % 2 * 1024 + b.val, by omega⟩) := by
  have := t_lt t
  blk_ext [iblk, V, idx_val t]

/-- The part of the sum that one block of positions gives. -/
def part (P0 : Vec Ideal S2048x1408 .bf16) (P1 : Vec Ideal S2048x1024 .bf16) (a : Fin 1408) (b : Fin 1024) : EReal :=
  ∑ k : Fin 2048, (P0 (ix2 k a) * P1 (ix2 k b) : EReal)

theorem pay2_at (P0 : Vec Ideal S2048x1408 .bf16) (P1 : Vec Ideal S2048x1024 .bf16) (a : Fin 1408) (b : Fin 1024) :
    k0_pay2 (F := Ideal) P0 P1 (ix2 a b) = part P0 P1 a b := by
  pointwise [k0_pay2, k0_pay1, part]

theorem pay3_at (P0 : Vec Ideal S2048x1408 .bf16) (P1 : Vec Ideal S2048x1024 .bf16) (P2 : Vec Ideal S1408x1024 .f32) (a : Fin 1408) (b : Fin 1024) :
    k0_pay3 (F := Ideal) P0 P1 P2 (ix2 a b) = (P2 (ix2 a b) + part P0 P1 a b : EReal) := by
  pointwise [k0_pay3, k0_pay1, part]

/-- A sum over every position is the sum over the first half plus the sum over the second. -/
theorem sum_halves (f : Fin 4096 → EReal) : ∑ k : Fin 4096, f k
    = (∑ k : Fin 2048, f ⟨0 * 2048 + k.val, by omega⟩) + ∑ k : Fin 2048, f ⟨1 * 2048 + k.val, by omega⟩ := by
  refine (Fin.sum_univ_add (a := 2048) (b := 2048) f).trans (congrArg₂ (fun a b : EReal => a + b) ?_ ?_)
  · exact Finset.sum_congr rfl fun k _ => congrArg f (Fin.ext (by simp))
  · exact Finset.sum_congr rfl fun k _ => congrArg f (Fin.ext (by simp [add_comm]))

/-- The first half's point leaves its part of the sum in the scratch. -/
theorem scratch_at (c : Dev nD) (t : Fin cfg0.N) (h0 : t.val % 2 = 0) (a : Fin 1408) (b : Fin 1024) :
    (outsAt0 m c t.val t.isLt).2 (ix2 a b) = part (iblk m c 0 t) (iblk m c 1 t) a b := by
  rw [outsAt0_A m c t h0 (by omega)]
  unfold sout0_A_0
  frame_out
  exact pay2_at _ _ a b

/-- The second half's point adds its part to what the scratch held. -/
theorem out_at (c : Dev nD) (n : ℕ) (hn : n + 1 < cfg0.N) (h1 : (n + 1) % 2 = 1) (a : Fin 1408) (b : Fin 1024) :
    (outsAt0 m c (n + 1) hn).1 (ix2 a b) = ((outsAt0 m c n (Nat.lt_of_succ_lt hn)).2 (ix2 a b)
      + part (iblk m c 0 ⟨n + 1, hn⟩) (iblk m c 1 ⟨n + 1, hn⟩) a b : EReal) := by
  rw [outsAt0_B m c ⟨n + 1, hn⟩ (by simp only; omega) h1]
  unfold out0_B_2
  frame_out
  refine (congrArg (fun z => k0_pay3 (F := Ideal) (iblk m c 0 ⟨n + 1, hn⟩) (iblk m c 1 ⟨n + 1, hn⟩) z (ix2 a b)) (Memref.IsWhole.read_unread (Memref.isWhole_whole _) _)).trans ?_
  exact pay3_at _ _ _ a b

/-- The result array holds the sum. -/
theorem final (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have ht := t_lt t
  have hm : t.val % 2 = 1 := (flush0_2 t).mp hf
  have e : ((View.whole main_v0).slice (win0_2.rect t)).emb (ix2 y0 y1) = ix2 ⟨t.val / 4 * 1408 + y0.val, by omega⟩ ⟨t.val / 2 % 2 * 1024 + y1.val, by omega⟩ := by
    blk_ext [idx_val t]
  rw [e]
  obtain ⟨n, hn⟩ := t
  cases n with
  | zero => exact absurd hm (by simp)
  | succ n =>
    simp only at hm ht ⊢
    refine (out_at m c n hn hm y0 y1).trans ?_
    rw [scratch_at m c ⟨n, Nat.lt_of_succ_lt hn⟩ (by simp only; omega) y0 y1]
    refine Eq.trans ?_ (sum_halves _).symm
    have e1 : n % 2 = 0 := by omega
    have e2 : (n + 1) % 2 = 1 := hm
    have e3 : n / 4 = (n + 1) / 4 := by omega
    have e4 : n / 2 % 2 = (n + 1) / 2 % 2 := by omega
    refine congrArg₂ (fun a b : EReal => a + b) (Finset.sum_congr rfl fun k _ => ?_) (Finset.sum_congr rfl fun k _ => ?_)
    · rw [read_x, read_z]
      simp only [e1, e3, e4]
      rfl
    · rw [read_x, read_z]
      simp only [e2]
      rfl

end Cert.Kernel4Ideal.DownWgradValue

end
-- ==== Proof.DownWgradRef.lean ====
module

public import proofs.«01_k».proof.Proof.DownWgradValue
public import proofs.«01_k».proof.Proof.Gen.Reference4Ideal.Run

/-! The reference of the gradient of the down weights, entry by entry. -/

@[expose] public section

set_option maxRecDepth 65536

noncomputable section

open Idealize.ShloMosaic Idealize.ShloMosaic.TcCoe Idealize.SL.Sem
open scoped BigOperators

namespace Cert.Reference4Ideal.DownWgradRef

open Cert.Reference4Ideal Cert.Reference4Ideal.Gen

theorem res (x : FVec Ideal S4096x5632 .bf16) (z : FVec Ideal S4096x2048 .bf16) :
    (truncf .bf16 (transpose S5632x2048 [1, 0] (Host.dotGeneral (F := Ideal) dot_S4096x2048_S4096x5632_S2048x5632_0_0_1_1_n_n none (extf .f32 z bitsLt_bf16_f32) (extf .f32 x bitsLt_bf16_f32)) transposes_S2048x5632_S5632x2048_1_0) bitsLt_bf16_f32 : FVec Ideal S5632x2048 .bf16)
      = Cert.Kernel4Ideal.DownWgradValue.G x z := by
  funext y
  idx_vars y
  pointwise [Cert.Kernel4Ideal.DownWgradValue.G]
  exact Finset.sum_congr rfl fun k _ => mul_comm _ _

end Cert.Reference4Ideal.DownWgradRef

end
-- ==== Proof.GateValue.lean ====
module

public import proofs.«01_k».proof.Proof.Gen.Kernel5Ideal.Value
public import Idealize.ShloMosaic.Lib.Pipeline.ValueKit
public import Idealize.ShloMosaic.Lib.Pointwise
public import Idealize.ShloMosaic.Lib.WritesUnit
public import Idealize.ShloMosaic.Lib.Claim

/-! The gradient of the gate that flows to its input: what the result array holds. -/

@[expose] public section

set_option maxRecDepth 65536

noncomputable section

open Idealize.ShloMosaic Idealize.ShloMosaic.TcCoe Idealize.SL.Sem
open Idealize.ShloMosaic.Pipeline (Dat)
open scoped BigOperators

namespace Cert.Kernel5Ideal.GateValue

open Cert.Kernel5Ideal Cert.Kernel5Ideal.Gen

variable (m : (ℓ : Loc nD τ sig) → Buf (Elt Ideal) ℓ)

/-- Every window's block index in terms of the point's number. -/
theorem idx_val : ∀ t : Fin cfg0.N, win0_0.index t = ![t.val / 4, 0]
    ∧ win0_1.index t = ![0, t.val % 4]
    ∧ win0_2.index t = ![t.val / 4, t.val % 4] :=
  (by decide +kernel : ∀ t : Fin grid0.N, _)

theorem t_lt (t : Fin cfg0.N) : t.val < 16 := by have := t.isLt; have h : cfg0.N = 16 := rfl; omega

/-- The product of the incoming gradient with the transposed weights, entry by entry. -/
def G (x : FVec Ideal S4096x5632 .bf16) (w : FVec Ideal S2048x5632 .f32) : FVec Ideal S4096x2048 .f32 := fun i =>
  ∑ k : Fin 5632, (x (ix2 (i 0) k) * w (ix2 (i 1) k) : EReal)

/-- The weights as the host lays them out: transposed. -/
theorem host_w (c : Dev nD) : V m c main_v1 = (truncf .bf16 (transpose S5632x2048 [1, 0] (m ((c.tc : Thread nD τ).loc main_arg1) : FVec Ideal S2048x5632 .f32) transposes_S2048x5632_S5632x2048_1_0) bitsLt_bf16_f32 : FVec Ideal S5632x2048 .bf16) := rfl

theorem host_w_at (c : Dev nD) (k : Fin 5632) (j : Fin 2048) : V m c main_v1 (ix2 k j) = m ((c.tc : Thread nD τ).loc main_arg1) (ix2 j k) := by
  rw [host_w]
  pointwise

theorem read_x (c : Dev nD) (t : Fin cfg0.N) (a : Fin 1024) (k : Fin 5632) :
    iblk m c 0 t (ix2 a k) = m ((c.tc : Thread nD τ).loc main_arg0) (ix2 ⟨t.val / 4 * 1024 + a.val, by have := t_lt t; omega⟩ k) := by
  have := t_lt t
  blk_ext [iblk, V, idx_val t]

theorem read_w (c : Dev nD) (t : Fin cfg0.N) (k : Fin 5632) (b : Fin 512) :
    iblk m c 1 t (ix2 k b) = V m c main_v1 (ix2 k ⟨t.val % 4 * 512 + b.val, by omega⟩) := by
  have := t_lt t
  blk_ext [iblk, idx_val t]

theorem pay_at (P0 : Vec Ideal S1024x5632 .bf16) (P1 : Vec Ideal S5632x512 .bf16) (a : Fin 1024) (b : Fin 512) :
    k0_pay1 (F := Ideal) P0 P1 (ix2 a b) = ∑ k : Fin 5632, (P0 (ix2 a k) * P1 (ix2 k b) : EReal) := by
  pointwise [k0_pay1]

/-- The result array holds the product. -/
theorem final (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  have := t_lt t
  have e : ((View.whole main_v2).slice (win0_2.rect t)).emb (ix2 y0 y1) = ix2 ⟨t.val / 4 * 1024 + y0.val, by omega⟩ ⟨t.val % 4 * 512 + y1.val, by omega⟩ := by
    blk_ext [idx_val t]
  rw [e]
  refine (pay_at _ _ y0 y1).trans ?_
  refine Finset.sum_congr rfl fun k _ => ?_
  rw [read_x, read_w, host_w_at]
  rfl

end Cert.Kernel5Ideal.GateValue

end
-- ==== Proof.GateRef.lean ====
module

public import proofs.«01_k».proof.Proof.GateValue
public import proofs.«01_k».proof.Proof.Gen.Reference5Ideal.Run

/-! The reference of the gate gradient that flows to the input, entry by entry. -/

@[expose] public section

set_option maxRecDepth 65536

noncomputable section

open Idealize.ShloMosaic Idealize.ShloMosaic.TcCoe Idealize.SL.Sem
open scoped BigOperators

namespace Cert.Reference5Ideal.GateRef

open Cert.Reference5Ideal Cert.Reference5Ideal.Gen

theorem res (x : FVec Ideal S4096x5632 .bf16) (w : FVec Ideal S2048x5632 .f32) :
    (Host.dotGeneral (F := Ideal) dot_S4096x5632_S2048x5632_S4096x2048_1_1_0_0_n_n none (extf .f32 x bitsLt_bf16_f32) w : FVec Ideal S4096x2048 .f32)
      = Cert.Kernel5Ideal.GateValue.G x w := by
  funext y
  idx_vars y
  pointwise [Cert.Kernel5Ideal.GateValue.G]

end Cert.Reference5Ideal.GateRef

end
-- ==== Proof.UpValue.lean ====
module

public import proofs.«01_k».proof.Proof.Gen.Kernel6Ideal.Value
public import Idealize.ShloMosaic.Lib.Pipeline.ValueKit
public import Idealize.ShloMosaic.Lib.Pointwise
public import Idealize.ShloMosaic.Lib.WritesUnit
public import Idealize.ShloMosaic.Lib.Claim

/-! The gradient that flows back to the input of the gate and up products together: what the result array holds. -/

@[expose] public section

set_option maxRecDepth 65536

noncomputable section

open Idealize.ShloMosaic Idealize.ShloMosaic.TcCoe Idealize.SL.Sem
open Idealize.ShloMosaic.Pipeline (Dat)
open scoped BigOperators

namespace Cert.Kernel6Ideal.UpValue

open Cert.Kernel6Ideal Cert.Kernel6Ideal.Gen

variable (m : (ℓ : Loc nD τ sig) → Buf (Elt Ideal) ℓ)

/-- Every window's block index in terms of the point's number. -/
theorem idx_val : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

theorem t_lt (t : Fin cfg0.N) : t.val < 16 := by have := t.isLt; have h : cfg0.N = 16 := rfl; omega

/-- What the gate left, and the product of the incoming gradient with the transposed weights added to it, entry by entry. -/
def G (x : FVec Ideal S4096x5632 .bf16) (w : FVec Ideal S2048x5632 .f32) (d : FVec Ideal S4096x2048 .f32) : FVec Ideal S4096x2048 .bf16 := fun i =>
  (d i + ∑ k : Fin 5632, (x (ix2 (i 0) k) * w (ix2 (i 1) k) : EReal) : EReal)

/-- The weights as the host lays them out: transposed. -/
theorem host_w (c : Dev nD) : V m c main_v1 = (truncf .bf16 (transpose S5632x2048 [1, 0] (m ((c.tc : Thread nD τ).loc main_arg1) : FVec Ideal S2048x5632 .f32) transposes_S2048x5632_S5632x2048_1_0) bitsLt_bf16_f32 : FVec Ideal S5632x2048 .bf16) := rfl

theorem host_w_at (c : Dev nD) (k : Fin 5632) (j : Fin 2048) : V m c main_v1 (ix2 k j) = m ((c.tc : Thread nD τ).loc main_arg1) (ix2 j k) := by
  rw [host_w]
  pointwise

theorem read_x (c : Dev nD) (t : Fin cfg0.N) (a : Fin 1024) (k : Fin 5632) :
    iblk m c 0 t (ix2 a k) = m ((c.tc : Thread nD τ).loc main_arg0) (ix2 ⟨t.val / 4 * 1024 + a.val, by have := t_lt t; omega⟩ k) := by
  have := t_lt t
  blk_ext [iblk, V, idx_val t]

theorem read_w (c : Dev nD) (t : Fin cfg0.N) (k : Fin 5632) (b : Fin 512) :
    iblk m c 1 t (ix2 k b) = V m c main_v1 (ix2 k ⟨t.val % 4 * 512 + b.val, by omega⟩) := by
  have := t_lt t
  blk_ext [iblk, idx_val t]

theorem read_d (c : Dev nD) (t : Fin cfg0.N) (a : Fin 1024) (b : Fin 512) :
    iblk m c 2 t (ix2 a b) = m ((c.tc : Thread nD τ).loc main_arg2) (ix2 ⟨t.val / 4 * 1024 + a.val, by have := t_lt t; omega⟩ ⟨t.val % 4 * 512 + b.val, by omega⟩) := by
  have := t_lt t
  blk_ext [iblk, V, idx_val t]

theorem pay_at (P0 : Vec Ideal S1024x5632 .bf16) (P1 : Vec Ideal S5632x512 .bf16) (P2 : Vec Ideal S1024x512 .f32) (a : Fin 1024) (b : Fin 512) :
    k0_pay1 (F := Ideal) P0 P1 P2 (ix2 a b) = (P2 (ix2 a b) + ∑ k : Fin 5632, (P0 (ix2 a k) * P1 (ix2 k b) : EReal) : EReal) := by
  pointwise [k0_pay1]

/-- The result array holds the sum. -/
theorem final (c : Dev nD) : (dats m 0 c).arrAt 3 cfg0.N = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  idx_vars y
  have := t_lt t
  have e : ((View.whole main_v2).slice (win0_3.rect t)).emb (ix2 y0 y1) = ix2 ⟨t.val / 4 * 1024 + y0.val, by omega⟩ ⟨t.val % 4 * 512 + y1.val, by omega⟩ := by
    blk_ext [idx_val t]
  rw [e]
  refine (pay_at _ _ _ y0 y1).trans ?_
  refine congrArg₂ (fun a b : EReal => a + b) (read_d m c t y0 y1) (Finset.sum_congr rfl fun k _ => ?_)
  rw [read_x, read_w, host_w_at]
  rfl

end Cert.Kernel6Ideal.UpValue

end
-- ==== Proof.UpRef.lean ====
module

public import proofs.«01_k».proof.Proof.UpValue
public import proofs.«01_k».proof.Proof.Gen.Reference6Ideal.Run

/-! The reference of the gradient that flows back to the input of the gate and up products, entry by entry. -/

@[expose] public section

set_option maxRecDepth 65536

noncomputable section

open Idealize.ShloMosaic Idealize.ShloMosaic.TcCoe Idealize.SL.Sem
open scoped BigOperators

namespace Cert.Reference6Ideal.UpRef

open Cert.Reference6Ideal Cert.Reference6Ideal.Gen

theorem res (x : FVec Ideal S4096x5632 .bf16) (w : FVec Ideal S2048x5632 .f32) (d : FVec Ideal S4096x2048 .f32) :
    (truncf .bf16 (addf d (Host.dotGeneral (F := Ideal) dot_S4096x5632_S2048x5632_S4096x2048_1_1_0_0_n_n none (extf .f32 x bitsLt_bf16_f32) w)) bitsLt_bf16_f32 : FVec Ideal S4096x2048 .bf16)
      = Cert.Kernel6Ideal.UpValue.G x w d := by
  funext y
  idx_vars y
  pointwise [Cert.Kernel6Ideal.UpValue.G]

end Cert.Reference6Ideal.UpRef

end
-- ==== Proof.GateWgradValue.lean ====
module

public import proofs.«01_k».proof.Proof.Gen.Kernel7Ideal.Value
public import Idealize.ShloMosaic.Lib.Pipeline.ValueKit
public import Idealize.ShloMosaic.Lib.Pointwise
public import Idealize.ShloMosaic.Lib.WritesUnit
public import Idealize.ShloMosaic.Lib.Claim

/-! The gradient of the gate weights: what the result array holds. -/

@[expose] public section

set_option maxRecDepth 65536

noncomputable section

open Idealize.ShloMosaic Idealize.ShloMosaic.TcCoe Idealize.SL.Sem
open Idealize.ShloMosaic.Pipeline (Dat)
open scoped BigOperators

namespace Cert.Kernel7Ideal.GateWgradValue

open Cert.Kernel7Ideal Cert.Kernel7Ideal.Gen

variable (m : (ℓ : Loc nD τ sig) → Buf (Elt Ideal) ℓ)

/-- Every window's block index in terms of the point's number. -/
theorem idx_val : ∀ t : Fin cfg0.N, win0_0.index t = ![t.val % 2, t.val / 4]
    ∧ win0_1.index t = ![t.val % 2, t.val / 2 % 2]
    ∧ win0_2.index t = ![t.val / 4, t.val / 2 % 2] :=
  (by decide +kernel : ∀ t : Fin grid0.N, _)

theorem t_lt (t : Fin cfg0.N) : t.val < 16 := by have := t.isLt; have h : cfg0.N = 16 := rfl; omega

/-- The gradient of the weights: the sum over every position of one factor times the other. -/
def G (x : FVec Ideal S4096x5632 .bf16) (z : FVec Ideal S4096x2048 .bf16) : FVec Ideal S5632x2048 .bf16 := fun i =>
  ∑ k : Fin 4096, (x (ix2 k (i 0)) * z (ix2 k (i 1)) : EReal)

theorem read_x (c : Dev nD) (t : Fin cfg0.N) (k : Fin 2048) (a : Fin 1408) :
    iblk m c 0 t (ix2 k a) = m ((c.tc : Thread nD τ).loc main_arg0) (ix2 ⟨t.val % 2 * 2048 + k.val, by omega⟩ ⟨t.val / 4 * 1408 + a.val, by have := t_lt t; omega⟩) := by
  have := t_lt t
  blk_ext [iblk, V, idx_val t]

theorem read_z (c : Dev nD) (t : Fin cfg0.N) (k : Fin 2048) (b : Fin 1024) :
    iblk m c 1 t (ix2 k b) = m ((c.tc : Thread nD τ).loc main_arg1) (ix2 ⟨t.val % 2 * 2048 + k.val, by omega⟩ ⟨t.val / 2 % 2 * 1024 + b.val, by omega⟩) := by
  have := t_lt t
  blk_ext [iblk, V, idx_val t]

/-- The part of the sum that one block of positions gives. -/
def part (P0 : Vec Ideal S2048x1408 .bf16) (P1 : Vec Ideal S2048x1024 .bf16) (a : Fin 1408) (b : Fin 1024) : EReal :=
  ∑ k : Fin 2048, (P0 (ix2 k a) * P1 (ix2 k b) : EReal)

theorem pay2_at (P0 : Vec Ideal S2048x1408 .bf16) (P1 : Vec Ideal S2048x1024 .bf16) (a : Fin 1408) (b : Fin 1024) :
    k0_pay2 (F := Ideal) P0 P1 (ix2 a b) = part P0 P1 a b := by
  pointwise [k0_pay2, k0_pay1, part]

theorem pay3_at (P0 : Vec Ideal S2048x1408 .bf16) (P1 : Vec Ideal S2048x1024 .bf16) (P2 : Vec Ideal S1408x1024 .f32) (a : Fin 1408) (b : Fin 1024) :
    k0_pay3 (F := Ideal) P0 P1 P2 (ix2 a b) = (P2 (ix2 a b) + part P0 P1 a b : EReal) := by
  pointwise [k0_pay3, k0_pay1, part]

/-- A sum over every position is the sum over the first half plus the sum over the second. -/
theorem sum_halves (f : Fin 4096 → EReal) : ∑ k : Fin 4096, f k
    = (∑ k : Fin 2048, f ⟨0 * 2048 + k.val, by omega⟩) + ∑ k : Fin 2048, f ⟨1 * 2048 + k.val, by omega⟩ := by
  refine (Fin.sum_univ_add (a := 2048) (b := 2048) f).trans (congrArg₂ (fun a b : EReal => a + b) ?_ ?_)
  · exact Finset.sum_congr rfl fun k _ => congrArg f (Fin.ext (by simp))
  · exact Finset.sum_congr rfl fun k _ => congrArg f (Fin.ext (by simp [add_comm]))

/-- The first half's point leaves its part of the sum in the scratch. -/
theorem scratch_at (c : Dev nD) (t : Fin cfg0.N) (h0 : t.val % 2 = 0) (a : Fin 1408) (b : Fin 1024) :
    (outsAt0 m c t.val t.isLt).2 (ix2 a b) = part (iblk m c 0 t) (iblk m c 1 t) a b := by
  rw [outsAt0_A m c t h0 (by omega)]
  unfold sout0_A_0
  frame_out
  exact pay2_at _ _ a b

/-- The second half's point adds its part to what the scratch held. -/
theorem out_at (c : Dev nD) (n : ℕ) (hn : n + 1 < cfg0.N) (h1 : (n + 1) % 2 = 1) (a : Fin 1408) (b : Fin 1024) :
    (outsAt0 m c (n + 1) hn).1 (ix2 a b) = ((outsAt0 m c n (Nat.lt_of_succ_lt hn)).2 (ix2 a b)
      + part (iblk m c 0 ⟨n + 1, hn⟩) (iblk m c 1 ⟨n + 1, hn⟩) a b : EReal) := by
  rw [outsAt0_B m c ⟨n + 1, hn⟩ (by simp only; omega) h1]
  unfold out0_B_2
  frame_out
  refine (congrArg (fun z => k0_pay3 (F := Ideal) (iblk m c 0 ⟨n + 1, hn⟩) (iblk m c 1 ⟨n + 1, hn⟩) z (ix2 a b)) (Memref.IsWhole.read_unread (Memref.isWhole_whole _) _)).trans ?_
  exact pay3_at _ _ _ a b

/-- The result array holds the sum. -/
theorem final (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have ht := t_lt t
  have hm : t.val % 2 = 1 := (flush0_2 t).mp hf
  have e : ((View.whole main_v0).slice (win0_2.rect t)).emb (ix2 y0 y1) = ix2 ⟨t.val / 4 * 1408 + y0.val, by omega⟩ ⟨t.val / 2 % 2 * 1024 + y1.val, by omega⟩ := by
    blk_ext [idx_val t]
  rw [e]
  obtain ⟨n, hn⟩ := t
  cases n with
  | zero => exact absurd hm (by simp)
  | succ n =>
    simp only at hm ht ⊢
    refine (out_at m c n hn hm y0 y1).trans ?_
    rw [scratch_at m c ⟨n, Nat.lt_of_succ_lt hn⟩ (by simp only; omega) y0 y1]
    refine Eq.trans ?_ (sum_halves _).symm
    have e1 : n % 2 = 0 := by omega
    have e2 : (n + 1) % 2 = 1 := hm
    have e3 : n / 4 = (n + 1) / 4 := by omega
    have e4 : n / 2 % 2 = (n + 1) / 2 % 2 := by omega
    refine congrArg₂ (fun a b : EReal => a + b) (Finset.sum_congr rfl fun k _ => ?_) (Finset.sum_congr rfl fun k _ => ?_)
    · rw [read_x, read_z]
      simp only [e1, e3, e4]
      rfl
    · rw [read_x, read_z]
      simp only [e2]
      rfl

end Cert.Kernel7Ideal.GateWgradValue

end
-- ==== Proof.GateWgradRef.lean ====
module

public import proofs.«01_k».proof.Proof.GateWgradValue
public import proofs.«01_k».proof.Proof.Gen.Reference7Ideal.Run

/-! The reference of the gradient of the gate weights, entry by entry. -/

@[expose] public section

set_option maxRecDepth 65536

noncomputable section

open Idealize.ShloMosaic Idealize.ShloMosaic.TcCoe Idealize.SL.Sem
open scoped BigOperators

namespace Cert.Reference7Ideal.GateWgradRef

open Cert.Reference7Ideal Cert.Reference7Ideal.Gen

theorem res (x : FVec Ideal S4096x5632 .bf16) (z : FVec Ideal S4096x2048 .bf16) :
    (truncf .bf16 (transpose S5632x2048 [1, 0] (transpose S2048x5632 [1, 0] (Host.dotGeneral (F := Ideal) dot_S4096x5632_S4096x2048_S5632x2048_0_0_1_1_n_n none (extf .f32 x bitsLt_bf16_f32) (extf .f32 z bitsLt_bf16_f32)) transposes_S5632x2048_S2048x5632_1_0) transposes_S2048x5632_S5632x2048_1_0) bitsLt_bf16_f32 : FVec Ideal S5632x2048 .bf16)
      = Cert.Kernel7Ideal.GateWgradValue.G x z := by
  funext y
  idx_vars y
  pointwise [Cert.Kernel7Ideal.GateWgradValue.G]

end Cert.Reference7Ideal.GateWgradRef

end
-- ==== Proof.FfnUpValue.lean ====
module

public import proofs.«01_k».proof.Proof.Gen.Kernel8Ideal.Value
public import Idealize.ShloMosaic.Lib.Pipeline.ValueKit
public import Idealize.ShloMosaic.Lib.Pointwise
public import Idealize.ShloMosaic.Lib.WritesUnit
public import Idealize.ShloMosaic.Lib.Claim
public import proofs.«01_k».proof.Proof.Sigmoid

/-! The gate and up products and the activation: what the three result arrays hold. -/

@[expose] public section

set_option maxRecDepth 65536

noncomputable section

open Idealize.ShloMosaic Idealize.ShloMosaic.TcCoe Idealize.SL.Sem
open Idealize.ShloMosaic.Pipeline (Dat)
open scoped BigOperators

namespace Cert.Kernel8Ideal.FfnUpValue

open Cert.Kernel8Ideal Cert.Kernel8Ideal.Gen

variable (m : (ℓ : Loc nD τ sig) → Buf (Elt Ideal) ℓ)

/-- Every window's block index in terms of the point's number. -/
theorem idx_val : ∀ t : Fin cfg0.N, win0_0.index t = ![t.val / 11, 0]
    ∧ win0_1.index t = ![t.val % 11, 0]
    ∧ win0_2.index t = ![t.val % 11, 0]
    ∧ win0_3.index t = ![t.val / 11, t.val % 11]
    ∧ win0_4.index t = ![t.val / 11, t.val % 11]
    ∧ win0_5.index t = ![t.val / 11, t.val % 11] :=
  (by decide +kernel : ∀ t : Fin grid0.N, _)

theorem t_lt (t : Fin cfg0.N) : t.val < 44 := by have := t.isLt; have h : cfg0.N = 44 := rfl; omega

theorem row_lt (t : Fin cfg0.N) (a : Fin 1024) : t.val / 11 * 1024 + a.val < 4096 := by have := t_lt t; omega

theorem col_lt (t : Fin cfg0.N) (b : Fin 512) : t.val % 11 * 512 + b.val < 5632 := by omega

theorem read_x (c : Dev nD) (t : Fin cfg0.N) (a : Fin 1024) (k : Fin 2048) :
    iblk m c 0 t (ix2 a k) = m ((c.tc : Thread nD τ).loc main_arg0) (ix2 ⟨t.val / 11 * 1024 + a.val, row_lt t a⟩ k) := by
  have := t_lt t
  blk_ext [iblk, V, idx_val t]

/-- One entry of a product of two blocks. -/
def part (P0 : Vec Ideal S1024x2048 .bf16) (P1 : Vec Ideal S512x2048 .bf16) (a : Fin 1024) (b : Fin 512) : EReal :=
  ∑ k : Fin 2048, (P0 (ix2 a k) * P1 (ix2 b k) : EReal)

/-- The product of the normalised rows with weights, entry by entry. -/
def D (x : FVec Ideal S4096x2048 .bf16) (w : FVec Ideal S2048x5632 .f32) : S4096x5632.Idx → EReal := fun i =>
  ∑ k : Fin 2048, (x (ix2 (i 0) k) * w (ix2 k (i 1)) : EReal)

/-- The activation: the gate times its logistic function, times the up product. -/
def A (x : FVec Ideal S4096x2048 .bf16) (wg wu : FVec Ideal S2048x5632 .f32) : FVec Ideal S4096x5632 .bf16 := fun i =>
  ((D x wg i * Cert.Sigmoid.sr (D x wg i)) * D x wu i : EReal)

/-- A product as an array of results. -/
def G (x : FVec Ideal S4096x2048 .bf16) (w : FVec Ideal S2048x5632 .f32) : FVec Ideal S4096x5632 .bf16 := fun i => D x w i

theorem read_1 (c : Dev nD) (t : Fin cfg0.N) (b : Fin 512) (k : Fin 2048) :
    iblk m c 1 t (ix2 b k) = V m c main_v1 (ix2 ⟨t.val % 11 * 512 + b.val, col_lt t b⟩ k) := by
  have := t_lt t
  blk_ext [iblk, idx_val t]

theorem read_2 (c : Dev nD) (t : Fin cfg0.N) (b : Fin 512) (k : Fin 2048) :
    iblk m c 2 t (ix2 b k) = V m c main_v3 (ix2 ⟨t.val % 11 * 512 + b.val, col_lt t b⟩ k) := by
  have := t_lt t
  blk_ext [iblk, idx_val t]

/-- The weights as the host lays them out: transposed. -/
theorem host_1 (c : Dev nD) : V m c main_v1 = (truncf .bf16 (transpose S5632x2048 [1, 0] (m ((c.tc : Thread nD τ).loc main_arg1) : FVec Ideal S2048x5632 .f32) transposes_S2048x5632_S5632x2048_1_0) bitsLt_bf16_f32 : FVec Ideal S5632x2048 .bf16) := rfl

theorem host_1_at (c : Dev nD) (j : Fin 5632) (k : Fin 2048) : V m c main_v1 (ix2 j k) = m ((c.tc : Thread nD τ).loc main_arg1) (ix2 k j) := by
  rw [host_1]
  pointwise

/-- One entry of the product with these weights. -/
theorem part_1 (c : Dev nD) (t : Fin cfg0.N) (a : Fin 1024) (b : Fin 512) :
    part (iblk m c 0 t) (iblk m c 1 t) a b = D (m ((c.tc : Thread nD τ).loc main_arg0)) (m ((c.tc : Thread nD τ).loc main_arg1)) (ix2 ⟨t.val / 11 * 1024 + a.val, row_lt t a⟩ ⟨t.val % 11 * 512 + b.val, col_lt t b⟩) := by
  refine Finset.sum_congr rfl fun k _ => ?_
  rw [read_x, read_1, host_1_at]
  rfl

/-- The weights as the host lays them out: transposed. -/
theorem host_2 (c : Dev nD) : V m c main_v3 = (truncf .bf16 (transpose S5632x2048 [1, 0] (m ((c.tc : Thread nD τ).loc main_arg2) : FVec Ideal S2048x5632 .f32) transposes_S2048x5632_S5632x2048_1_0) bitsLt_bf16_f32 : FVec Ideal S5632x2048 .bf16) := rfl

theorem host_2_at (c : Dev nD) (j : Fin 5632) (k : Fin 2048) : V m c main_v3 (ix2 j k) = m ((c.tc : Thread nD τ).loc main_arg2) (ix2 k j) := by
  rw [host_2]
  pointwise

/-- One entry of the product with these weights. -/
theorem part_2 (c : Dev nD) (t : Fin cfg0.N) (a : Fin 1024) (b : Fin 512) :
    part (iblk m c 0 t) (iblk m c 2 t) a b = D (m ((c.tc : Thread nD τ).loc main_arg0)) (m ((c.tc : Thread nD τ).loc main_arg2)) (ix2 ⟨t.val / 11 * 1024 + a.val, row_lt t a⟩ ⟨t.val % 11 * 512 + b.val, col_lt t b⟩) := by
  refine Finset.sum_congr rfl fun k _ => ?_
  rw [read_x, read_2, host_2_at]
  rfl

theorem pay1_at (P0 : Vec Ideal S1024x2048 .bf16) (P1 : Vec Ideal S512x2048 .bf16) (a : Fin 1024) (b : Fin 512) :
    k0_pay1 (F := Ideal) P0 P1 (ix2 a b) = part P0 P1 a b := by
  pointwise [k0_pay1, part]

theorem pay2_at (P0 : Vec Ideal S1024x2048 .bf16) (P1 : Vec Ideal S512x2048 .bf16) (a : Fin 1024) (b : Fin 512) :
    k0_pay2 (F := Ideal) P0 P1 (ix2 a b) = part P0 P1 a b := by
  pointwise [k0_pay2, part]

theorem pay3_at (P0 : Vec Ideal S1024x2048 .bf16) (P1 : Vec Ideal S512x2048 .bf16) (a : Fin 1024) (b : Fin 512) :
    k0_pay3 (F := Ideal) P0 P1 (ix2 a b) = part P0 P1 a b := pay1_at P0 P1 a b

theorem pay4_at (P0 : Vec Ideal S1024x2048 .bf16) (P1 : Vec Ideal S512x2048 .bf16) (a : Fin 1024) (b : Fin 512) :
    k0_pay4 (F := Ideal) P0 P1 (ix2 a b) = part P0 P1 a b := pay2_at P0 P1 a b

theorem pay5_raw (P0 : Vec Ideal S1024x2048 .bf16) (P1 P2 : Vec Ideal S512x2048 .bf16) (a : Fin 1024) (b : Fin 512) :
    k0_pay5 (F := Ideal) P0 P1 P2 (ix2 a b)
      = (((k0_pay1 (F := Ideal) P0 P1 (ix2 a b) : EReal) * Cert.Sigmoid.sk (k0_pay1 (F := Ideal) P0 P1 (ix2 a b))) * (k0_pay2 (F := Ideal) P0 P2 (ix2 a b) : EReal) : EReal) := rfl

theorem pay5_at (P0 : Vec Ideal S1024x2048 .bf16) (P1 P2 : Vec Ideal S512x2048 .bf16) (a : Fin 1024) (b : Fin 512) :
    k0_pay5 (F := Ideal) P0 P1 P2 (ix2 a b) = ((part P0 P1 a b * Cert.Sigmoid.sr (part P0 P1 a b)) * part P0 P2 a b : EReal) := by
  rw [pay5_raw, pay1_at, pay2_at, Cert.Sigmoid.sk_eq_sr]

/-- Result array 3 holds that. -/
theorem final_3 (c : Dev nD) : (dats m 0 c).arrAt 3 cfg0.N = G (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  idx_vars y
  have := t_lt t
  have e : ((View.whole main_v4_0).slice (win0_3.rect t)).emb (ix2 y0 y1) = ix2 ⟨t.val / 11 * 1024 + y0.val, row_lt t y0⟩ ⟨t.val % 11 * 512 + y1.val, col_lt t y1⟩ := by
    blk_ext [idx_val t]
  rw [e]
  refine (pay3_at _ _ y0 y1).trans ?_
  exact part_1 m c t y0 y1

/-- Result array 4 holds that. -/
theorem final_4 (c : Dev nD) : (dats m 0 c).arrAt 4 cfg0.N = G (m ((c.tc : Thread nD τ).loc main_arg0)) (m ((c.tc : Thread nD τ).loc main_arg2)) := by
  refine (dats m 0 c).arrAt_eq_of_covers 4 _ (by decide +kernel) fun t hf y => ?_
  blk_simp
  rw [after0_4]
  frame_out
  idx_vars y
  have := t_lt t
  have e : ((View.whole main_v4_1).slice (win0_4.rect t)).emb (ix2 y0 y1) = ix2 ⟨t.val / 11 * 1024 + y0.val, row_lt t y0⟩ ⟨t.val % 11 * 512 + y1.val, col_lt t y1⟩ := by
    blk_ext [idx_val t]
  rw [e]
  refine (pay4_at _ _ y0 y1).trans ?_
  exact part_2 m c t y0 y1

/-- Result array 5 holds that. -/
theorem final_5 (c : Dev nD) : (dats m 0 c).arrAt 5 cfg0.N = A (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  idx_vars y
  have := t_lt t
  have e : ((View.whole main_v4_2).slice (win0_5.rect t)).emb (ix2 y0 y1) = ix2 ⟨t.val / 11 * 1024 + y0.val, row_lt t y0⟩ ⟨t.val % 11 * 512 + y1.val, col_lt t y1⟩ := by
    blk_ext [idx_val t]
  rw [e]
  refine (pay5_at _ _ _ y0 y1).trans ?_
  rw [part_1, part_2]
  rfl

end Cert.Kernel8Ideal.FfnUpValue

end
-- ==== Proof.FfnUpRef.lean ====
module

public import proofs.«01_k».proof.Proof.FfnUpValue
public import proofs.«01_k».proof.Proof.Gen.Reference8Ideal.Run

/-! The reference of the gate and up products and the activation, entry by entry. -/

@[expose] public section

set_option maxRecDepth 65536

noncomputable section

open Idealize.ShloMosaic Idealize.ShloMosaic.TcCoe Idealize.SL.Sem
open scoped BigOperators

namespace Cert.Reference8Ideal.FfnUpRef

open Cert.Reference8Ideal Cert.Reference8Ideal.Gen

theorem dot_at (x : FVec Ideal S4096x2048 .bf16) (w : FVec Ideal S2048x5632 .f32) (p : Fin 4096) (j : Fin 5632) :
    (Host.dotGeneral (F := Ideal) dot_S4096x2048_S2048x5632_S4096x5632_1_0_0_1_n_n none (extf .f32 x bitsLt_bf16_f32) w) (ix2 p j) = Cert.Kernel8Ideal.FfnUpValue.D x w (ix2 p j) := by
  pointwise [Cert.Kernel8Ideal.FfnUpValue.D]

theorem res (x : FVec Ideal S4096x2048 .bf16) (w : FVec Ideal S2048x5632 .f32) :
    (truncf .bf16 (Host.dotGeneral (F := Ideal) dot_S4096x2048_S2048x5632_S4096x5632_1_0_0_1_n_n none (extf .f32 x bitsLt_bf16_f32) w) bitsLt_bf16_f32 : FVec Ideal S4096x5632 .bf16) = Cert.Kernel8Ideal.FfnUpValue.G x w := by
  funext y
  idx_vars y
  exact dot_at x w y0 y1

/-- The activation of arrays of gates and of up products, at an index. -/
theorem act_raw (g u : FVec Ideal S4096x5632 .f32) (p : Fin 4096) (j : Fin 5632) :
    (truncf .bf16 (mulf (mulf g (Host.divf (broadcastInDim S4096x5632 ![] bcast_S_S4096x5632 (constant S_ .f32 0x3F800000#32)) (addf (broadcastInDim S4096x5632 ![] bcast_S_S4096x5632 (constant S_ .f32 0x3F800000#32)) (Host.exp (Host.negf g))))) u) bitsLt_bf16_f32 : FVec Ideal S4096x5632 .bf16) (ix2 p j)
      = (((g (ix2 p j) : EReal) * Cert.Sigmoid.sr (g (ix2 p j))) * (u (ix2 p j) : EReal) : EReal) := rfl

theorem res_act (x : FVec Ideal S4096x2048 .bf16) (wg wu : FVec Ideal S2048x5632 .f32) :
    (truncf .bf16 (mulf (mulf (Host.dotGeneral (F := Ideal) dot_S4096x2048_S2048x5632_S4096x5632_1_0_0_1_n_n none (extf .f32 x bitsLt_bf16_f32) wg) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (Host.dotGeneral (F := Ideal) dot_S4096x2048_S2048x5632_S4096x5632_1_0_0_1_n_n none (extf .f32 x bitsLt_bf16_f32) wg)))))) (Host.dotGeneral (F := Ideal) dot_S4096x2048_S2048x5632_S4096x5632_1_0_0_1_n_n none (extf .f32 x bitsLt_bf16_f32) wu)) bitsLt_bf16_f32 : FVec Ideal S4096x5632 .bf16) = Cert.Kernel8Ideal.FfnUpValue.A x wg wu := by
  funext y
  idx_vars y
  refine (act_raw _ _ y0 y1).trans ?_
  rw [dot_at, dot_at]
  rfl

end Cert.Reference8Ideal.FfnUpRef

end
-- ==== Proof.FfnDownValue.lean ====
module

public import proofs.«01_k».proof.Proof.Gen.Kernel9Ideal.Value
public import Idealize.ShloMosaic.Lib.Pipeline.ValueKit
public import Idealize.ShloMosaic.Lib.Pointwise
public import Idealize.ShloMosaic.Lib.WritesUnit
public import Idealize.ShloMosaic.Lib.Claim

/-! The down product with the residual added: what the result array holds. -/

@[expose] public section

set_option maxRecDepth 65536

noncomputable section

open Idealize.ShloMosaic Idealize.ShloMosaic.TcCoe Idealize.SL.Sem
open Idealize.ShloMosaic.Pipeline (Dat)
open scoped BigOperators

namespace Cert.Kernel9Ideal.FfnDownValue

open Cert.Kernel9Ideal Cert.Kernel9Ideal.Gen

variable (m : (ℓ : Loc nD τ sig) → Buf (Elt Ideal) ℓ)

/-- Every window's block index in terms of the point's number. -/
theorem idx_val : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

theorem t_lt (t : Fin cfg0.N) : t.val < 16 := by have := t.isLt; have h : cfg0.N = 16 := rfl; omega

/-- The product with the weights, entry by entry, added to what was there. -/
def G (x : FVec Ideal S4096x5632 .bf16) (w : FVec Ideal S5632x2048 .f32) (d : FVec Ideal S4096x2048 .f32) : FVec Ideal S4096x2048 .f32 := fun i =>
  (d i + ∑ k : Fin 5632, (x (ix2 (i 0) k) * w (ix2 k (i 1)) : EReal) : EReal)

/-- The weights as the host lays them out. -/
theorem host_w (c : Dev nD) : V m c main_v0 = (truncf .bf16 (m ((c.tc : Thread nD τ).loc main_arg1) : FVec Ideal S5632x2048 .f32) bitsLt_bf16_f32 : FVec Ideal S5632x2048 .bf16) := rfl

theorem host_w_at (c : Dev nD) (k : Fin 5632) (j : Fin 2048) : V m c main_v0 (ix2 k j) = m ((c.tc : Thread nD τ).loc main_arg1) (ix2 k j) := by
  rw [host_w]
  pointwise

theorem read_x (c : Dev nD) (t : Fin cfg0.N) (a : Fin 1024) (k : Fin 5632) :
    iblk m c 0 t (ix2 a k) = m ((c.tc : Thread nD τ).loc main_arg0) (ix2 ⟨t.val / 4 * 1024 + a.val, by have := t_lt t; omega⟩ k) := by
  have := t_lt t
  blk_ext [iblk, V, idx_val t]

theorem read_w (c : Dev nD) (t : Fin cfg0.N) (k : Fin 5632) (b : Fin 512) :
    iblk m c 1 t (ix2 k b) = V m c main_v0 (ix2 k ⟨t.val % 4 * 512 + b.val, by omega⟩) := by
  have := t_lt t
  blk_ext [iblk, idx_val t]

theorem read_d (c : Dev nD) (t : Fin cfg0.N) (a : Fin 1024) (b : Fin 512) :
    iblk m c 2 t (ix2 a b) = m ((c.tc : Thread nD τ).loc main_arg2) (ix2 ⟨t.val / 4 * 1024 + a.val, by have := t_lt t; omega⟩ ⟨t.val % 4 * 512 + b.val, by omega⟩) := by
  have := t_lt t
  blk_ext [iblk, V, idx_val t]

theorem pay_at (P0 : Vec Ideal S1024x5632 .bf16) (P1 : Vec Ideal S5632x512 .bf16) (P2 : Vec Ideal S1024x512 .f32) (a : Fin 1024) (b : Fin 512) :
    k0_pay1 (F := Ideal) P0 P1 P2 (ix2 a b) = (P2 (ix2 a b) + ∑ k : Fin 5632, (P0 (ix2 a k) * P1 (ix2 k b) : EReal) : EReal) := by
  pointwise [k0_pay1]

/-- The result array holds that. -/
theorem final (c : Dev nD) : (dats m 0 c).arrAt 3 cfg0.N = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  idx_vars y
  have := t_lt t
  have e : ((View.whole main_v1).slice (win0_3.rect t)).emb (ix2 y0 y1) = ix2 ⟨t.val / 4 * 1024 + y0.val, by omega⟩ ⟨t.val % 4 * 512 + y1.val, by omega⟩ := by
    blk_ext [idx_val t]
  rw [e]
  refine (pay_at _ _ _ y0 y1).trans ?_
  refine congrArg₂ (fun a b : EReal => a + b) (read_d m c t y0 y1) (Finset.sum_congr rfl fun k _ => ?_)
  rw [read_x, read_w, host_w_at]
  rfl

end Cert.Kernel9Ideal.FfnDownValue

end
-- ==== Proof.FfnDownRef.lean ====
module

public import proofs.«01_k».proof.Proof.FfnDownValue
public import proofs.«01_k».proof.Proof.Gen.Reference9Ideal.Run

/-! The reference of the down product, entry by entry. -/

@[expose] public section

set_option maxRecDepth 65536

noncomputable section

open Idealize.ShloMosaic Idealize.ShloMosaic.TcCoe Idealize.SL.Sem
open scoped BigOperators

namespace Cert.Reference9Ideal.FfnDownRef

open Cert.Reference9Ideal Cert.Reference9Ideal.Gen

theorem res (x : FVec Ideal S4096x5632 .bf16) (w : FVec Ideal S5632x2048 .f32) (d : FVec Ideal S4096x2048 .f32) :
    ((addf d (Host.dotGeneral (F := Ideal) dot_S4096x5632_S5632x2048_S4096x2048_1_0_0_1_n_n none (extf .f32 x bitsLt_bf16_f32) w)) : FVec Ideal S4096x2048 .f32) = Cert.Kernel9Ideal.FfnDownValue.G x w d := by
  funext y
  idx_vars y
  pointwise [Cert.Kernel9Ideal.FfnDownValue.G]

end Cert.Reference9Ideal.FfnDownRef

end
-- ==== Proof.OutProjValue.lean ====
module

public import proofs.«01_k».proof.Proof.Gen.Kernel10Ideal.Value
public import Idealize.ShloMosaic.Lib.Pipeline.ValueKit
public import Idealize.ShloMosaic.Lib.Pointwise
public import Idealize.ShloMosaic.Lib.WritesUnit
public import Idealize.ShloMosaic.Lib.Claim

/-! The output projection with the residual added: what the result array holds. -/

@[expose] public section

set_option maxRecDepth 65536

noncomputable section

open Idealize.ShloMosaic Idealize.ShloMosaic.TcCoe Idealize.SL.Sem
open Idealize.ShloMosaic.Pipeline (Dat)
open scoped BigOperators

namespace Cert.Kernel10Ideal.OutProjValue

open Cert.Kernel10Ideal Cert.Kernel10Ideal.Gen

variable (m : (ℓ : Loc nD τ sig) → Buf (Elt Ideal) ℓ)

/-- Every window's block index in terms of the point's number. -/
theorem idx_val : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

theorem t_lt (t : Fin cfg0.N) : t.val < 16 := by have := t.isLt; have h : cfg0.N = 16 := rfl; omega

/-- The product with the weights, entry by entry, added to what was there. -/
def G (x : FVec Ideal S4096x2048 .bf16) (w : FVec Ideal S2048x2048 .f32) (d : FVec Ideal S4096x2048 .f32) : FVec Ideal S4096x2048 .f32 := fun i =>
  (d i + ∑ k : Fin 2048, (x (ix2 (i 0) k) * w (ix2 k (i 1)) : EReal) : EReal)

/-- The weights as the host lays them out. -/
theorem host_w (c : Dev nD) : V m c main_v0 = (truncf .bf16 (m ((c.tc : Thread nD τ).loc main_arg1) : FVec Ideal S2048x2048 .f32) bitsLt_bf16_f32 : FVec Ideal S2048x2048 .bf16) := rfl

theorem host_w_at (c : Dev nD) (k : Fin 2048) (j : Fin 2048) : V m c main_v0 (ix2 k j) = m ((c.tc : Thread nD τ).loc main_arg1) (ix2 k j) := by
  rw [host_w]
  pointwise

theorem read_x (c : Dev nD) (t : Fin cfg0.N) (a : Fin 1024) (k : Fin 2048) :
    iblk m c 0 t (ix2 a k) = m ((c.tc : Thread nD τ).loc main_arg0) (ix2 ⟨t.val / 4 * 1024 + a.val, by have := t_lt t; omega⟩ k) := by
  have := t_lt t
  blk_ext [iblk, V, idx_val t]

theorem read_w (c : Dev nD) (t : Fin cfg0.N) (k : Fin 2048) (b : Fin 512) :
    iblk m c 1 t (ix2 k b) = V m c main_v0 (ix2 k ⟨t.val % 4 * 512 + b.val, by omega⟩) := by
  have := t_lt t
  blk_ext [iblk, idx_val t]

theorem read_d (c : Dev nD) (t : Fin cfg0.N) (a : Fin 1024) (b : Fin 512) :
    iblk m c 2 t (ix2 a b) = m ((c.tc : Thread nD τ).loc main_arg2) (ix2 ⟨t.val / 4 * 1024 + a.val, by have := t_lt t; omega⟩ ⟨t.val % 4 * 512 + b.val, by omega⟩) := by
  have := t_lt t
  blk_ext [iblk, V, idx_val t]

theorem pay_at (P0 : Vec Ideal S1024x2048 .bf16) (P1 : Vec Ideal S2048x512 .bf16) (P2 : Vec Ideal S1024x512 .f32) (a : Fin 1024) (b : Fin 512) :
    k0_pay1 (F := Ideal) P0 P1 P2 (ix2 a b) = (P2 (ix2 a b) + ∑ k : Fin 2048, (P0 (ix2 a k) * P1 (ix2 k b) : EReal) : EReal) := by
  pointwise [k0_pay1]

/-- The result array holds that. -/
theorem final (c : Dev nD) : (dats m 0 c).arrAt 3 cfg0.N = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  idx_vars y
  have := t_lt t
  have e : ((View.whole main_v1).slice (win0_3.rect t)).emb (ix2 y0 y1) = ix2 ⟨t.val / 4 * 1024 + y0.val, by omega⟩ ⟨t.val % 4 * 512 + y1.val, by omega⟩ := by
    blk_ext [idx_val t]
  rw [e]
  refine (pay_at _ _ _ y0 y1).trans ?_
  refine congrArg₂ (fun a b : EReal => a + b) (read_d m c t y0 y1) (Finset.sum_congr rfl fun k _ => ?_)
  rw [read_x, read_w, host_w_at]
  rfl

end Cert.Kernel10Ideal.OutProjValue

end
-- ==== Proof.OutProjRef.lean ====
module

public import proofs.«01_k».proof.Proof.OutProjValue
public import proofs.«01_k».proof.Proof.Gen.Reference10Ideal.Run

/-! The reference of the output projection, entry by entry. -/

@[expose] public section

set_option maxRecDepth 65536

noncomputable section

open Idealize.ShloMosaic Idealize.ShloMosaic.TcCoe Idealize.SL.Sem
open scoped BigOperators

namespace Cert.Reference10Ideal.OutProjRef

open Cert.Reference10Ideal Cert.Reference10Ideal.Gen

theorem res (x : FVec Ideal S4096x2048 .bf16) (w : FVec Ideal S2048x2048 .f32) (d : FVec Ideal S4096x2048 .f32) :
    ((addf d (Host.dotGeneral (F := Ideal) dot_S4096x2048_S2048x2048_S4096x2048_1_0_0_1_n_n none (extf .f32 x bitsLt_bf16_f32) w)) : FVec Ideal S4096x2048 .f32) = Cert.Kernel10Ideal.OutProjValue.G x w d := by
  funext y
  idx_vars y
  pointwise [Cert.Kernel10Ideal.OutProjValue.G]

end Cert.Reference10Ideal.OutProjRef

end
-- ==== Proof.OutProjBwdValue.lean ====
module

public import proofs.«01_k».proof.Proof.Gen.Kernel11Ideal.Value
public import Idealize.ShloMosaic.Lib.Pipeline.ValueKit
public import Idealize.ShloMosaic.Lib.Pointwise
public import Idealize.ShloMosaic.Lib.WritesUnit
public import Idealize.ShloMosaic.Lib.Claim

/-! The gradient that flows back through the output projection: what the result array holds. -/

@[expose] public section

set_option maxRecDepth 65536

noncomputable section

open Idealize.ShloMosaic Idealize.ShloMosaic.TcCoe Idealize.SL.Sem
open Idealize.ShloMosaic.Pipeline (Dat)
open scoped BigOperators

namespace Cert.Kernel11Ideal.OutProjBwdValue

open Cert.Kernel11Ideal Cert.Kernel11Ideal.Gen

variable (m : (ℓ : Loc nD τ sig) → Buf (Elt Ideal) ℓ)

/-- Every window's block index in terms of the point's number. -/
theorem idx_val : ∀ t : Fin cfg0.N, win0_0.index t = ![t.val / 4, 0]
    ∧ win0_1.index t = ![t.val % 4, 0]
    ∧ win0_2.index t = ![t.val / 4, t.val % 4] :=
  (by decide +kernel : ∀ t : Fin grid0.N, _)

theorem t_lt (t : Fin cfg0.N) : t.val < 16 := by have := t.isLt; have h : cfg0.N = 16 := rfl; omega

/-- The product with the weights, entry by entry. -/
def G (x : FVec Ideal S4096x2048 .bf16) (w : FVec Ideal S2048x2048 .f32) : FVec Ideal S4096x2048 .bf16 := fun i =>
  ∑ k : Fin 2048, (x (ix2 (i 0) k) * w (ix2 (i 1) k) : EReal)

/-- The weights as the host lays them out. -/
theorem host_w (c : Dev nD) : V m c main_v0 = (truncf .bf16 (m ((c.tc : Thread nD τ).loc main_arg1) : FVec Ideal S2048x2048 .f32) bitsLt_bf16_f32 : FVec Ideal S2048x2048 .bf16) := rfl

theorem host_w_at (c : Dev nD) (k : Fin 2048) (j : Fin 2048) : V m c main_v0 (ix2 j k) = m ((c.tc : Thread nD τ).loc main_arg1) (ix2 j k) := by
  rw [host_w]
  pointwise

theorem read_x (c : Dev nD) (t : Fin cfg0.N) (a : Fin 1024) (k : Fin 2048) :
    iblk m c 0 t (ix2 a k) = m ((c.tc : Thread nD τ).loc main_arg0) (ix2 ⟨t.val / 4 * 1024 + a.val, by have := t_lt t; omega⟩ k) := by
  have := t_lt t
  blk_ext [iblk, V, idx_val t]

theorem read_w (c : Dev nD) (t : Fin cfg0.N) (k : Fin 2048) (b : Fin 512) :
    iblk m c 1 t (ix2 b k) = V m c main_v0 (ix2 ⟨t.val % 4 * 512 + b.val, by omega⟩ k) := by
  have := t_lt t
  blk_ext [iblk, idx_val t]

theorem pay_at (P0 : Vec Ideal S1024x2048 .bf16) (P1 : Vec Ideal S512x2048 .bf16) (a : Fin 1024) (b : Fin 512) :
    k0_pay1 (F := Ideal) P0 P1 (ix2 a b) = ∑ k : Fin 2048, (P0 (ix2 a k) * P1 (ix2 b k) : EReal) := by
  pointwise [k0_pay1]

/-- The result array holds that. -/
theorem final (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  have := t_lt t
  have e : ((View.whole main_v1).slice (win0_2.rect t)).emb (ix2 y0 y1) = ix2 ⟨t.val / 4 * 1024 + y0.val, by omega⟩ ⟨t.val % 4 * 512 + y1.val, by omega⟩ := by
    blk_ext [idx_val t]
  rw [e]
  refine (pay_at _ _ y0 y1).trans ?_
  refine Finset.sum_congr rfl fun k _ => ?_
  rw [read_x, read_w, host_w_at]
  rfl

end Cert.Kernel11Ideal.OutProjBwdValue

end
-- ==== Proof.OutProjBwdRef.lean ====
module

public import proofs.«01_k».proof.Proof.OutProjBwdValue
public import proofs.«01_k».proof.Proof.Gen.Reference11Ideal.Run

/-! The reference of the gradient through the output projection, entry by entry. -/

@[expose] public section

set_option maxRecDepth 65536

noncomputable section

open Idealize.ShloMosaic Idealize.ShloMosaic.TcCoe Idealize.SL.Sem
open scoped BigOperators

namespace Cert.Reference11Ideal.OutProjBwdRef

open Cert.Reference11Ideal Cert.Reference11Ideal.Gen

theorem res (x : FVec Ideal S4096x2048 .bf16) (w : FVec Ideal S2048x2048 .f32) :
    ((truncf .bf16 (Host.dotGeneral (F := Ideal) dot_S4096x2048_S2048x2048_S4096x2048_1_1_0_0_n_n none (extf .f32 x bitsLt_bf16_f32) w) bitsLt_bf16_f32) : FVec Ideal S4096x2048 .bf16) = Cert.Kernel11Ideal.OutProjBwdValue.G x w := by
  funext y
  idx_vars y
  pointwise [Cert.Kernel11Ideal.OutProjBwdValue.G]

end Cert.Reference11Ideal.OutProjBwdRef

end
-- ==== Proof.OutWgradValue.lean ====
module

public import proofs.«01_k».proof.Proof.Gen.Kernel12Ideal.Value
public import Idealize.ShloMosaic.Lib.Pipeline.ValueKit
public import Idealize.ShloMosaic.Lib.Pointwise
public import Idealize.ShloMosaic.Lib.WritesUnit
public import Idealize.ShloMosaic.Lib.Claim

/-! The gradient of the output projection weights: what the result array holds. -/

@[expose] public section

set_option maxRecDepth 65536

noncomputable section

open Idealize.ShloMosaic Idealize.ShloMosaic.TcCoe Idealize.SL.Sem
open Idealize.ShloMosaic.Pipeline (Dat)
open scoped BigOperators

namespace Cert.Kernel12Ideal.OutWgradValue

open Cert.Kernel12Ideal Cert.Kernel12Ideal.Gen

variable (m : (ℓ : Loc nD τ sig) → Buf (Elt Ideal) ℓ)

/-- Every window's block index in terms of the point's number. -/
theorem idx_val : ∀ t : Fin cfg0.N, win0_0.index t = ![t.val % 2, t.val / 4]
    ∧ win0_1.index t = ![t.val % 2, t.val / 2 % 2]
    ∧ win0_2.index t = ![t.val / 4, t.val / 2 % 2] :=
  (by decide +kernel : ∀ t : Fin grid0.N, _)

theorem t_lt (t : Fin cfg0.N) : t.val < 8 := by have := t.isLt; have h : cfg0.N = 8 := rfl; omega

/-- The gradient of the weights: the sum over every position of one factor times the other. -/
def G (x : FVec Ideal S4096x2048 .bf16) (z : FVec Ideal S4096x2048 .bf16) : FVec Ideal S2048x2048 .bf16 := fun i =>
  ∑ k : Fin 4096, (x (ix2 k (i 0)) * z (ix2 k (i 1)) : EReal)

theorem read_x (c : Dev nD) (t : Fin cfg0.N) (k : Fin 2048) (a : Fin 1024) :
    iblk m c 0 t (ix2 k a) = m ((c.tc : Thread nD τ).loc main_arg0) (ix2 ⟨t.val % 2 * 2048 + k.val, by omega⟩ ⟨t.val / 4 * 1024 + a.val, by have := t_lt t; omega⟩) := by
  have := t_lt t
  blk_ext [iblk, V, idx_val t]

theorem read_z (c : Dev nD) (t : Fin cfg0.N) (k : Fin 2048) (b : Fin 1024) :
    iblk m c 1 t (ix2 k b) = m ((c.tc : Thread nD τ).loc main_arg1) (ix2 ⟨t.val % 2 * 2048 + k.val, by omega⟩ ⟨t.val / 2 % 2 * 1024 + b.val, by omega⟩) := by
  have := t_lt t
  blk_ext [iblk, V, idx_val t]

/-- The part of the sum that one block of positions gives. -/
def part (P0 : Vec Ideal S2048x1024 .bf16) (P1 : Vec Ideal S2048x1024 .bf16) (a : Fin 1024) (b : Fin 1024) : EReal :=
  ∑ k : Fin 2048, (P0 (ix2 k a) * P1 (ix2 k b) : EReal)

theorem pay2_at (P0 : Vec Ideal S2048x1024 .bf16) (P1 : Vec Ideal S2048x1024 .bf16) (a : Fin 1024) (b : Fin 1024) :
    k0_pay2 (F := Ideal) P0 P1 (ix2 a b) = part P0 P1 a b := by
  pointwise [k0_pay2, k0_pay1, part]

theorem pay3_at (P0 : Vec Ideal S2048x1024 .bf16) (P1 : Vec Ideal S2048x1024 .bf16) (P2 : Vec Ideal S1024x1024 .f32) (a : Fin 1024) (b : Fin 1024) :
    k0_pay3 (F := Ideal) P0 P1 P2 (ix2 a b) = (P2 (ix2 a b) + part P0 P1 a b : EReal) := by
  pointwise [k0_pay3, k0_pay1, part]

/-- A sum over every position is the sum over the first half plus the sum over the second. -/
theorem sum_halves (f : Fin 4096 → EReal) : ∑ k : Fin 4096, f k
    = (∑ k : Fin 2048, f ⟨0 * 2048 + k.val, by omega⟩) + ∑ k : Fin 2048, f ⟨1 * 2048 + k.val, by omega⟩ := by
  refine (Fin.sum_univ_add (a := 2048) (b := 2048) f).trans (congrArg₂ (fun a b : EReal => a + b) ?_ ?_)
  · exact Finset.sum_congr rfl fun k _ => congrArg f (Fin.ext (by simp))
  · exact Finset.sum_congr rfl fun k _ => congrArg f (Fin.ext (by simp [add_comm]))

/-- The first half's point leaves its part of the sum in the scratch. -/
theorem scratch_at (c : Dev nD) (t : Fin cfg0.N) (h0 : t.val % 2 = 0) (a : Fin 1024) (b : Fin 1024) :
    (outsAt0 m c t.val t.isLt).2 (ix2 a b) = part (iblk m c 0 t) (iblk m c 1 t) a b := by
  rw [outsAt0_A m c t h0 (by omega)]
  unfold sout0_A_0
  frame_out
  exact pay2_at _ _ a b

/-- The second half's point adds its part to what the scratch held. -/
theorem out_at (c : Dev nD) (n : ℕ) (hn : n + 1 < cfg0.N) (h1 : (n + 1) % 2 = 1) (a : Fin 1024) (b : Fin 1024) :
    (outsAt0 m c (n + 1) hn).1 (ix2 a b) = ((outsAt0 m c n (Nat.lt_of_succ_lt hn)).2 (ix2 a b)
      + part (iblk m c 0 ⟨n + 1, hn⟩) (iblk m c 1 ⟨n + 1, hn⟩) a b : EReal) := by
  rw [outsAt0_B m c ⟨n + 1, hn⟩ (by simp only; omega) h1]
  unfold out0_B_2
  frame_out
  refine (congrArg (fun z => k0_pay3 (F := Ideal) (iblk m c 0 ⟨n + 1, hn⟩) (iblk m c 1 ⟨n + 1, hn⟩) z (ix2 a b)) (Memref.IsWhole.read_unread (Memref.isWhole_whole _) _)).trans ?_
  exact pay3_at _ _ _ a b

/-- The result array holds the sum. -/
theorem final (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have ht := t_lt t
  have hm : t.val % 2 = 1 := (flush0_2 t).mp hf
  have e : ((View.whole main_v0).slice (win0_2.rect t)).emb (ix2 y0 y1) = ix2 ⟨t.val / 4 * 1024 + y0.val, by omega⟩ ⟨t.val / 2 % 2 * 1024 + y1.val, by omega⟩ := by
    blk_ext [idx_val t]
  rw [e]
  obtain ⟨n, hn⟩ := t
  cases n with
  | zero => exact absurd hm (by simp)
  | succ n =>
    simp only at hm ht ⊢
    refine (out_at m c n hn hm y0 y1).trans ?_
    rw [scratch_at m c ⟨n, Nat.lt_of_succ_lt hn⟩ (by simp only; omega) y0 y1]
    refine Eq.trans ?_ (sum_halves _).symm
    have e1 : n % 2 = 0 := by omega
    have e2 : (n + 1) % 2 = 1 := hm
    have e3 : n / 4 = (n + 1) / 4 := by omega
    have e4 : n / 2 % 2 = (n + 1) / 2 % 2 := by omega
    refine congrArg₂ (fun a b : EReal => a + b) (Finset.sum_congr rfl fun k _ => ?_) (Finset.sum_congr rfl fun k _ => ?_)
    · rw [read_x, read_z]
      simp only [e1, e3, e4]
      rfl
    · rw [read_x, read_z]
      simp only [e2]
      rfl

end Cert.Kernel12Ideal.OutWgradValue

end
-- ==== Proof.OutWgradRef.lean ====
module

public import proofs.«01_k».proof.Proof.OutWgradValue
public import proofs.«01_k».proof.Proof.Gen.Reference12Ideal.Run

/-! The reference of the gradient of the output projection weights, entry by entry. -/

@[expose] public section

set_option maxRecDepth 65536

noncomputable section

open Idealize.ShloMosaic Idealize.ShloMosaic.TcCoe Idealize.SL.Sem
open scoped BigOperators

namespace Cert.Reference12Ideal.OutWgradRef

open Cert.Reference12Ideal Cert.Reference12Ideal.Gen

theorem res (x : FVec Ideal S4096x2048 .bf16) (z : FVec Ideal S4096x2048 .bf16) :
    (truncf .bf16 (transpose S2048x2048 [1, 0] (Host.dotGeneral (F := Ideal) dot_S4096x2048_S4096x2048_S2048x2048_0_0_1_1_n_n none (extf .f32 z bitsLt_bf16_f32) (extf .f32 x bitsLt_bf16_f32)) transposes_S2048x2048_S2048x2048_1_0) bitsLt_bf16_f32 : FVec Ideal S2048x2048 .bf16)
      = Cert.Kernel12Ideal.OutWgradValue.G x z := by
  funext y
  idx_vars y
  pointwise [Cert.Kernel12Ideal.OutWgradValue.G]
  exact Finset.sum_congr rfl fun k _ => mul_comm _ _

end Cert.Reference12Ideal.OutWgradRef

end
-- ==== Proof.InProjBwdValue.lean ====
module

public import proofs.«01_k».proof.Proof.Gen.Kernel13Ideal.Value
public import Idealize.ShloMosaic.Lib.Pipeline.ValueKit
public import Idealize.ShloMosaic.Lib.Pointwise
public import Idealize.ShloMosaic.Lib.WritesUnit
public import Idealize.ShloMosaic.Lib.Claim

/-! The gradient that flows back through the input projection: what the result array holds. -/

@[expose] public section

set_option maxRecDepth 65536

noncomputable section

open Idealize.ShloMosaic Idealize.ShloMosaic.TcCoe Idealize.SL.Sem
open Idealize.ShloMosaic.Pipeline (Dat)
open scoped BigOperators

namespace Cert.Kernel13Ideal.InProjBwdValue

open Cert.Kernel13Ideal Cert.Kernel13Ideal.Gen

variable (m : (ℓ : Loc nD τ sig) → Buf (Elt Ideal) ℓ)

/-- Every window's block index in terms of the point's number. -/
theorem idx_val : ∀ t : Fin cfg0.N, win0_0.index t = ![t.val / 4, 0]
    ∧ win0_1.index t = ![0, t.val % 4]
    ∧ win0_2.index t = ![t.val / 4, t.val % 4] :=
  (by decide +kernel : ∀ t : Fin grid0.N, _)

theorem t_lt (t : Fin cfg0.N) : t.val < 16 := by have := t.isLt; have h : cfg0.N = 16 := rfl; omega

/-- The product with the weights, entry by entry. -/
def G (x : FVec Ideal S4096x3584 .bf16) (w : FVec Ideal S2048x3584 .f32) : FVec Ideal S4096x2048 .bf16 := fun i =>
  ∑ k : Fin 3584, (x (ix2 (i 0) k) * w (ix2 (i 1) k) : EReal)

/-- The weights as the host lays them out. -/
theorem host_w (c : Dev nD) : V m c main_v1 = (truncf .bf16 (transpose S3584x2048 [1, 0] (m ((c.tc : Thread nD τ).loc main_arg1) : FVec Ideal S2048x3584 .f32) transposes_S2048x3584_S3584x2048_1_0) bitsLt_bf16_f32 : FVec Ideal S3584x2048 .bf16) := rfl

theorem host_w_at (c : Dev nD) (k : Fin 3584) (j : Fin 2048) : V m c main_v1 (ix2 k j) = m ((c.tc : Thread nD τ).loc main_arg1) (ix2 j k) := by
  rw [host_w]
  pointwise

theorem read_x (c : Dev nD) (t : Fin cfg0.N) (a : Fin 1024) (k : Fin 3584) :
    iblk m c 0 t (ix2 a k) = m ((c.tc : Thread nD τ).loc main_arg0) (ix2 ⟨t.val / 4 * 1024 + a.val, by have := t_lt t; omega⟩ k) := by
  have := t_lt t
  blk_ext [iblk, V, idx_val t]

theorem read_w (c : Dev nD) (t : Fin cfg0.N) (k : Fin 3584) (b : Fin 512) :
    iblk m c 1 t (ix2 k b) = V m c main_v1 (ix2 k ⟨t.val % 4 * 512 + b.val, by omega⟩) := by
  have := t_lt t
  blk_ext [iblk, idx_val t]

theorem pay_at (P0 : Vec Ideal S1024x3584 .bf16) (P1 : Vec Ideal S3584x512 .bf16) (a : Fin 1024) (b : Fin 512) :
    k0_pay1 (F := Ideal) P0 P1 (ix2 a b) = ∑ k : Fin 3584, (P0 (ix2 a k) * P1 (ix2 k b) : EReal) := by
  pointwise [k0_pay1]

/-- The result array holds that. -/
theorem final (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  have := t_lt t
  have e : ((View.whole main_v2).slice (win0_2.rect t)).emb (ix2 y0 y1) = ix2 ⟨t.val / 4 * 1024 + y0.val, by omega⟩ ⟨t.val % 4 * 512 + y1.val, by omega⟩ := by
    blk_ext [idx_val t]
  rw [e]
  refine (pay_at _ _ y0 y1).trans ?_
  refine Finset.sum_congr rfl fun k _ => ?_
  rw [read_x, read_w, host_w_at]
  rfl

end Cert.Kernel13Ideal.InProjBwdValue

end
-- ==== Proof.InProjBwdRef.lean ====
module

public import proofs.«01_k».proof.Proof.InProjBwdValue
public import proofs.«01_k».proof.Proof.Gen.Reference13Ideal.Run

/-! The reference of the gradient through the input projection, entry by entry. -/

@[expose] public section

set_option maxRecDepth 65536

noncomputable section

open Idealize.ShloMosaic Idealize.ShloMosaic.TcCoe Idealize.SL.Sem
open scoped BigOperators

namespace Cert.Reference13Ideal.InProjBwdRef

open Cert.Reference13Ideal Cert.Reference13Ideal.Gen

theorem res (x : FVec Ideal S4096x3584 .bf16) (w : FVec Ideal S2048x3584 .f32) :
    ((truncf .bf16 (Host.dotGeneral (F := Ideal) dot_S4096x3584_S2048x3584_S4096x2048_1_1_0_0_n_n none (extf .f32 x bitsLt_bf16_f32) w) bitsLt_bf16_f32) : FVec Ideal S4096x2048 .bf16) = Cert.Kernel13Ideal.InProjBwdValue.G x w := by
  funext y
  idx_vars y
  pointwise [Cert.Kernel13Ideal.InProjBwdValue.G]

end Cert.Reference13Ideal.InProjBwdRef

end
-- ==== Proof.InWgradValue.lean ====
module

public import proofs.«01_k».proof.Proof.Gen.Kernel14Ideal.Value
public import Idealize.ShloMosaic.Lib.Pipeline.ValueKit
public import Idealize.ShloMosaic.Lib.Pointwise
public import Idealize.ShloMosaic.Lib.WritesUnit
public import Idealize.ShloMosaic.Lib.Claim

/-! The gradient of the input projection weights: what the result array holds. -/

@[expose] public section

set_option maxRecDepth 65536

noncomputable section

open Idealize.ShloMosaic Idealize.ShloMosaic.TcCoe Idealize.SL.Sem
open Idealize.ShloMosaic.Pipeline (Dat)
open scoped BigOperators

namespace Cert.Kernel14Ideal.InWgradValue

open Cert.Kernel14Ideal Cert.Kernel14Ideal.Gen

variable (m : (ℓ : Loc nD τ sig) → Buf (Elt Ideal) ℓ)

/-- Every window's block index in terms of the point's number. -/
theorem idx_val : ∀ t : Fin cfg0.N, win0_0.index t = ![t.val % 2, t.val / 4]
    ∧ win0_1.index t = ![t.val % 2, t.val / 2 % 2]
    ∧ win0_2.index t = ![t.val / 4, t.val / 2 % 2] :=
  (by decide +kernel : ∀ t : Fin grid0.N, _)

theorem t_lt (t : Fin cfg0.N) : t.val < 16 := by have := t.isLt; have h : cfg0.N = 16 := rfl; omega

/-- The gradient of the weights: the sum over every position of one factor times the other. -/
def G (x : FVec Ideal S4096x3584 .bf16) (z : FVec Ideal S4096x2048 .bf16) : FVec Ideal S3584x2048 .bf16 := fun i =>
  ∑ k : Fin 4096, (x (ix2 k (i 0)) * z (ix2 k (i 1)) : EReal)

theorem read_x (c : Dev nD) (t : Fin cfg0.N) (k : Fin 2048) (a : Fin 896) :
    iblk m c 0 t (ix2 k a) = m ((c.tc : Thread nD τ).loc main_arg0) (ix2 ⟨t.val % 2 * 2048 + k.val, by omega⟩ ⟨t.val / 4 * 896 + a.val, by have := t_lt t; omega⟩) := by
  have := t_lt t
  blk_ext [iblk, V, idx_val t]

theorem read_z (c : Dev nD) (t : Fin cfg0.N) (k : Fin 2048) (b : Fin 1024) :
    iblk m c 1 t (ix2 k b) = m ((c.tc : Thread nD τ).loc main_arg1) (ix2 ⟨t.val % 2 * 2048 + k.val, by omega⟩ ⟨t.val / 2 % 2 * 1024 + b.val, by omega⟩) := by
  have := t_lt t
  blk_ext [iblk, V, idx_val t]

/-- The part of the sum that one block of positions gives. -/
def part (P0 : Vec Ideal S2048x896 .bf16) (P1 : Vec Ideal S2048x1024 .bf16) (a : Fin 896) (b : Fin 1024) : EReal :=
  ∑ k : Fin 2048, (P0 (ix2 k a) * P1 (ix2 k b) : EReal)

theorem pay2_at (P0 : Vec Ideal S2048x896 .bf16) (P1 : Vec Ideal S2048x1024 .bf16) (a : Fin 896) (b : Fin 1024) :
    k0_pay2 (F := Ideal) P0 P1 (ix2 a b) = part P0 P1 a b := by
  pointwise [k0_pay2, k0_pay1, part]

theorem pay3_at (P0 : Vec Ideal S2048x896 .bf16) (P1 : Vec Ideal S2048x1024 .bf16) (P2 : Vec Ideal S896x1024 .f32) (a : Fin 896) (b : Fin 1024) :
    k0_pay3 (F := Ideal) P0 P1 P2 (ix2 a b) = (P2 (ix2 a b) + part P0 P1 a b : EReal) := by
  pointwise [k0_pay3, k0_pay1, part]

/-- A sum over every position is the sum over the first half plus the sum over the second. -/
theorem sum_halves (f : Fin 4096 → EReal) : ∑ k : Fin 4096, f k
    = (∑ k : Fin 2048, f ⟨0 * 2048 + k.val, by omega⟩) + ∑ k : Fin 2048, f ⟨1 * 2048 + k.val, by omega⟩ := by
  refine (Fin.sum_univ_add (a := 2048) (b := 2048) f).trans (congrArg₂ (fun a b : EReal => a + b) ?_ ?_)
  · exact Finset.sum_congr rfl fun k _ => congrArg f (Fin.ext (by simp))
  · exact Finset.sum_congr rfl fun k _ => congrArg f (Fin.ext (by simp [add_comm]))

/-- The first half's point leaves its part of the sum in the scratch. -/
theorem scratch_at (c : Dev nD) (t : Fin cfg0.N) (h0 : t.val % 2 = 0) (a : Fin 896) (b : Fin 1024) :
    (outsAt0 m c t.val t.isLt).2 (ix2 a b) = part (iblk m c 0 t) (iblk m c 1 t) a b := by
  rw [outsAt0_A m c t h0 (by omega)]
  unfold sout0_A_0
  frame_out
  exact pay2_at _ _ a b

/-- The second half's point adds its part to what the scratch held. -/
theorem out_at (c : Dev nD) (n : ℕ) (hn : n + 1 < cfg0.N) (h1 : (n + 1) % 2 = 1) (a : Fin 896) (b : Fin 1024) :
    (outsAt0 m c (n + 1) hn).1 (ix2 a b) = ((outsAt0 m c n (Nat.lt_of_succ_lt hn)).2 (ix2 a b)
      + part (iblk m c 0 ⟨n + 1, hn⟩) (iblk m c 1 ⟨n + 1, hn⟩) a b : EReal) := by
  rw [outsAt0_B m c ⟨n + 1, hn⟩ (by simp only; omega) h1]
  unfold out0_B_2
  frame_out
  refine (congrArg (fun z => k0_pay3 (F := Ideal) (iblk m c 0 ⟨n + 1, hn⟩) (iblk m c 1 ⟨n + 1, hn⟩) z (ix2 a b)) (Memref.IsWhole.read_unread (Memref.isWhole_whole _) _)).trans ?_
  exact pay3_at _ _ _ a b

/-- The result array holds the sum. -/
theorem final (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have ht := t_lt t
  have hm : t.val % 2 = 1 := (flush0_2 t).mp hf
  have e : ((View.whole main_v0).slice (win0_2.rect t)).emb (ix2 y0 y1) = ix2 ⟨t.val / 4 * 896 + y0.val, by omega⟩ ⟨t.val / 2 % 2 * 1024 + y1.val, by omega⟩ := by
    blk_ext [idx_val t]
  rw [e]
  obtain ⟨n, hn⟩ := t
  cases n with
  | zero => exact absurd hm (by simp)
  | succ n =>
    simp only at hm ht ⊢
    refine (out_at m c n hn hm y0 y1).trans ?_
    rw [scratch_at m c ⟨n, Nat.lt_of_succ_lt hn⟩ (by simp only; omega) y0 y1]
    refine Eq.trans ?_ (sum_halves _).symm
    have e1 : n % 2 = 0 := by omega
    have e2 : (n + 1) % 2 = 1 := hm
    have e3 : n / 4 = (n + 1) / 4 := by omega
    have e4 : n / 2 % 2 = (n + 1) / 2 % 2 := by omega
    refine congrArg₂ (fun a b : EReal => a + b) (Finset.sum_congr rfl fun k _ => ?_) (Finset.sum_congr rfl fun k _ => ?_)
    · rw [read_x, read_z]
      simp only [e1, e3, e4]
      rfl
    · rw [read_x, read_z]
      simp only [e2]
      rfl

end Cert.Kernel14Ideal.InWgradValue

end
-- ==== Proof.InWgradRef.lean ====
module

public import proofs.«01_k».proof.Proof.InWgradValue
public import proofs.«01_k».proof.Proof.Gen.Reference14Ideal.Run

/-! The reference of the gradient of the input projection weights, entry by entry. -/

@[expose] public section

set_option maxRecDepth 65536

noncomputable section

open Idealize.ShloMosaic Idealize.ShloMosaic.TcCoe Idealize.SL.Sem
open scoped BigOperators

namespace Cert.Reference14Ideal.InWgradRef

open Cert.Reference14Ideal Cert.Reference14Ideal.Gen

theorem res (x : FVec Ideal S4096x3584 .bf16) (z : FVec Ideal S4096x2048 .bf16) :
    (truncf .bf16 (transpose S3584x2048 [1, 0] (transpose S2048x3584 [1, 0] (Host.dotGeneral (F := Ideal) dot_S4096x3584_S4096x2048_S3584x2048_0_0_1_1_n_n none (extf .f32 x bitsLt_bf16_f32) (extf .f32 z bitsLt_bf16_f32)) transposes_S3584x2048_S2048x3584_1_0) transposes_S2048x3584_S3584x2048_1_0) bitsLt_bf16_f32 : FVec Ideal S3584x2048 .bf16)
      = Cert.Kernel14Ideal.InWgradValue.G x z := by
  funext y
  idx_vars y
  pointwise [Cert.Kernel14Ideal.InWgradValue.G]

end Cert.Reference14Ideal.InWgradRef

end
-- ==== Proof.lean ====
/- The proof of the claims. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.FinishRef
public import proofs.«01_k».proof.Proof.Gen.Kernel
public import proofs.«01_k».proof.Proof.AttnFrameWords
public import proofs.«01_k».proof.Proof.Gen.KernelIdeal
public import proofs.«01_k».proof.Proof.AttnRun
public import proofs.«01_k».proof.Proof.AttnQ
public import proofs.«01_k».proof.Proof.AttnAcc
public import proofs.«01_k».proof.Proof.AttnS
public import proofs.«01_k».proof.Proof.AttnPre
public import proofs.«01_k».proof.Proof.AttnRefRun
public import proofs.«01_k».proof.Proof.Gen.ReferenceIdeal
public import proofs.«01_k».proof.Proof.Gen.ReferenceIdeal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.FfnDownBwdRef
public import proofs.«01_k».proof.Proof.DownWgradRef
public import proofs.«01_k».proof.Proof.GateRef
public import proofs.«01_k».proof.Proof.UpRef
public import proofs.«01_k».proof.Proof.GateWgradRef
public import proofs.«01_k».proof.Proof.FfnUpRef
public import proofs.«01_k».proof.Proof.FfnDownRef
public import proofs.«01_k».proof.Proof.OutProjRef
public import proofs.«01_k».proof.Proof.OutProjBwdRef
public import proofs.«01_k».proof.Proof.OutWgradRef
public import proofs.«01_k».proof.Proof.InProjBwdRef
public import proofs.«01_k».proof.Proof.InWgradRef
public import Idealize.ShloMosaic.Adequacy
public import Idealize.ShloMosaic.Init

@[expose] public section

noncomputable section

namespace Cert.Proof

open Idealize.ShloMosaic Idealize.SL.Sem

/-- The call that finishes the key and value gradients computes its reference's two results. -/
theorem finish : @Cert.algebraic_Kernel2Ideal_Reference2Ideal Cert.Kernel2Ideal.Gen.facts Cert.Reference2Ideal.Gen.facts := by
  intro m ρ m' ρ' _ hag
  refine ⟨fun c => Cert.Kernel2Ideal.FinishValue.G5 (m ((c.tc : Thread _ _).loc Cert.Kernel2Ideal.main_arg0)),
    fun c => Cert.Kernel2Ideal.FinishValue.G6 (m ((c.tc : Thread _ _).loc Cert.Kernel2Ideal.main_arg1)), ?_, ?_⟩
  · exact (θ_run _ _ _).mono (fun _ h c => ⟨(h c).1.trans (Cert.Kernel2Ideal.FinishValue.final_5 m c),
      (h c).2.1.trans (Cert.Kernel2Ideal.FinishValue.final_6 m c), (h c).2.2⟩) (Cert.Kernel2Ideal.Value.run_blocks m ρ)
  · exact (θ_run _ _ _).mono (fun _ h c => ⟨(h c).1.trans ((Cert.Reference2Ideal.FinishRef.res_0 m' c).trans (by rw [(hag c).1])),
      (h c).2.1.trans ((Cert.Reference2Ideal.FinishRef.res_1 _).trans (by rw [(hag c).2])), (h c).2.2⟩)
      (Cert.Reference2Ideal.Value.run m' ρ')

/-- The attention's reference runs, its arguments unchanged. -/
theorem ref_frame : @Cert.quiescent_ReferenceIdeal Cert.ReferenceIdeal.Gen.facts := by
  intro m ρ _
  exact (θ_run _ _ _).mono (fun r h => ⟨fun c => (h c).2.2.2.2, Idealize.ShloMosaic.sem_eq_zero_of_no_sems (by decide) r.2⟩)
    (Cert.ReferenceIdeal.Value.run m ρ)

open Cert.Attn in
/-- The attention backward call computes its reference's four results wherever the entries read are real numbers. -/
theorem attention : @Cert.algebraic_KernelIdeal_ReferenceIdeal_pre_finite Cert.KernelIdeal.Gen.facts Cert.ReferenceIdeal.Gen.facts preFacts := by
  intro m ρ m' ρ' hp hag
  have H : ∀ c, Real3 (Cert.KernelIdeal.AttnHost.Z m c) (Cert.KernelIdeal.AttnHost.DM m c) (Cert.KernelIdeal.AttnHost.SK m c) :=
    fun c => real3_of_pre _ _ _ (hp c).1 (hp c).2.1 (hp c).2.2
  have e0 : ∀ c, Cert.ReferenceIdeal.AttnRef.Z (StableHlo.launchContents m' c) = Cert.KernelIdeal.AttnHost.Z m c := fun c => (hag c).1
  have e1 : ∀ c, Cert.ReferenceIdeal.AttnRef.DM (StableHlo.launchContents m' c) = Cert.KernelIdeal.AttnHost.DM m c := fun c => (hag c).2.1
  have e2 : ∀ c, Cert.ReferenceIdeal.AttnRef.SK (StableHlo.launchContents m' c) = Cert.KernelIdeal.AttnHost.SK m c := fun c => (hag c).2.2
  have R := Cert.ReferenceIdeal.AttnRef.run_res m' ρ' (fun c => by rw [e0, e1, e2]; exact H c)
  simp only [e0, e1, e2] at R
  refine ⟨fun c => RQ (Cert.KernelIdeal.AttnHost.Z m c) (Cert.KernelIdeal.AttnHost.DM m c) (Cert.KernelIdeal.AttnHost.SK m c),
    fun c => RK (Cert.KernelIdeal.AttnHost.Z m c) (Cert.KernelIdeal.AttnHost.DM m c) (Cert.KernelIdeal.AttnHost.SK m c),
    fun c => RV (Cert.KernelIdeal.AttnHost.Z m c) (Cert.KernelIdeal.AttnHost.DM m c) (Cert.KernelIdeal.AttnHost.SK m c),
    fun c => RS (Cert.KernelIdeal.AttnHost.Z m c) (Cert.KernelIdeal.AttnHost.DM m c) (Cert.KernelIdeal.AttnHost.SK m c), ?_, R⟩
  exact (θ_run _ _ _).mono (fun _ h c => ⟨(h c).1.trans (Cert.KernelIdeal.AttnBlocks.final12 (H c)),
      (h c).2.1.trans (Cert.KernelIdeal.AttnBlocks.final13 (H c)), (h c).2.2.1.trans (Cert.KernelIdeal.AttnBlocks.final14 (H c)),
      (h c).2.2.2.1.trans (Cert.KernelIdeal.AttnBlocks.final15 (H c)), (h c).2.2.2.2⟩) (Cert.KernelIdeal.Value.run_blocks m ρ)

/-- This reference runs, its arguments unchanged. -/
theorem ref_frame2 : @Cert.quiescent_Reference2Ideal Cert.Reference2Ideal.Gen.facts := by
  intro m ρ _
  exact (θ_run _ _ _).mono (fun r h => ⟨fun c => (h c).2.2, Idealize.ShloMosaic.sem_eq_zero_of_no_sems (by decide) r.2⟩)
    (Cert.Reference2Ideal.Value.run m ρ)

/-- The call that computes the gradient of the down weights computes its reference's result. -/
theorem product4 : @Cert.algebraic_Kernel4Ideal_Reference4Ideal Cert.Kernel4Ideal.Gen.facts Cert.Reference4Ideal.Gen.facts := by
  intro m ρ m' ρ' _ hag
  refine ⟨fun c => Cert.Kernel4Ideal.DownWgradValue.G (m ((c.tc : Thread _ _).loc Cert.Kernel4Ideal.main_arg0)) (m ((c.tc : Thread _ _).loc Cert.Kernel4Ideal.main_arg1)), ?_, ?_⟩
  · exact (θ_run _ _ _).mono (fun _ h c => ⟨(h c).1.trans (Cert.Kernel4Ideal.DownWgradValue.final m c), (h c).2⟩) (Cert.Kernel4Ideal.Value.run_blocks m ρ)
  · exact (θ_run _ _ _).mono (fun _ h c => ⟨(h c).1.trans ((Cert.Reference4Ideal.DownWgradRef.res _ _).trans (by rw [(hag c).1, (hag c).2])), (h c).2⟩)
      (Cert.Reference4Ideal.Value.run m' ρ')

/-- This reference runs, its arguments unchanged. -/
theorem ref_frame4 : @Cert.quiescent_Reference4Ideal Cert.Reference4Ideal.Gen.facts := by
  intro m ρ _
  exact (θ_run _ _ _).mono (fun r h => ⟨fun c => (h c).2, Idealize.ShloMosaic.sem_eq_zero_of_no_sems (by decide) r.2⟩)
    (Cert.Reference4Ideal.Value.run m ρ)

/-- The call that computes the gradient of the gate to its input computes its reference's result. -/
theorem product5 : @Cert.algebraic_Kernel5Ideal_Reference5Ideal Cert.Kernel5Ideal.Gen.facts Cert.Reference5Ideal.Gen.facts := by
  intro m ρ m' ρ' _ hag
  refine ⟨fun c => Cert.Kernel5Ideal.GateValue.G (m ((c.tc : Thread _ _).loc Cert.Kernel5Ideal.main_arg0)) (m ((c.tc : Thread _ _).loc Cert.Kernel5Ideal.main_arg1)), ?_, ?_⟩
  · exact (θ_run _ _ _).mono (fun _ h c => ⟨(h c).1.trans (Cert.Kernel5Ideal.GateValue.final m c), (h c).2⟩) (Cert.Kernel5Ideal.Value.run_blocks m ρ)
  · exact (θ_run _ _ _).mono (fun _ h c => ⟨(h c).1.trans ((Cert.Reference5Ideal.GateRef.res _ _).trans (by rw [(hag c).1, (hag c).2])), (h c).2⟩)
      (Cert.Reference5Ideal.Value.run m' ρ')

/-- This reference runs, its arguments unchanged. -/
theorem ref_frame5 : @Cert.quiescent_Reference5Ideal Cert.Reference5Ideal.Gen.facts := by
  intro m ρ _
  exact (θ_run _ _ _).mono (fun r h => ⟨fun c => (h c).2, Idealize.ShloMosaic.sem_eq_zero_of_no_sems (by decide) r.2⟩)
    (Cert.Reference5Ideal.Value.run m ρ)

/-- The call that computes the gradient of the up product, added to the gate's computes its reference's result. -/
theorem product6 : @Cert.algebraic_Kernel6Ideal_Reference6Ideal Cert.Kernel6Ideal.Gen.facts Cert.Reference6Ideal.Gen.facts := by
  intro m ρ m' ρ' _ hag
  refine ⟨fun c => Cert.Kernel6Ideal.UpValue.G (m ((c.tc : Thread _ _).loc Cert.Kernel6Ideal.main_arg0)) (m ((c.tc : Thread _ _).loc Cert.Kernel6Ideal.main_arg1)) (m ((c.tc : Thread _ _).loc Cert.Kernel6Ideal.main_arg2)), ?_, ?_⟩
  · exact (θ_run _ _ _).mono (fun _ h c => ⟨(h c).1.trans (Cert.Kernel6Ideal.UpValue.final m c), (h c).2⟩) (Cert.Kernel6Ideal.Value.run_blocks m ρ)
  · exact (θ_run _ _ _).mono (fun _ h c => ⟨(h c).1.trans ((Cert.Reference6Ideal.UpRef.res _ _ _).trans (by rw [(hag c).1, (hag c).2.1, (hag c).2.2])), (h c).2⟩)
      (Cert.Reference6Ideal.Value.run m' ρ')

/-- This reference runs, its arguments unchanged. -/
theorem ref_frame6 : @Cert.quiescent_Reference6Ideal Cert.Reference6Ideal.Gen.facts := by
  intro m ρ _
  exact (θ_run _ _ _).mono (fun r h => ⟨fun c => (h c).2, Idealize.ShloMosaic.sem_eq_zero_of_no_sems (by decide) r.2⟩)
    (Cert.Reference6Ideal.Value.run m ρ)

/-- The call that computes the gradient of the gate weights computes its reference's result. -/
theorem product7 : @Cert.algebraic_Kernel7Ideal_Reference7Ideal Cert.Kernel7Ideal.Gen.facts Cert.Reference7Ideal.Gen.facts := by
  intro m ρ m' ρ' _ hag
  refine ⟨fun c => Cert.Kernel7Ideal.GateWgradValue.G (m ((c.tc : Thread _ _).loc Cert.Kernel7Ideal.main_arg0)) (m ((c.tc : Thread _ _).loc Cert.Kernel7Ideal.main_arg1)), ?_, ?_⟩
  · exact (θ_run _ _ _).mono (fun _ h c => ⟨(h c).1.trans (Cert.Kernel7Ideal.GateWgradValue.final m c), (h c).2⟩) (Cert.Kernel7Ideal.Value.run_blocks m ρ)
  · exact (θ_run _ _ _).mono (fun _ h c => ⟨(h c).1.trans ((Cert.Reference7Ideal.GateWgradRef.res _ _).trans (by rw [(hag c).1, (hag c).2])), (h c).2⟩)
      (Cert.Reference7Ideal.Value.run m' ρ')

/-- This reference runs, its arguments unchanged. -/
theorem ref_frame7 : @Cert.quiescent_Reference7Ideal Cert.Reference7Ideal.Gen.facts := by
  intro m ρ _
  exact (θ_run _ _ _).mono (fun r h => ⟨fun c => (h c).2, Idealize.ShloMosaic.sem_eq_zero_of_no_sems (by decide) r.2⟩)
    (Cert.Reference7Ideal.Value.run m ρ)

/-- The call that computes the down product with the residual computes its reference's result. -/
theorem product9 : @Cert.algebraic_Kernel9Ideal_Reference9Ideal Cert.Kernel9Ideal.Gen.facts Cert.Reference9Ideal.Gen.facts := by
  intro m ρ m' ρ' _ hag
  refine ⟨fun c => Cert.Kernel9Ideal.FfnDownValue.G (m ((c.tc : Thread _ _).loc Cert.Kernel9Ideal.main_arg0)) (m ((c.tc : Thread _ _).loc Cert.Kernel9Ideal.main_arg1)) (m ((c.tc : Thread _ _).loc Cert.Kernel9Ideal.main_arg2)), ?_, ?_⟩
  · exact (θ_run _ _ _).mono (fun _ h c => ⟨(h c).1.trans (Cert.Kernel9Ideal.FfnDownValue.final m c), (h c).2⟩) (Cert.Kernel9Ideal.Value.run_blocks m ρ)
  · exact (θ_run _ _ _).mono (fun _ h c => ⟨(h c).1.trans ((Cert.Reference9Ideal.FfnDownRef.res _ _ _).trans (by rw [(hag c).1, (hag c).2.1, (hag c).2.2])), (h c).2⟩)
      (Cert.Reference9Ideal.Value.run m' ρ')

/-- This reference runs, its arguments unchanged. -/
theorem ref_frame9 : @Cert.quiescent_Reference9Ideal Cert.Reference9Ideal.Gen.facts := by
  intro m ρ _
  exact (θ_run _ _ _).mono (fun r h => ⟨fun c => (h c).2, Idealize.ShloMosaic.sem_eq_zero_of_no_sems (by decide) r.2⟩)
    (Cert.Reference9Ideal.Value.run m ρ)

/-- The call that computes the output projection with the residual computes its reference's result. -/
theorem product10 : @Cert.algebraic_Kernel10Ideal_Reference10Ideal Cert.Kernel10Ideal.Gen.facts Cert.Reference10Ideal.Gen.facts := by
  intro m ρ m' ρ' _ hag
  refine ⟨fun c => Cert.Kernel10Ideal.OutProjValue.G (m ((c.tc : Thread _ _).loc Cert.Kernel10Ideal.main_arg0)) (m ((c.tc : Thread _ _).loc Cert.Kernel10Ideal.main_arg1)) (m ((c.tc : Thread _ _).loc Cert.Kernel10Ideal.main_arg2)), ?_, ?_⟩
  · exact (θ_run _ _ _).mono (fun _ h c => ⟨(h c).1.trans (Cert.Kernel10Ideal.OutProjValue.final m c), (h c).2⟩) (Cert.Kernel10Ideal.Value.run_blocks m ρ)
  · exact (θ_run _ _ _).mono (fun _ h c => ⟨(h c).1.trans ((Cert.Reference10Ideal.OutProjRef.res _ _ _).trans (by rw [(hag c).1, (hag c).2.1, (hag c).2.2])), (h c).2⟩)
      (Cert.Reference10Ideal.Value.run m' ρ')

/-- This reference runs, its arguments unchanged. -/
theorem ref_frame10 : @Cert.quiescent_Reference10Ideal Cert.Reference10Ideal.Gen.facts := by
  intro m ρ _
  exact (θ_run _ _ _).mono (fun r h => ⟨fun c => (h c).2, Idealize.ShloMosaic.sem_eq_zero_of_no_sems (by decide) r.2⟩)
    (Cert.Reference10Ideal.Value.run m ρ)

/-- The call that computes the gradient through the output projection computes its reference's result. -/
theorem product11 : @Cert.algebraic_Kernel11Ideal_Reference11Ideal Cert.Kernel11Ideal.Gen.facts Cert.Reference11Ideal.Gen.facts := by
  intro m ρ m' ρ' _ hag
  refine ⟨fun c => Cert.Kernel11Ideal.OutProjBwdValue.G (m ((c.tc : Thread _ _).loc Cert.Kernel11Ideal.main_arg0)) (m ((c.tc : Thread _ _).loc Cert.Kernel11Ideal.main_arg1)), ?_, ?_⟩
  · exact (θ_run _ _ _).mono (fun _ h c => ⟨(h c).1.trans (Cert.Kernel11Ideal.OutProjBwdValue.final m c), (h c).2⟩) (Cert.Kernel11Ideal.Value.run_blocks m ρ)
  · exact (θ_run _ _ _).mono (fun _ h c => ⟨(h c).1.trans ((Cert.Reference11Ideal.OutProjBwdRef.res _ _).trans (by rw [(hag c).1, (hag c).2])), (h c).2⟩)
      (Cert.Reference11Ideal.Value.run m' ρ')

/-- This reference runs, its arguments unchanged. -/
theorem ref_frame11 : @Cert.quiescent_Reference11Ideal Cert.Reference11Ideal.Gen.facts := by
  intro m ρ _
  exact (θ_run _ _ _).mono (fun r h => ⟨fun c => (h c).2, Idealize.ShloMosaic.sem_eq_zero_of_no_sems (by decide) r.2⟩)
    (Cert.Reference11Ideal.Value.run m ρ)

/-- The call that computes the gradient of the output projection weights computes its reference's result. -/
theorem product12 : @Cert.algebraic_Kernel12Ideal_Reference12Ideal Cert.Kernel12Ideal.Gen.facts Cert.Reference12Ideal.Gen.facts := by
  intro m ρ m' ρ' _ hag
  refine ⟨fun c => Cert.Kernel12Ideal.OutWgradValue.G (m ((c.tc : Thread _ _).loc Cert.Kernel12Ideal.main_arg0)) (m ((c.tc : Thread _ _).loc Cert.Kernel12Ideal.main_arg1)), ?_, ?_⟩
  · exact (θ_run _ _ _).mono (fun _ h c => ⟨(h c).1.trans (Cert.Kernel12Ideal.OutWgradValue.final m c), (h c).2⟩) (Cert.Kernel12Ideal.Value.run_blocks m ρ)
  · exact (θ_run _ _ _).mono (fun _ h c => ⟨(h c).1.trans ((Cert.Reference12Ideal.OutWgradRef.res _ _).trans (by rw [(hag c).1, (hag c).2])), (h c).2⟩)
      (Cert.Reference12Ideal.Value.run m' ρ')

/-- This reference runs, its arguments unchanged. -/
theorem ref_frame12 : @Cert.quiescent_Reference12Ideal Cert.Reference12Ideal.Gen.facts := by
  intro m ρ _
  exact (θ_run _ _ _).mono (fun r h => ⟨fun c => (h c).2, Idealize.ShloMosaic.sem_eq_zero_of_no_sems (by decide) r.2⟩)
    (Cert.Reference12Ideal.Value.run m ρ)

/-- The call that computes the gradient through the input projection computes its reference's result. -/
theorem product13 : @Cert.algebraic_Kernel13Ideal_Reference13Ideal Cert.Kernel13Ideal.Gen.facts Cert.Reference13Ideal.Gen.facts := by
  intro m ρ m' ρ' _ hag
  refine ⟨fun c => Cert.Kernel13Ideal.InProjBwdValue.G (m ((c.tc : Thread _ _).loc Cert.Kernel13Ideal.main_arg0)) (m ((c.tc : Thread _ _).loc Cert.Kernel13Ideal.main_arg1)), ?_, ?_⟩
  · exact (θ_run _ _ _).mono (fun _ h c => ⟨(h c).1.trans (Cert.Kernel13Ideal.InProjBwdValue.final m c), (h c).2⟩) (Cert.Kernel13Ideal.Value.run_blocks m ρ)
  · exact (θ_run _ _ _).mono (fun _ h c => ⟨(h c).1.trans ((Cert.Reference13Ideal.InProjBwdRef.res _ _).trans (by rw [(hag c).1, (hag c).2])), (h c).2⟩)
      (Cert.Reference13Ideal.Value.run m' ρ')

/-- This reference runs, its arguments unchanged. -/
theorem ref_frame13 : @Cert.quiescent_Reference13Ideal Cert.Reference13Ideal.Gen.facts := by
  intro m ρ _
  exact (θ_run _ _ _).mono (fun r h => ⟨fun c => (h c).2, Idealize.ShloMosaic.sem_eq_zero_of_no_sems (by decide) r.2⟩)
    (Cert.Reference13Ideal.Value.run m ρ)

/-- The call that computes the gradient of the input projection weights computes its reference's result. -/
theorem product14 : @Cert.algebraic_Kernel14Ideal_Reference14Ideal Cert.Kernel14Ideal.Gen.facts Cert.Reference14Ideal.Gen.facts := by
  intro m ρ m' ρ' _ hag
  refine ⟨fun c => Cert.Kernel14Ideal.InWgradValue.G (m ((c.tc : Thread _ _).loc Cert.Kernel14Ideal.main_arg0)) (m ((c.tc : Thread _ _).loc Cert.Kernel14Ideal.main_arg1)), ?_, ?_⟩
  · exact (θ_run _ _ _).mono (fun _ h c => ⟨(h c).1.trans (Cert.Kernel14Ideal.InWgradValue.final m c), (h c).2⟩) (Cert.Kernel14Ideal.Value.run_blocks m ρ)
  · exact (θ_run _ _ _).mono (fun _ h c => ⟨(h c).1.trans ((Cert.Reference14Ideal.InWgradRef.res _ _).trans (by rw [(hag c).1, (hag c).2])), (h c).2⟩)
      (Cert.Reference14Ideal.Value.run m' ρ')

/-- This reference runs, its arguments unchanged. -/
theorem ref_frame14 : @Cert.quiescent_Reference14Ideal Cert.Reference14Ideal.Gen.facts := by
  intro m ρ _
  exact (θ_run _ _ _).mono (fun r h => ⟨fun c => (h c).2, Idealize.ShloMosaic.sem_eq_zero_of_no_sems (by decide) r.2⟩)
    (Cert.Reference14Ideal.Value.run m ρ)

/-- The call that computes the gate and up products and the activation computes its reference's three results. -/
theorem ffn_up : @Cert.algebraic_Kernel8Ideal_Reference8Ideal Cert.Kernel8Ideal.Gen.facts Cert.Reference8Ideal.Gen.facts := by
  intro m ρ m' ρ' _ hag
  refine ⟨fun c => Cert.Kernel8Ideal.FfnUpValue.G (m ((c.tc : Thread _ _).loc Cert.Kernel8Ideal.main_arg0)) (m ((c.tc : Thread _ _).loc Cert.Kernel8Ideal.main_arg1)), fun c => Cert.Kernel8Ideal.FfnUpValue.G (m ((c.tc : Thread _ _).loc Cert.Kernel8Ideal.main_arg0)) (m ((c.tc : Thread _ _).loc Cert.Kernel8Ideal.main_arg2)), fun c => Cert.Kernel8Ideal.FfnUpValue.A (m ((c.tc : Thread _ _).loc Cert.Kernel8Ideal.main_arg0)) (m ((c.tc : Thread _ _).loc Cert.Kernel8Ideal.main_arg1)) (m ((c.tc : Thread _ _).loc Cert.Kernel8Ideal.main_arg2)), ?_, ?_⟩
  · exact (θ_run _ _ _).mono (fun _ h c => ⟨(h c).1.trans (Cert.Kernel8Ideal.FfnUpValue.final_3 m c), (h c).2.1.trans (Cert.Kernel8Ideal.FfnUpValue.final_4 m c),
      (h c).2.2.1.trans (Cert.Kernel8Ideal.FfnUpValue.final_5 m c), (h c).2.2.2⟩) (Cert.Kernel8Ideal.Value.run_blocks m ρ)
  · exact (θ_run _ _ _).mono (fun _ h c => ⟨(h c).1.trans ((Cert.Reference8Ideal.FfnUpRef.res _ _).trans (by rw [(hag c).1, (hag c).2.1])),
      (h c).2.1.trans ((Cert.Reference8Ideal.FfnUpRef.res _ _).trans (by rw [(hag c).1, (hag c).2.2])),
      (h c).2.2.1.trans ((Cert.Reference8Ideal.FfnUpRef.res_act _ _ _).trans (by rw [(hag c).1, (hag c).2.1, (hag c).2.2])), (h c).2.2.2⟩)
      (Cert.Reference8Ideal.Value.run m' ρ')

/-- This reference runs, its arguments unchanged. -/
theorem ref_frame8 : @Cert.quiescent_Reference8Ideal Cert.Reference8Ideal.Gen.facts := by
  intro m ρ _
  exact (θ_run _ _ _).mono (fun r h => ⟨fun c => (h c).2.2.2, Idealize.ShloMosaic.sem_eq_zero_of_no_sems (by decide) r.2⟩)
    (Cert.Reference8Ideal.Value.run m ρ)

/-- The call that computes the gradient through the down product and the activation computes its reference's two results wherever the incoming gradient, the weights and the up product are real numbers. -/
theorem ffn_down_bwd : @Cert.algebraic_Kernel3Ideal_Reference3Ideal_pre_finite3 Cert.Kernel3Ideal.Gen.facts Cert.Reference3Ideal.Gen.facts Cert.Reference3Ideal.FfnDownBwdRef.preFacts := by
  intro m ρ m' ρ' hp hag
  have R : ∀ c : Dev Cert.Kernel3Ideal.nD, Cert.Reference3Ideal.FfnDownBwdRef.Reals (m ((c.tc : Thread _ _).loc Cert.Kernel3Ideal.main_arg0)) (m ((c.tc : Thread _ _).loc Cert.Kernel3Ideal.main_arg1)) (m ((c.tc : Thread _ _).loc Cert.Kernel3Ideal.main_arg3)) := fun c => Cert.Reference3Ideal.FfnDownBwdRef.real_of_pre _ _ _ _ (hp c).1 (hp c).2.1 (hp c).2.2
  have R' : ∀ c : Dev Cert.Kernel3Ideal.nD, Cert.Reference3Ideal.FfnDownBwdRef.Reals (m' ((c.tc : Thread _ _).loc Cert.Reference3Ideal.main_arg0)) (m' ((c.tc : Thread _ _).loc Cert.Reference3Ideal.main_arg1)) (m' ((c.tc : Thread _ _).loc Cert.Reference3Ideal.main_arg3)) := fun c => by rw [(hag c).1, (hag c).2.1, (hag c).2.2.2]; exact R c
  refine ⟨fun c => Cert.Kernel3Ideal.FfnDownBwdValue.G4 (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)), fun c => Cert.Kernel3Ideal.FfnDownBwdValue.G5 (m ((c.tc : Thread _ _).loc Cert.Kernel3Ideal.main_arg0)) (m ((c.tc : Thread _ _).loc Cert.Kernel3Ideal.main_arg1)) (m ((c.tc : Thread _ _).loc Cert.Kernel3Ideal.main_arg2)), ?_, ?_⟩
  · exact (θ_run _ _ _).mono (fun _ h c => ⟨(h c).1.trans (Cert.Kernel3Ideal.FfnDownBwdValue.final_4 m c), (h c).2.1.trans (Cert.Kernel3Ideal.FfnDownBwdValue.final_5 m c), (h c).2.2⟩)
      (Cert.Kernel3Ideal.Value.run_blocks m ρ)
  · exact (θ_run _ _ _).mono (fun _ h c => ⟨(h c).1.trans ((Cert.Reference3Ideal.FfnDownBwdRef.res_0 _ _ _ _ (R' c)).trans (by rw [(hag c).1, (hag c).2.1, (hag c).2.2.1, (hag c).2.2.2])),
      (h c).2.1.trans ((Cert.Reference3Ideal.FfnDownBwdRef.res_1 _ _ _).trans (by rw [(hag c).1, (hag c).2.1, (hag c).2.2.1])), (h c).2.2⟩)
      (Cert.Reference3Ideal.Value.run m' ρ')

/-- This reference runs, its arguments unchanged. -/
theorem ref_frame3 : @Cert.quiescent_Reference3Ideal Cert.Reference3Ideal.Gen.facts := by
  intro m ρ _
  exact (θ_run _ _ _).mono (fun r h => ⟨fun c => (h c).2.2, Idealize.ShloMosaic.sem_eq_zero_of_no_sems (by decide) r.2⟩)
    (Cert.Reference3Ideal.Value.run m ρ)

theorem claim : Cert.Claim := ⟨Cert.Kernel.Gen.facts,
  Cert.KernelIdeal.Gen.facts, Cert.ReferenceIdeal.Gen.facts,
  Cert.Kernel2.Gen.facts,
  Cert.Kernel2Ideal.Gen.facts, Cert.Reference2Ideal.Gen.facts,
  Cert.Kernel3.Gen.facts,
  Cert.Kernel3Ideal.Gen.facts, Cert.Reference3Ideal.Gen.facts,
  Cert.Kernel4.Gen.facts,
  Cert.Kernel4Ideal.Gen.facts, Cert.Reference4Ideal.Gen.facts,
  Cert.Kernel5.Gen.facts,
  Cert.Kernel5Ideal.Gen.facts, Cert.Reference5Ideal.Gen.facts,
  Cert.Kernel6.Gen.facts,
  Cert.Kernel6Ideal.Gen.facts, Cert.Reference6Ideal.Gen.facts,
  Cert.Kernel7.Gen.facts,
  Cert.Kernel7Ideal.Gen.facts, Cert.Reference7Ideal.Gen.facts,
  Cert.Kernel8.Gen.facts,
  Cert.Kernel8Ideal.Gen.facts, Cert.Reference8Ideal.Gen.facts,
  Cert.Kernel9.Gen.facts,
  Cert.Kernel9Ideal.Gen.facts, Cert.Reference9Ideal.Gen.facts,
  Cert.Kernel10.Gen.facts,
  Cert.Kernel10Ideal.Gen.facts, Cert.Reference10Ideal.Gen.facts,
  Cert.Kernel11.Gen.facts,
  Cert.Kernel11Ideal.Gen.facts, Cert.Reference11Ideal.Gen.facts,
  Cert.Kernel12.Gen.facts,
  Cert.Kernel12Ideal.Gen.facts, Cert.Reference12Ideal.Gen.facts,
  Cert.Kernel13.Gen.facts,
  Cert.Kernel13Ideal.Gen.facts, Cert.Reference13Ideal.Gen.facts,
  Cert.Kernel14.Gen.facts,
  Cert.Kernel14Ideal.Gen.facts, Cert.Reference14Ideal.Gen.facts,
  Cert.Attn.preFacts, Cert.Reference3Ideal.FfnDownBwdRef.preFacts,
  fun m ρ _ => Cert.Kernel.Gen.frame m ρ, fun m ρ _ => Cert.KernelIdeal.Gen.frame m ρ, fun m ρ _ => Cert.KernelIdeal.Gen.frame m ρ,
  fun m ρ _ => ref_frame m ρ trivial, fun m ρ _ => ref_frame m ρ trivial,
  fun m ρ _ => Cert.Kernel2.Gen.frame m ρ, fun m ρ _ => Cert.Kernel2Ideal.Gen.frame m ρ,
  fun m ρ _ => ref_frame2 m ρ trivial,
  fun m ρ _ => Cert.Kernel3.Gen.frame m ρ, fun m ρ _ => Cert.Kernel3Ideal.Gen.frame m ρ,
  fun m ρ _ => Cert.Kernel3Ideal.Gen.frame m ρ,
  fun m ρ _ => ref_frame3 m ρ trivial,
  fun m ρ _ => ref_frame3 m ρ trivial,
  fun m ρ _ => Cert.Kernel4.Gen.frame m ρ, fun m ρ _ => Cert.Kernel4Ideal.Gen.frame m ρ,
  fun m ρ _ => ref_frame4 m ρ trivial,
  fun m ρ _ => Cert.Kernel5.Gen.frame m ρ, fun m ρ _ => Cert.Kernel5Ideal.Gen.frame m ρ,
  fun m ρ _ => ref_frame5 m ρ trivial,
  fun m ρ _ => Cert.Kernel6.Gen.frame m ρ, fun m ρ _ => Cert.Kernel6Ideal.Gen.frame m ρ,
  fun m ρ _ => ref_frame6 m ρ trivial,
  fun m ρ _ => Cert.Kernel7.Gen.frame m ρ, fun m ρ _ => Cert.Kernel7Ideal.Gen.frame m ρ,
  fun m ρ _ => ref_frame7 m ρ trivial,
  fun m ρ _ => Cert.Kernel8.Gen.frame m ρ, fun m ρ _ => Cert.Kernel8Ideal.Gen.frame m ρ,
  fun m ρ _ => ref_frame8 m ρ trivial,
  fun m ρ _ => Cert.Kernel9.Gen.frame m ρ, fun m ρ _ => Cert.Kernel9Ideal.Gen.frame m ρ,
  fun m ρ _ => ref_frame9 m ρ trivial,
  fun m ρ _ => Cert.Kernel10.Gen.frame m ρ, fun m ρ _ => Cert.Kernel10Ideal.Gen.frame m ρ,
  fun m ρ _ => ref_frame10 m ρ trivial,
  fun m ρ _ => Cert.Kernel11.Gen.frame m ρ, fun m ρ _ => Cert.Kernel11Ideal.Gen.frame m ρ,
  fun m ρ _ => ref_frame11 m ρ trivial,
  fun m ρ _ => Cert.Kernel12.Gen.frame m ρ, fun m ρ _ => Cert.Kernel12Ideal.Gen.frame m ρ,
  fun m ρ _ => ref_frame12 m ρ trivial,
  fun m ρ _ => Cert.Kernel13.Gen.frame m ρ, fun m ρ _ => Cert.Kernel13Ideal.Gen.frame m ρ,
  fun m ρ _ => ref_frame13 m ρ trivial,
  fun m ρ _ => Cert.Kernel14.Gen.frame m ρ, fun m ρ _ => Cert.Kernel14Ideal.Gen.frame m ρ,
  fun m ρ _ => ref_frame14 m ρ trivial,
  trivial, attention,
  trivial, finish,
  trivial, ffn_down_bwd,
  trivial, product4,
  trivial, product5,
  trivial, product6,
  trivial, product7,
  trivial, ffn_up,
  trivial, product9,
  trivial, product10,
  trivial, product11,
  trivial, product12,
  trivial, product13,
  trivial, product14⟩

end Cert.Proof

end
